-- ==== Defs.lean ====
def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1ReferenceIdeal (m : (ℓ : Loc Cert.Mlp1ReferenceIdeal.nD Cert.Mlp1ReferenceIdeal.τ Cert.Mlp1ReferenceIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2ReferenceIdeal (m : (ℓ : Loc Cert.Mlp2ReferenceIdeal.nD Cert.Mlp2ReferenceIdeal.τ Cert.Mlp2ReferenceIdeal.sig) → Buf (Elt Ideal) ℓ) : Prop :=
  True

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4))
      ∧ r.2.sem = fun _ => 0)

def quiescent_Mlp1ReferenceIdeal [hMlp1ReferenceIdeal : Cert.Mlp1ReferenceIdeal.Facts] : Prop :=
  ∀ (m : (ℓ : Loc Cert.Mlp1ReferenceIdeal.nD Cert.Mlp1ReferenceIdeal.τ Cert.Mlp1ReferenceIdeal.sig) → Buf (Elt Ideal) ℓ) (g : Dev Cert.Mlp1ReferenceIdeal.nD → PrngReg), Pre_Mlp1ReferenceIdeal m →
    θ_run (Cert.Mlp1ReferenceIdeal.defs (F := Ideal)) (onTc (τ := Cert.Mlp1ReferenceIdeal.τ) (Cert.Mlp1ReferenceIdeal.main (F := Ideal))) ⟨m, fun _ => 0, g⟩ (fun r => (∀ c : Dev Cert.Mlp1ReferenceIdeal.nD,
      r.2.mem ((c.tc : Thread Cert.Mlp1ReferenceIdeal.nD Cert.Mlp1ReferenceIdeal.τ).loc Cert.Mlp1ReferenceIdeal.main_arg0) = m ((c.tc : Thread Cert.Mlp1ReferenceIdeal.nD Cert.Mlp1ReferenceIdeal.τ).loc Cert.Mlp1ReferenceIdeal.main_arg0)
      ∧ r.2.mem ((c.tc : Thread Cert.Mlp1ReferenceIdeal.nD Cert.Mlp1ReferenceIdeal.τ).loc Cert.Mlp1ReferenceIdeal.main_arg1) = m ((c.tc : Thread Cert.Mlp1ReferenceIdeal.nD Cert.Mlp1ReferenceIdeal.τ).loc Cert.Mlp1ReferenceIdeal.main_arg1)
      ∧ r.2.mem ((c.tc : Thread Cert.Mlp1ReferenceIdeal.nD Cert.Mlp1ReferenceIdeal.τ).loc Cert.Mlp1ReferenceIdeal.main_arg2) = m ((c.tc : Thread Cert.Mlp1ReferenceIdeal.nD Cert.Mlp1ReferenceIdeal.τ).loc Cert.Mlp1ReferenceIdeal.main_arg2)
      ∧ r.2.mem ((c.tc : Thread Cert.Mlp1ReferenceIdeal.nD Cert.Mlp1ReferenceIdeal.τ).loc Cert.Mlp1ReferenceIdeal.main_arg3) = m ((c.tc : Thread Cert.Mlp1ReferenceIdeal.nD Cert.Mlp1ReferenceIdeal.τ).loc Cert.Mlp1ReferenceIdeal.main_arg3)
      ∧ r.2.mem ((c.tc : Thread Cert.Mlp1ReferenceIdeal.nD Cert.Mlp1ReferenceIdeal.τ).loc Cert.Mlp1ReferenceIdeal.main_arg4) = m ((c.tc : Thread Cert.Mlp1ReferenceIdeal.nD Cert.Mlp1ReferenceIdeal.τ).loc Cert.Mlp1ReferenceIdeal.main_arg4))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4)
      ∧ r.2.mem ((c.tc : Thread Cert.Mlp2.nD Cert.Mlp2.τ).loc Cert.Mlp2.main_arg5) = m ((c.tc : Thread Cert.Mlp2.nD Cert.Mlp2.τ).loc Cert.Mlp2.main_arg5)
      ∧ r.2.mem ((c.tc : Thread Cert.Mlp2.nD Cert.Mlp2.τ).loc Cert.Mlp2.main_arg6) = m ((c.tc : Thread Cert.Mlp2.nD Cert.Mlp2.τ).loc Cert.Mlp2.main_arg6)
      ∧ r.2.mem ((c.tc : Thread Cert.Mlp2.nD Cert.Mlp2.τ).loc Cert.Mlp2.main_arg7) = m ((c.tc : Thread Cert.Mlp2.nD Cert.Mlp2.τ).loc Cert.Mlp2.main_arg7))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
      ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5)
      ∧ r.2.mem ((c.tc : Thread Cert.Mlp2Ideal.nD Cert.Mlp2Ideal.τ).loc Cert.Mlp2Ideal.main_arg6) = m ((c.tc : Thread Cert.Mlp2Ideal.nD Cert.Mlp2Ideal.τ).loc Cert.Mlp2Ideal.main_arg6)
      ∧ r.2.mem ((c.tc : Thread Cert.Mlp2Ideal.nD Cert.Mlp2Ideal.τ).loc Cert.Mlp2Ideal.main_arg7) = m ((c.tc : Thread Cert.Mlp2Ideal.nD Cert.Mlp2Ideal.τ).loc Cert.Mlp2Ideal.main_arg7))
      ∧ r.2.sem = fun _ => 0)

def quiescent_Mlp2ReferenceIdeal [hMlp2ReferenceIdeal : Cert.Mlp2ReferenceIdeal.Facts] : Prop :=
  ∀ (m : (ℓ : Loc Cert.Mlp2ReferenceIdeal.nD Cert.Mlp2ReferenceIdeal.τ Cert.Mlp2ReferenceIdeal.sig) → Buf (Elt Ideal) ℓ) (g : Dev Cert.Mlp2ReferenceIdeal.nD → PrngReg), Pre_Mlp2ReferenceIdeal m →
    θ_run (Cert.Mlp2ReferenceIdeal.defs (F := Ideal)) (onTc (τ := Cert.Mlp2ReferenceIdeal.τ) (Cert.Mlp2ReferenceIdeal.main (F := Ideal))) ⟨m, fun _ => 0, g⟩ (fun r => (∀ c : Dev Cert.Mlp2ReferenceIdeal.nD,
      r.2.mem ((c.tc : Thread Cert.Mlp2ReferenceIdeal.nD Cert.Mlp2ReferenceIdeal.τ).loc Cert.Mlp2ReferenceIdeal.main_arg0) = m ((c.tc : Thread Cert.Mlp2ReferenceIdeal.nD Cert.Mlp2ReferenceIdeal.τ).loc Cert.Mlp2ReferenceIdeal.main_arg0)
      ∧ r.2.mem ((c.tc : Thread Cert.Mlp2ReferenceIdeal.nD Cert.Mlp2ReferenceIdeal.τ).loc Cert.Mlp2ReferenceIdeal.main_arg1) = m ((c.tc : Thread Cert.Mlp2ReferenceIdeal.nD Cert.Mlp2ReferenceIdeal.τ).loc Cert.Mlp2ReferenceIdeal.main_arg1)
      ∧ r.2.mem ((c.tc : Thread Cert.Mlp2ReferenceIdeal.nD Cert.Mlp2ReferenceIdeal.τ).loc Cert.Mlp2ReferenceIdeal.main_arg2) = m ((c.tc : Thread Cert.Mlp2ReferenceIdeal.nD Cert.Mlp2ReferenceIdeal.τ).loc Cert.Mlp2ReferenceIdeal.main_arg2)
      ∧ r.2.mem ((c.tc : Thread Cert.Mlp2ReferenceIdeal.nD Cert.Mlp2ReferenceIdeal.τ).loc Cert.Mlp2ReferenceIdeal.main_arg3) = m ((c.tc : Thread Cert.Mlp2ReferenceIdeal.nD Cert.Mlp2ReferenceIdeal.τ).loc Cert.Mlp2ReferenceIdeal.main_arg3)
      ∧ r.2.mem ((c.tc : Thread Cert.Mlp2ReferenceIdeal.nD Cert.Mlp2ReferenceIdeal.τ).loc Cert.Mlp2ReferenceIdeal.main_arg4) = m ((c.tc : Thread Cert.Mlp2ReferenceIdeal.nD Cert.Mlp2ReferenceIdeal.τ).loc Cert.Mlp2ReferenceIdeal.main_arg4)
      ∧ r.2.mem ((c.tc : Thread Cert.Mlp2ReferenceIdeal.nD Cert.Mlp2ReferenceIdeal.τ).loc Cert.Mlp2ReferenceIdeal.main_arg5) = m ((c.tc : Thread Cert.Mlp2ReferenceIdeal.nD Cert.Mlp2ReferenceIdeal.τ).loc Cert.Mlp2ReferenceIdeal.main_arg5)
      ∧ r.2.mem ((c.tc : Thread Cert.Mlp2ReferenceIdeal.nD Cert.Mlp2ReferenceIdeal.τ).loc Cert.Mlp2ReferenceIdeal.main_arg6) = m ((c.tc : Thread Cert.Mlp2ReferenceIdeal.nD Cert.Mlp2ReferenceIdeal.τ).loc Cert.Mlp2ReferenceIdeal.main_arg6)
      ∧ r.2.mem ((c.tc : Thread Cert.Mlp2ReferenceIdeal.nD Cert.Mlp2ReferenceIdeal.τ).loc Cert.Mlp2ReferenceIdeal.main_arg7) = m ((c.tc : Thread Cert.Mlp2ReferenceIdeal.nD Cert.Mlp2ReferenceIdeal.τ).loc Cert.Mlp2ReferenceIdeal.main_arg7))
      ∧ r.2.sem = fun _ => 0)

def preserves_Mlp1_Mlp1Ideal : Prop :=
  True

def algebraic_Mlp1Ideal_Mlp1ReferenceIdeal [hMlp1Ideal : Cert.Mlp1Ideal.Facts] [hMlp1ReferenceIdeal : Cert.Mlp1ReferenceIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1ReferenceIdeal.nD Cert.Mlp1ReferenceIdeal.τ Cert.Mlp1ReferenceIdeal.sig) → Buf (Elt Ideal) ℓ) (g' : Dev Cert.Mlp1ReferenceIdeal.nD → PrngReg), Pre_Mlp1Ideal m →
    (∀ c : Dev Cert.Mlp1Ideal.nD,
      m' ((c.tc : Thread Cert.Mlp1ReferenceIdeal.nD Cert.Mlp1ReferenceIdeal.τ).loc Cert.Mlp1ReferenceIdeal.main_arg0) = m ((c.tc : Thread Cert.Mlp1Ideal.nD Cert.Mlp1Ideal.τ).loc Cert.Mlp1Ideal.main_arg0)
      ∧ m' ((c.tc : Thread Cert.Mlp1ReferenceIdeal.nD Cert.Mlp1ReferenceIdeal.τ).loc Cert.Mlp1ReferenceIdeal.main_arg1) = m ((c.tc : Thread Cert.Mlp1Ideal.nD Cert.Mlp1Ideal.τ).loc Cert.Mlp1Ideal.main_arg1)
      ∧ m' ((c.tc : Thread Cert.Mlp1ReferenceIdeal.nD Cert.Mlp1ReferenceIdeal.τ).loc Cert.Mlp1ReferenceIdeal.main_arg2) = m ((c.tc : Thread Cert.Mlp1Ideal.nD Cert.Mlp1Ideal.τ).loc Cert.Mlp1Ideal.main_arg2)
      ∧ m' ((c.tc : Thread Cert.Mlp1ReferenceIdeal.nD Cert.Mlp1ReferenceIdeal.τ).loc Cert.Mlp1ReferenceIdeal.main_arg3) = m ((c.tc : Thread Cert.Mlp1Ideal.nD Cert.Mlp1Ideal.τ).loc Cert.Mlp1Ideal.main_arg3)
      ∧ m' ((c.tc : Thread Cert.Mlp1ReferenceIdeal.nD Cert.Mlp1ReferenceIdeal.τ).loc Cert.Mlp1ReferenceIdeal.main_arg4) = m ((c.tc : Thread Cert.Mlp1Ideal.nD Cert.Mlp1Ideal.τ).loc Cert.Mlp1Ideal.main_arg4)) →
    ∃ (v0 : (c : Dev Cert.Mlp1Ideal.nD) → Buf (Elt Ideal) ((c.tc : Thread Cert.Mlp1Ideal.nD Cert.Mlp1Ideal.τ).loc Cert.Mlp1Ideal.main_v4_0)) (v1 : (c : Dev Cert.Mlp1Ideal.nD) → Buf (Elt Ideal) ((c.tc : Thread Cert.Mlp1Ideal.nD Cert.Mlp1Ideal.τ).loc Cert.Mlp1Ideal.main_v4_1)) (v2 : (c : Dev Cert.Mlp1Ideal.nD) → Buf (Elt Ideal) ((c.tc : Thread Cert.Mlp1Ideal.nD Cert.Mlp1Ideal.τ).loc Cert.Mlp1Ideal.main_v4_2)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v4_0) = v0 c
          ∧ r.2.mem ((c.tc : Thread Cert.Mlp1Ideal.nD Cert.Mlp1Ideal.τ).loc Cert.Mlp1Ideal.main_v4_1) = v1 c
          ∧ r.2.mem ((c.tc : Thread Cert.Mlp1Ideal.nD Cert.Mlp1Ideal.τ).loc Cert.Mlp1Ideal.main_v4_2) = v2 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4))
      ∧ θ_run (Cert.Mlp1ReferenceIdeal.defs (F := Ideal)) (onTc (τ := Cert.Mlp1ReferenceIdeal.τ) (Cert.Mlp1ReferenceIdeal.main (F := Ideal))) ⟨m', fun _ => 0, g'⟩ (fun r => ∀ c : Dev Cert.Mlp1ReferenceIdeal.nD,
          r.2.mem ((c.tc : Thread Cert.Mlp1ReferenceIdeal.nD Cert.Mlp1ReferenceIdeal.τ).loc Cert.Mlp1ReferenceIdeal.main_v0_0) = v0 c
          ∧ r.2.mem ((c.tc : Thread Cert.Mlp1ReferenceIdeal.nD Cert.Mlp1ReferenceIdeal.τ).loc Cert.Mlp1ReferenceIdeal.main_v0_1) = v1 c
          ∧ r.2.mem ((c.tc : Thread Cert.Mlp1ReferenceIdeal.nD Cert.Mlp1ReferenceIdeal.τ).loc Cert.Mlp1ReferenceIdeal.main_v0_2) = v2 c
          ∧ r.2.mem ((c.tc : Thread Cert.Mlp1ReferenceIdeal.nD Cert.Mlp1ReferenceIdeal.τ).loc Cert.Mlp1ReferenceIdeal.main_arg0) = m' ((c.tc : Thread Cert.Mlp1ReferenceIdeal.nD Cert.Mlp1ReferenceIdeal.τ).loc Cert.Mlp1ReferenceIdeal.main_arg0)
          ∧ r.2.mem ((c.tc : Thread Cert.Mlp1ReferenceIdeal.nD Cert.Mlp1ReferenceIdeal.τ).loc Cert.Mlp1ReferenceIdeal.main_arg1) = m' ((c.tc : Thread Cert.Mlp1ReferenceIdeal.nD Cert.Mlp1ReferenceIdeal.τ).loc Cert.Mlp1ReferenceIdeal.main_arg1)
          ∧ r.2.mem ((c.tc : Thread Cert.Mlp1ReferenceIdeal.nD Cert.Mlp1ReferenceIdeal.τ).loc Cert.Mlp1ReferenceIdeal.main_arg2) = m' ((c.tc : Thread Cert.Mlp1ReferenceIdeal.nD Cert.Mlp1ReferenceIdeal.τ).loc Cert.Mlp1ReferenceIdeal.main_arg2)
          ∧ r.2.mem ((c.tc : Thread Cert.Mlp1ReferenceIdeal.nD Cert.Mlp1ReferenceIdeal.τ).loc Cert.Mlp1ReferenceIdeal.main_arg3) = m' ((c.tc : Thread Cert.Mlp1ReferenceIdeal.nD Cert.Mlp1ReferenceIdeal.τ).loc Cert.Mlp1ReferenceIdeal.main_arg3)
          ∧ r.2.mem ((c.tc : Thread Cert.Mlp1ReferenceIdeal.nD Cert.Mlp1ReferenceIdeal.τ).loc Cert.Mlp1ReferenceIdeal.main_arg4) = m' ((c.tc : Thread Cert.Mlp1ReferenceIdeal.nD Cert.Mlp1ReferenceIdeal.τ).loc Cert.Mlp1ReferenceIdeal.main_arg4))

def preserves_Mlp2_Mlp2Ideal : Prop :=
  True

def algebraic_Mlp2Ideal_Mlp2ReferenceIdeal [hMlp2Ideal : Cert.Mlp2Ideal.Facts] [hMlp2ReferenceIdeal : Cert.Mlp2ReferenceIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2ReferenceIdeal.nD Cert.Mlp2ReferenceIdeal.τ Cert.Mlp2ReferenceIdeal.sig) → Buf (Elt Ideal) ℓ) (g' : Dev Cert.Mlp2ReferenceIdeal.nD → PrngReg), Pre_Mlp2Ideal m →
    (∀ c : Dev Cert.Mlp2Ideal.nD,
      m' ((c.tc : Thread Cert.Mlp2ReferenceIdeal.nD Cert.Mlp2ReferenceIdeal.τ).loc Cert.Mlp2ReferenceIdeal.main_arg0) = m ((c.tc : Thread Cert.Mlp2Ideal.nD Cert.Mlp2Ideal.τ).loc Cert.Mlp2Ideal.main_arg0)
      ∧ m' ((c.tc : Thread Cert.Mlp2ReferenceIdeal.nD Cert.Mlp2ReferenceIdeal.τ).loc Cert.Mlp2ReferenceIdeal.main_arg1) = m ((c.tc : Thread Cert.Mlp2Ideal.nD Cert.Mlp2Ideal.τ).loc Cert.Mlp2Ideal.main_arg1)
      ∧ m' ((c.tc : Thread Cert.Mlp2ReferenceIdeal.nD Cert.Mlp2ReferenceIdeal.τ).loc Cert.Mlp2ReferenceIdeal.main_arg2) = m ((c.tc : Thread Cert.Mlp2Ideal.nD Cert.Mlp2Ideal.τ).loc Cert.Mlp2Ideal.main_arg2)
      ∧ m' ((c.tc : Thread Cert.Mlp2ReferenceIdeal.nD Cert.Mlp2ReferenceIdeal.τ).loc Cert.Mlp2ReferenceIdeal.main_arg3) = m ((c.tc : Thread Cert.Mlp2Ideal.nD Cert.Mlp2Ideal.τ).loc Cert.Mlp2Ideal.main_arg3)
      ∧ m' ((c.tc : Thread Cert.Mlp2ReferenceIdeal.nD Cert.Mlp2ReferenceIdeal.τ).loc Cert.Mlp2ReferenceIdeal.main_arg4) = m ((c.tc : Thread Cert.Mlp2Ideal.nD Cert.Mlp2Ideal.τ).loc Cert.Mlp2Ideal.main_arg4)
      ∧ m' ((c.tc : Thread Cert.Mlp2ReferenceIdeal.nD Cert.Mlp2ReferenceIdeal.τ).loc Cert.Mlp2ReferenceIdeal.main_arg5) = m ((c.tc : Thread Cert.Mlp2Ideal.nD Cert.Mlp2Ideal.τ).loc Cert.Mlp2Ideal.main_arg5)
      ∧ m' ((c.tc : Thread Cert.Mlp2ReferenceIdeal.nD Cert.Mlp2ReferenceIdeal.τ).loc Cert.Mlp2ReferenceIdeal.main_arg6) = m ((c.tc : Thread Cert.Mlp2Ideal.nD Cert.Mlp2Ideal.τ).loc Cert.Mlp2Ideal.main_arg6)
      ∧ m' ((c.tc : Thread Cert.Mlp2ReferenceIdeal.nD Cert.Mlp2ReferenceIdeal.τ).loc Cert.Mlp2ReferenceIdeal.main_arg7) = m ((c.tc : Thread Cert.Mlp2Ideal.nD Cert.Mlp2Ideal.τ).loc Cert.Mlp2Ideal.main_arg7)) →
    ∃ (v0 : (c : Dev Cert.Mlp2Ideal.nD) → Buf (Elt Ideal) ((c.tc : Thread Cert.Mlp2Ideal.nD Cert.Mlp2Ideal.τ).loc Cert.Mlp2Ideal.main_v13_0)) (v1 : (c : Dev Cert.Mlp2Ideal.nD) → Buf (Elt Ideal) ((c.tc : Thread Cert.Mlp2Ideal.nD Cert.Mlp2Ideal.τ).loc Cert.Mlp2Ideal.main_v13_1)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v13_0) = v0 c
          ∧ r.2.mem ((c.tc : Thread Cert.Mlp2Ideal.nD Cert.Mlp2Ideal.τ).loc Cert.Mlp2Ideal.main_v13_1) = v1 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
          ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5)
          ∧ r.2.mem ((c.tc : Thread Cert.Mlp2Ideal.nD Cert.Mlp2Ideal.τ).loc Cert.Mlp2Ideal.main_arg6) = m ((c.tc : Thread Cert.Mlp2Ideal.nD Cert.Mlp2Ideal.τ).loc Cert.Mlp2Ideal.main_arg6)
          ∧ r.2.mem ((c.tc : Thread Cert.Mlp2Ideal.nD Cert.Mlp2Ideal.τ).loc Cert.Mlp2Ideal.main_arg7) = m ((c.tc : Thread Cert.Mlp2Ideal.nD Cert.Mlp2Ideal.τ).loc Cert.Mlp2Ideal.main_arg7))
      ∧ θ_run (Cert.Mlp2ReferenceIdeal.defs (F := Ideal)) (onTc (τ := Cert.Mlp2ReferenceIdeal.τ) (Cert.Mlp2ReferenceIdeal.main (F := Ideal))) ⟨m', fun _ => 0, g'⟩ (fun r => ∀ c : Dev Cert.Mlp2ReferenceIdeal.nD,
          r.2.mem ((c.tc : Thread Cert.Mlp2ReferenceIdeal.nD Cert.Mlp2ReferenceIdeal.τ).loc Cert.Mlp2ReferenceIdeal.main_v0_0) = v0 c
          ∧ r.2.mem ((c.tc : Thread Cert.Mlp2ReferenceIdeal.nD Cert.Mlp2ReferenceIdeal.τ).loc Cert.Mlp2ReferenceIdeal.main_v0_1) = v1 c
          ∧ r.2.mem ((c.tc : Thread Cert.Mlp2ReferenceIdeal.nD Cert.Mlp2ReferenceIdeal.τ).loc Cert.Mlp2ReferenceIdeal.main_arg0) = m' ((c.tc : Thread Cert.Mlp2ReferenceIdeal.nD Cert.Mlp2ReferenceIdeal.τ).loc Cert.Mlp2ReferenceIdeal.main_arg0)
          ∧ r.2.mem ((c.tc : Thread Cert.Mlp2ReferenceIdeal.nD Cert.Mlp2ReferenceIdeal.τ).loc Cert.Mlp2ReferenceIdeal.main_arg1) = m' ((c.tc : Thread Cert.Mlp2ReferenceIdeal.nD Cert.Mlp2ReferenceIdeal.τ).loc Cert.Mlp2ReferenceIdeal.main_arg1)
          ∧ r.2.mem ((c.tc : Thread Cert.Mlp2ReferenceIdeal.nD Cert.Mlp2ReferenceIdeal.τ).loc Cert.Mlp2ReferenceIdeal.main_arg2) = m' ((c.tc : Thread Cert.Mlp2ReferenceIdeal.nD Cert.Mlp2ReferenceIdeal.τ).loc Cert.Mlp2ReferenceIdeal.main_arg2)
          ∧ r.2.mem ((c.tc : Thread Cert.Mlp2ReferenceIdeal.nD Cert.Mlp2ReferenceIdeal.τ).loc Cert.Mlp2ReferenceIdeal.main_arg3) = m' ((c.tc : Thread Cert.Mlp2ReferenceIdeal.nD Cert.Mlp2ReferenceIdeal.τ).loc Cert.Mlp2ReferenceIdeal.main_arg3)
          ∧ r.2.mem ((c.tc : Thread Cert.Mlp2ReferenceIdeal.nD Cert.Mlp2ReferenceIdeal.τ).loc Cert.Mlp2ReferenceIdeal.main_arg4) = m' ((c.tc : Thread Cert.Mlp2ReferenceIdeal.nD Cert.Mlp2ReferenceIdeal.τ).loc Cert.Mlp2ReferenceIdeal.main_arg4)
          ∧ r.2.mem ((c.tc : Thread Cert.Mlp2ReferenceIdeal.nD Cert.Mlp2ReferenceIdeal.τ).loc Cert.Mlp2ReferenceIdeal.main_arg5) = m' ((c.tc : Thread Cert.Mlp2ReferenceIdeal.nD Cert.Mlp2ReferenceIdeal.τ).loc Cert.Mlp2ReferenceIdeal.main_arg5)
          ∧ r.2.mem ((c.tc : Thread Cert.Mlp2ReferenceIdeal.nD Cert.Mlp2ReferenceIdeal.τ).loc Cert.Mlp2ReferenceIdeal.main_arg6) = m' ((c.tc : Thread Cert.Mlp2ReferenceIdeal.nD Cert.Mlp2ReferenceIdeal.τ).loc Cert.Mlp2ReferenceIdeal.main_arg6)
          ∧ r.2.mem ((c.tc : Thread Cert.Mlp2ReferenceIdeal.nD Cert.Mlp2ReferenceIdeal.τ).loc Cert.Mlp2ReferenceIdeal.main_arg7) = m' ((c.tc : Thread Cert.Mlp2ReferenceIdeal.nD Cert.Mlp2ReferenceIdeal.τ).loc Cert.Mlp2ReferenceIdeal.main_arg7))

def Claim : Prop :=
  ∃ (hMlp1 : Cert.Mlp1.Facts) (hMlp1Ideal : Cert.Mlp1Ideal.Facts) (hMlp1ReferenceIdeal : Cert.Mlp1ReferenceIdeal.Facts) (hMlp2 : Cert.Mlp2.Facts) (hMlp2Ideal : Cert.Mlp2Ideal.Facts) (hMlp2ReferenceIdeal : Cert.Mlp2ReferenceIdeal.Facts),
    quiescent_Mlp1 (hMlp1 := hMlp1)
    ∧ quiescent_Mlp1Ideal (hMlp1Ideal := hMlp1Ideal)
    ∧ quiescent_Mlp1ReferenceIdeal (hMlp1ReferenceIdeal := hMlp1ReferenceIdeal)
    ∧ quiescent_Mlp2 (hMlp2 := hMlp2)
    ∧ quiescent_Mlp2Ideal (hMlp2Ideal := hMlp2Ideal)
    ∧ quiescent_Mlp2ReferenceIdeal (hMlp2ReferenceIdeal := hMlp2ReferenceIdeal)
    ∧ preserves_Mlp1_Mlp1Ideal
    ∧ algebraic_Mlp1Ideal_Mlp1ReferenceIdeal (hMlp1Ideal := hMlp1Ideal) (hMlp1ReferenceIdeal := hMlp1ReferenceIdeal)
    ∧ preserves_Mlp2_Mlp2Ideal
    ∧ algebraic_Mlp2Ideal_Mlp2ReferenceIdeal (hMlp2Ideal := hMlp2Ideal) (hMlp2ReferenceIdeal := hMlp2ReferenceIdeal)
-- ==== Mlp1.lean ====
abbrev S4096x7680 : Shape := ⟨2, ![4096, 7680]⟩
abbrev S4096 : Shape := ⟨1, ![4096]⟩
abbrev S7680x3584 : Shape := ⟨2, ![7680, 3584]⟩
abbrev S3584 : Shape := ⟨1, ![3584]⟩
abbrev S4096x1 : Shape := ⟨2, ![4096, 1]⟩
abbrev S4096x128 : Shape := ⟨2, ![4096, 128]⟩
abbrev S1x3584 : Shape := ⟨2, ![1, 3584]⟩
abbrev S4096x3584 : Shape := ⟨2, ![4096, 3584]⟩
abbrev S32x1x128 : Shape := ⟨3, ![32, 1, 128]⟩
abbrev S512x7680 : Shape := ⟨2, ![512, 7680]⟩
abbrev S512x128 : Shape := ⟨2, ![512, 128]⟩
abbrev S512x3584 : Shape := ⟨2, ![512, 3584]⟩
abbrev S4x1x128 : Shape := ⟨3, ![4, 1, 128]⟩
abbrev S7680x512 : Shape := ⟨2, ![7680, 512]⟩
abbrev S512x512 : Shape := ⟨2, ![512, 512]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1x128 : Shape := ⟨3, ![1, 1, 128]⟩

abbrev nBuf : Space → Nat
  | .hbm => 12
  | .vmem => 14
  | .smem => 0
  | _ => 0

abbrev bufTy : (tb : Table) → Fin (tcTables nBuf tb) → BufTy
  | .hbm, ⟨0, _⟩ => ⟨S4096x7680, .fp8e4m3⟩
  | .hbm, ⟨1, _⟩ => ⟨S4096, .f32⟩
  | .hbm, ⟨2, _⟩ => ⟨S7680x3584, .fp8e4m3⟩
  | .hbm, ⟨3, _⟩ => ⟨S3584, .f32⟩
  | .hbm, ⟨4, _⟩ => ⟨S3584, .f32⟩
  | .hbm, ⟨5, _⟩ => ⟨S4096x1, .f32⟩
  | .hbm, ⟨6, _⟩ => ⟨S4096x128, .f32⟩
  | .hbm, ⟨7, _⟩ => ⟨S1x3584, .f32⟩
  | .hbm, ⟨8, _⟩ => ⟨S1x3584, .f32⟩
  | .hbm, ⟨9, _⟩ => ⟨S4096x3584, .fp8e4m3⟩
  | .hbm, ⟨10, _⟩ => ⟨S32x1x128, .f32⟩
  | .hbm, ⟨11, _⟩ => ⟨S4096x128, .f32⟩
  | .local _ .vmem, ⟨0, _⟩ => ⟨S512x7680, .fp8e4m3⟩
  | .local _ .vmem, ⟨1, _⟩ => ⟨S512x7680, .fp8e4m3⟩
  | .local _ .vmem, ⟨2, _⟩ => ⟨S512x128, .f32⟩
  | .local _ .vmem, ⟨3, _⟩ => ⟨S512x128, .f32⟩
  | .local _ .vmem, ⟨4, _⟩ => ⟨S7680x3584, .fp8e4m3⟩
  | .local _ .vmem, ⟨5, _⟩ => ⟨S1x3584, .f32⟩
  | .local _ .vmem, ⟨6, _⟩ => ⟨S1x3584, .f32⟩
  | .local _ .vmem, ⟨7, _⟩ => ⟨S512x3584, .fp8e4m3⟩
  | .local _ .vmem, ⟨8, _⟩ => ⟨S512x3584, .fp8e4m3⟩
  | .local _ .vmem, ⟨9, _⟩ => ⟨S4x1x128, .f32⟩
  | .local _ .vmem, ⟨10, _⟩ => ⟨S4x1x128, .f32⟩
  | .local _ .vmem, ⟨11, _⟩ => ⟨S512x128, .f32⟩
  | .local _ .vmem, ⟨12, _⟩ => ⟨S512x128, .f32⟩
  | .local _ .vmem, ⟨13, _⟩ => ⟨S512x3584, .f32⟩
  | _, _ => ⟨S4096x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c7_i32 : BitVec 32 := 7#32
  let v0 : BitVec 32 := Scalar.addi c0_i32 c7_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v89 : BitVec 32 := Scalar.muli arg10 c512_i32
  v89
def k0_off1 (k0_t1 : Fin k0_t1_loop.trips) : Fin 2 → Nat :=
  let c0_74 : Index := 0#32
  let c0_i32 : BitVec 32 := 0#32
  let c1_i32 : BitVec 32 := 1#32
  let arg10 : BitVec 32 := Scf.iv c0_i32 c1_i32 k0_t1
  let c512_i32 : BitVec 32 := 512#32
  let v89 : BitVec 32 := Scalar.muli arg10 c512_i32
  let v90 : BitVec 32 := v89
  let v92 : Index := Scalar.indexCast v90
  ![0, v92.toNat]
def k0_off2 (k0_t1 : Fin k0_t1_loop.trips) : Fin 2 → Nat :=
  let c0_76 : Index := 0#32
  let c0_i32 : BitVec 32 := 0#32
  let c1_i32 : BitVec 32 := 1#32
  let arg10 : BitVec 32 := Scf.iv c0_i32 c1_i32 k0_t1
  let c512_i32 : BitVec 32 := 512#32
  let v89 : BitVec 32 := Scalar.muli arg10 c512_i32
  let v90 : BitVec 32 := v89
  let v95 : Index := Scalar.indexCast v90
  ![0, v95.toNat]
@[reducible] def k0_t2_loop : Scf.Loop 32 :=
  let c0_i32_2 : BitVec 32 := 0#32
  let c28_i32 : BitVec 32 := 28#32
  let v4 : BitVec 32 := Scalar.addi c0_i32_2 c28_i32
  let c1_i32_3 : BitVec 32 := 1#32
  ⟨c0_i32_2, v4, c1_i32_3⟩
def k0_mult2 (k0_t2 : Fin k0_t2_loop.trips) : BitVec 32 :=
  let c0_i32_2 : BitVec 32 := 0#32
  let c1_i32_3 : BitVec 32 := 1#32
  let arg10 : BitVec 32 := Scf.iv c0_i32_2 c1_i32_3 k0_t2
  let c128_i32 : BitVec 32 := 128#32
  let v89 : BitVec 32 := Scalar.muli arg10 c128_i32
  v89
def k0_off3 (k0_t2 : Fin k0_t2_loop.trips) : Fin 2 → Nat :=
  let c0_72 : Index := 0#32
  let c0_i32_2 : BitVec 32 := 0#32
  let c1_i32_3 : BitVec 32 := 1#32
  let arg10 : BitVec 32 := Scf.iv c0_i32_2 c1_i32_3 k0_t2
  let c128_i32 : BitVec 32 := 128#32
  let v89 : BitVec 32 := Scalar.muli arg10 c128_i32
  let v90 : BitVec 32 := v89
  let v91 : Index := Scalar.indexCast v90
  ![0, v91.toNat]
def k0_off4 (k0_t2 : Fin k0_t2_loop.trips) : Fin 2 → Nat :=
  let c0_73 : Index := 0#32
  let c0_i32_2 : BitVec 32 := 0#32
  let c1_i32_3 : BitVec 32 := 1#32
  let arg10 : BitVec 32 := Scf.iv c0_i32_2 c1_i32_3 k0_t2
  let c128_i32 : BitVec 32 := 128#32
  let v89 : BitVec 32 := Scalar.muli arg10 c128_i32
  let v90 : BitVec 32 := v89
  let v94 : Index := Scalar.indexCast v90
  ![0, v94.toNat]
@[reducible] def k0_t3_loop : Scf.Loop 32 :=
  let c0_i32_14 : BitVec 32 := 0#32
  let c28_i32_15 : BitVec 32 := 28#32
  let v22 : BitVec 32 := Scalar.addi c0_i32_14 c28_i32_15
  let c1_i32_16 : BitVec 32 := 1#32
  ⟨c0_i32_14, v22, c1_i32_16⟩
def k0_mult3 (k0_t3 : Fin k0_t3_loop.trips) : BitVec 32 :=
  let c0_i32_14 : BitVec 32 := 0#32
  let c1_i32_16 : BitVec 32 := 1#32
  let arg10 : BitVec 32 := Scf.iv c0_i32_14 c1_i32_16 k0_t3
  let c128_i32 : BitVec 32 := 128#32
  let v89 : BitVec 32 := Scalar.muli arg10 c128_i32
  v89
def k0_off5 (k0_t3 : Fin k0_t3_loop.trips) : Fin 2 → Nat :=
  let c0_72 : Index := 0#32
  let c0_i32_14 : BitVec 32 := 0#32
  let c1_i32_16 : BitVec 32 := 1#32
  let arg10 : BitVec 32 := Scf.iv c0_i32_14 c1_i32_16 k0_t3
  let c128_i32 : BitVec 32 := 128#32
  let v89 : BitVec 32 := Scalar.muli arg10 c128_i32
  let v90 : BitVec 32 := v89
  let v91 : Index := Scalar.indexCast v90
  ![0, v91.toNat]
@[reducible] def k0_t4_loop : Scf.Loop 32 :=
  let c0_i32_20 : BitVec 32 := 0#32
  let c28_i32_21 : BitVec 32 := 28#32
  let v26 : BitVec 32 := Scalar.addi c0_i32_20 c28_i32_21
  let c1_i32_22 : BitVec 32 := 1#32
  ⟨c0_i32_20, v26, c1_i32_22⟩
def k0_mult4 (k0_t4 : Fin k0_t4_loop.trips) : BitVec 32 :=
  let c0_i32_20 : BitVec 32 := 0#32
  let c1_i32_22 : BitVec 32 := 1#32
  let arg10 : BitVec 32 := Scf.iv c0_i32_20 c1_i32_22 k0_t4
  let c128_i32 : BitVec 32 := 128#32
  let v89 : BitVec 32 := Scalar.muli arg10 c128_i32
  v89
def k0_off6 (k0_t4 : Fin k0_t4_loop.trips) : Fin 2 → Nat :=
  let c128_72 : Index := 128#32
  let c0_i32_20 : BitVec 32 := 0#32
  let c1_i32_22 : BitVec 32 := 1#32
  let arg10 : BitVec 32 := Scf.iv c0_i32_20 c1_i32_22 k0_t4
  let c128_i32 : BitVec 32 := 128#32
  let v89 : BitVec 32 := Scalar.muli arg10 c128_i32
  let v90 : BitVec 32 := v89
  let v91 : Index := Scalar.indexCast v90
  ![128, v91.toNat]
def k0_off7 (k0_t4 : Fin k0_t4_loop.trips) : Fin 2 → Nat :=
  let c0_73 : Index := 0#32
  let c0_i32_20 : BitVec 32 := 0#32
  let c1_i32_22 : BitVec 32 := 1#32
  let arg10 : BitVec 32 := Scf.iv c0_i32_20 c1_i32_22 k0_t4
  let c128_i32 : BitVec 32 := 128#32
  let v89 : BitVec 32 := Scalar.muli arg10 c128_i32
  let v90 : BitVec 32 := v89
  let v94 : Index := Scalar.indexCast v90
  ![0, v94.toNat]
@[reducible] def k0_t5_loop : Scf.Loop 32 :=
  let c0_i32_32 : BitVec 32 := 0#32
  let c28_i32_33 : BitVec 32 := 28#32
  let v44 : BitVec 32 := Scalar.addi c0_i32_32 c28_i32_33
  let c1_i32_34 : BitVec 32 := 1#32
  ⟨c0_i32_32, v44, c1_i32_34⟩
def k0_mult5 (k0_t5 : Fin k0_t5_loop.trips) : BitVec 32 :=
  let c0_i32_32 : BitVec 32 := 0#32
  let c1_i32_34 : BitVec 32 := 1#32
  let arg10 : BitVec 32 := Scf.iv c0_i32_32 c1_i32_34 k0_t5
  let c128_i32 : BitVec 32 := 128#32
  let v89 : BitVec 32 := Scalar.muli arg10 c128_i32
  v89
def k0_off8 (k0_t5 : Fin k0_t5_loop.trips) : Fin 2 → Nat :=
  let c128_72 : Index := 128#32
  let c0_i32_32 : BitVec 32 := 0#32
  let c1_i32_34 : BitVec 32 := 1#32
  let arg10 : BitVec 32 := Scf.iv c0_i32_32 c1_i32_34 k0_t5
  let c128_i32 : BitVec 32 := 128#32
  let v89 : BitVec 32 := Scalar.muli arg10 c128_i32
  let v90 : BitVec 32 := v89
  let v91 : Index := Scalar.indexCast v90
  ![128, v91.toNat]
@[reducible] def k0_t6_loop : Scf.Loop 32 :=
  let c0_i32_38 : BitVec 32 := 0#32
  let c28_i32_39 : BitVec 32 := 28#32
  let v48 : BitVec 32 := Scalar.addi c0_i32_38 c28_i32_39
  let c1_i32_40 : BitVec 32 := 1#32
  ⟨c0_i32_38, v48, c1_i32_40⟩
def k0_mult6 (k0_t6 : Fin k0_t6_loop.trips) : BitVec 32 :=
  let c0_i32_38 : BitVec 32 := 0#32
  let c1_i32_40 : BitVec 32 := 1#32
  let arg10 : BitVec 32 := Scf.iv c0_i32_38 c1_i32_40 k0_t6
  let c128_i32 : BitVec 32 := 128#32
  let v89 : BitVec 32 := Scalar.muli arg10 c128_i32
  v89
def k0_off9 (k0_t6 : Fin k0_t6_loop.trips) : Fin 2 → Nat :=
  let c256_72 : Index := 256#32
  let c0_i32_38 : BitVec 32 := 0#32
  let c1_i32_40 : BitVec 32 := 1#32
  let arg10 : BitVec 32 := Scf.iv c0_i32_38 c1_i32_40 k0_t6
  let c128_i32 : BitVec 32 := 128#32
  let v89 : BitVec 32 := Scalar.muli arg10 c128_i32
  let v90 : BitVec 32 := v89
  let v91 : Index := Scalar.indexCast v90
  ![256, v91.toNat]
def k0_off10 (k0_t6 : Fin k0_t6_loop.trips) : Fin 2 → Nat :=
  let c0_73 : Index := 0#32
  let c0_i32_38 : BitVec 32 := 0#32
  let c1_i32_40 : BitVec 32 := 1#32
  let arg10 : BitVec 32 := Scf.iv c0_i32_38 c1_i32_40 k0_t6
  let c128_i32 : BitVec 32 := 128#32
  let v89 : BitVec 32 := Scalar.muli arg10 c128_i32
  let v90 : BitVec 32 := v89
  let v94 : Index := Scalar.indexCast v90
  ![0, v94.toNat]
@[reducible] def k0_t7_loop : Scf.Loop 32 :=
  let c0_i32_50 : BitVec 32 := 0#32
  let c28_i32_51 : BitVec 32 := 28#32
  let v66 : BitVec 32 := Scalar.addi c0_i32_50 c28_i32_51
  let c1_i32_52 : BitVec 32 := 1#32
  ⟨c0_i32_50, v66, c1_i32_52⟩
def k0_mult7 (k0_t7 : Fin k0_t7_loop.trips) : BitVec 32 :=
  let c0_i32_50 : BitVec 32 := 0#32
  let c1_i32_52 : BitVec 32 := 1#32
  let arg10 : BitVec 32 := Scf.iv c0_i32_50 c1_i32_52 k0_t7
  let c128_i32 : BitVec 32 := 128#32
  let v89 : BitVec 32 := Scalar.muli arg10 c128_i32
  v89
def k0_off11 (k0_t7 : Fin k0_t7_loop.trips) : Fin 2 → Nat :=
  let c256_72 : Index := 256#32
  let c0_i32_50 : BitVec 32 := 0#32
  let c1_i32_52 : BitVec 32 := 1#32
  let arg10 : BitVec 32 := Scf.iv c0_i32_50 c1_i32_52 k0_t7
  let c128_i32 : BitVec 32 := 128#32
  let v89 : BitVec 32 := Scalar.muli arg10 c128_i32
  let v90 : BitVec 32 := v89
  let v91 : Index := Scalar.indexCast v90
  ![256, v91.toNat]
@[reducible] def k0_t8_loop : Scf.Loop 32 :=
  let c0_i32_56 : BitVec 32 := 0#32
  let c28_i32_57 : BitVec 32 := 28#32
  let v70 : BitVec 32 := Scalar.addi c0_i32_56 c28_i32_57
  let c1_i32_58 : BitVec 32 := 1#32
  ⟨c0_i32_56, v70, c1_i32_58⟩
def k0_mult8 (k0_t8 : Fin k0_t8_loop.trips) : BitVec 32 :=
  let c0_i32_56 : BitVec 32 := 0#32
  let c1_i32_58 : BitVec 32 := 1#32
  let arg10 : BitVec 32 := Scf.iv c0_i32_56 c1_i32_58 k0_t8
  let c128_i32 : BitVec 32 := 128#32
  let v89 : BitVec 32 := Scalar.muli arg10 c128_i32
  v89
def k0_off12 (k0_t8 : Fin k0_t8_loop.trips) : Fin 2 → Nat :=
  let c384_72 : Index := 384#32
  let c0_i32_56 : BitVec 32 := 0#32
  let c1_i32_58 : BitVec 32 := 1#32
  let arg10 : BitVec 32 := Scf.iv c0_i32_56 c1_i32_58 k0_t8
  let c128_i32 : BitVec 32 := 128#32
  let v89 : BitVec 32 := Scalar.muli arg10 c128_i32
  let v90 : BitVec 32 := v89
  let v91 : Index := Scalar.indexCast v90
  ![384, v91.toNat]
def k0_off13 (k0_t8 : Fin k0_t8_loop.trips) : Fin 2 → Nat :=
  let c0_73 : Index := 0#32
  let c0_i32_56 : BitVec 32 := 0#32
  let c1_i32_58 : BitVec 32 := 1#32
  let arg10 : BitVec 32 := Scf.iv c0_i32_56 c1_i32_58 k0_t8
  let c128_i32 : BitVec 32 := 128#32
  let v89 : BitVec 32 := Scalar.muli arg10 c128_i32
  let v90 : BitVec 32 := v89
  let v94 : Index := Scalar.indexCast v90
  ![0, v94.toNat]
@[reducible] def k0_t9_loop : Scf.Loop 32 :=
  let c0_i32_68 : BitVec 32 := 0#32
  let c28_i32_69 : BitVec 32 := 28#32
  let v88 : BitVec 32 := Scalar.addi c0_i32_68 c28_i32_69
  let c1_i32_70 : BitVec 32 := 1#32
  ⟨c0_i32_68, v88, c1_i32_70⟩
def k0_mult9 (k0_t9 : Fin k0_t9_loop.trips) : BitVec 32 :=
  let c0_i32_68 : BitVec 32 := 0#32
  let c1_i32_70 : BitVec 32 := 1#32
  let arg10 : BitVec 32 := Scf.iv c0_i32_68 c1_i32_70 k0_t9
  let c128_i32 : BitVec 32 := 128#32
  let v89 : BitVec 32 := Scalar.muli arg10 c128_i32
  v89
def k0_off14 (k0_t9 : Fin k0_t9_loop.trips) : Fin 2 → Nat :=
  let c384_72 : Index := 384#32
  let c0_i32_68 : BitVec 32 := 0#32
  let c1_i32_70 : BitVec 32 := 1#32
  let arg10 : BitVec 32 := Scf.iv c0_i32_68 c1_i32_70 k0_t9
  let c128_i32 : BitVec 32 := 128#32
  let v89 : BitVec 32 := Scalar.muli arg10 c128_i32
  let v90 : BitVec 32 := v89
  let v91 : Index := Scalar.indexCast v90
  ![384, v91.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7680 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7680x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Mlp1ReferenceIdeal.lean ====
abbrev S4096x7680 : Shape := ⟨2, ![4096, 7680]⟩
abbrev S4096 : Shape := ⟨1, ![4096]⟩
abbrev S7680x3584 : Shape := ⟨2, ![7680, 3584]⟩
abbrev S3584 : Shape := ⟨1, ![3584]⟩
abbrev S4096x3584 : Shape := ⟨2, ![4096, 3584]⟩
abbrev S32x1x128 : Shape := ⟨3, ![32, 1, 128]⟩
abbrev S4096x128 : Shape := ⟨2, ![4096, 128]⟩
abbrev S4096x1 : Shape := ⟨2, ![4096, 1]⟩
abbrev S1x3584 : Shape := ⟨2, ![1, 3584]⟩

abbrev nBuf : Space → Nat
  | .hbm => 8
  | .vmem => 8
  | .smem => 0
  | _ => 0

abbrev bufTy : (tb : Table) → Fin (tcTables nBuf tb) → BufTy
  | .hbm, ⟨0, _⟩ => ⟨S4096x7680, .fp8e4m3⟩
  | .hbm, ⟨1, _⟩ => ⟨S4096, .f32⟩
  | .hbm, ⟨2, _⟩ => ⟨S7680x3584, .fp8e4m3⟩
  | .hbm, ⟨3, _⟩ => ⟨S3584, .f32⟩
  | .hbm, ⟨4, _⟩ => ⟨S3584, .f32⟩
  | .hbm, ⟨5, _⟩ => ⟨S4096x3584, .fp8e4m3⟩
  | .hbm, ⟨6, _⟩ => ⟨S32x1x128, .f32⟩
  | .hbm, ⟨7, _⟩ => ⟨S4096x128, .f32⟩
  | .local _ .vmem, ⟨0, _⟩ => ⟨S4096x7680, .fp8e4m3⟩
  | .local _ .vmem, ⟨1, _⟩ => ⟨S4096, .f32⟩
  | .local _ .vmem, ⟨2, _⟩ => ⟨S7680x3584, .fp8e4m3⟩
  | .local _ .vmem, ⟨3, _⟩ => ⟨S3584, .f32⟩
  | .local _ .vmem, ⟨4, _⟩ => ⟨S3584, .f32⟩
  | .local _ .vmem, ⟨5, _⟩ => ⟨S4096x3584, .fp8e4m3⟩
  | .local _ .vmem, ⟨6, _⟩ => ⟨S32x1x128, .f32⟩
  | .local _ .vmem, ⟨7, _⟩ => ⟨S4096x128, .f32⟩
  | _, _ => ⟨S4096x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Mlp2.lean ====
abbrev S4096x3584 : Shape := ⟨2, ![4096, 3584]⟩
abbrev S4096 : Shape := ⟨1, ![4096]⟩
abbrev S3584x12800 : Shape := ⟨2, ![3584, 12800]⟩
abbrev S12800 : Shape := ⟨1, ![12800]⟩
abbrev S4096x160x128 : Shape := ⟨3, ![4096, 160, 128]⟩
abbrev S128 : Shape := ⟨1, ![128]⟩
abbrev S4096x1 : Shape := ⟨2, ![4096, 1]⟩
abbrev S4096x128 : Shape := ⟨2, ![4096, 128]⟩
abbrev S32x128x40x4x128 : Shape := ⟨5, ![32, 128, 40, 4, 128]⟩
abbrev S32x40x128x4x128 : Shape := ⟨5, ![32, 40, 128, 4, 128]⟩
abbrev S32x40x512x128 : Shape := ⟨4, ![32, 40, 512, 128]⟩
abbrev S1x12800 : Shape := ⟨2, ![1, 12800]⟩
abbrev S128x1x1 : Shape := ⟨3, ![128, 1, 1]⟩
abbrev S128x4x128 : Shape := ⟨3, ![128, 4, 128]⟩
abbrev S512x128 : Shape := ⟨2, ![512, 128]⟩
abbrev S32x1x128 : Shape := ⟨3, ![32, 1, 128]⟩
abbrev S256x3584 : Shape := ⟨2, ![256, 3584]⟩
abbrev S256x128 : Shape := ⟨2, ![256, 128]⟩
abbrev S3584x512 : Shape := ⟨2, ![3584, 512]⟩
abbrev S1x512 : Shape := ⟨2, ![1, 512]⟩
abbrev S2x1x512x128 : Shape := ⟨4, ![2, 1, 512, 128]⟩
abbrev S256x160x128 : Shape := ⟨3, ![256, 160, 128]⟩
abbrev S2x1x128 : Shape := ⟨3, ![2, 1, 128]⟩
abbrev S2x40x512x128 : Shape := ⟨4, ![2, 40, 512, 128]⟩
abbrev S2x8x128 : Shape := ⟨3, ![2, 8, 128]⟩
abbrev S256x512 : Shape := ⟨2, ![256, 512]⟩
abbrev S128x512 : Shape := ⟨2, ![128, 512]⟩
abbrev S128x128 : Shape := ⟨2, ![128, 128]⟩
abbrev S1x128 : Shape := ⟨2, ![1, 128]⟩
abbrev S1x1x512x128 : Shape := ⟨4, ![1, 1, 512, 128]⟩
abbrev S64x8x128 : Shape := ⟨3, ![64, 8, 128]⟩
abbrev S8x128 : Shape := ⟨2, ![8, 128]⟩
abbrev S1x8x128 : Shape := ⟨3, ![1, 8, 128]⟩
abbrev S1x1x128 : Shape := ⟨3, ![1, 1, 128]⟩

abbrev nBuf : Space → Nat
  | .hbm => 23
  | .vmem => 20
  | .smem => 0
  | _ => 0

abbrev bufTy : (tb : Table) → Fin (tcTables nBuf tb) → BufTy
  | .hbm, ⟨0, _⟩ => ⟨S4096x3584, .fp8e4m3⟩
  | .hbm, ⟨1, _⟩ => ⟨S4096, .f32⟩
  | .hbm, ⟨2, _⟩ => ⟨S3584x12800, .fp8e4m3⟩
  | .hbm, ⟨3, _⟩ => ⟨S12800, .f32⟩
  | .hbm, ⟨4, _⟩ => ⟨S12800, .f32⟩
  | .hbm, ⟨5, _⟩ => ⟨S4096x160x128, .f32⟩
  | .hbm, ⟨6, _⟩ => ⟨S128, .f32⟩
  | .hbm, ⟨7, _⟩ => ⟨S128, .f32⟩
  | .hbm, ⟨8, _⟩ => ⟨S4096x1, .f32⟩
  | .hbm, ⟨9, _⟩ => ⟨S4096x128, .f32⟩
  | .hbm, ⟨10, _⟩ => ⟨S32x128x40x4x128, .f32⟩
  | .hbm, ⟨11, _⟩ => ⟨S32x40x128x4x128, .f32⟩
  | .hbm, ⟨12, _⟩ => ⟨S32x40x512x128, .f32⟩
  | .hbm, ⟨13, _⟩ => ⟨S1x12800, .f32⟩
  | .hbm, ⟨14, _⟩ => ⟨S1x12800, .f32⟩
  | .hbm, ⟨15, _⟩ => ⟨S128x1x1, .f32⟩
  | .hbm, ⟨16, _⟩ => ⟨S128x4x128, .f32⟩
  | .hbm, ⟨17, _⟩ => ⟨S512x128, .f32⟩
  | .hbm, ⟨18, _⟩ => ⟨S128x1x1, .f32⟩
  | .hbm, ⟨19, _⟩ => ⟨S128x4x128, .f32⟩
  | .hbm, ⟨20, _⟩ => ⟨S512x128, .f32⟩
  | .hbm, ⟨21, _⟩ => ⟨S4096x160x128, .fp8e4m3⟩
  | .hbm, ⟨22, _⟩ => ⟨S32x1x128, .f32⟩
  | .local _ .vmem, ⟨0, _⟩ => ⟨S256x3584, .fp8e4m3⟩
  | .local _ .vmem, ⟨1, _⟩ => ⟨S256x3584, .fp8e4m3⟩
  | .local _ .vmem, ⟨2, _⟩ => ⟨S256x128, .f32⟩
  | .local _ .vmem, ⟨3, _⟩ => ⟨S256x128, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2x1x512x128, .f32⟩
  | .local _ .vmem, ⟨11, _⟩ => ⟨S2x1x512x128, .f32⟩
  | .local _ .vmem, ⟨12, _⟩ => ⟨S512x128, .f32⟩
  | .local _ .vmem, ⟨13, _⟩ => ⟨S512x128, .f32⟩
  | .local _ .vmem, ⟨14, _⟩ => ⟨S256x160x128, .fp8e4m3⟩
  | .local _ .vmem, ⟨15, _⟩ => ⟨S256x160x128, .fp8e4m3⟩
  | .local _ .vmem, ⟨16, _⟩ => ⟨S2x1x128, .f32⟩
  | .local _ .vmem, ⟨17, _⟩ => ⟨S2x1x128, .f32⟩
  | .local _ .vmem, ⟨18, _⟩ => ⟨S2x40x512x128, .f32⟩
  | .local _ .vmem, ⟨19, _⟩ => ⟨S2x8x128, .f32⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 40], ![false, false]⟩

def k0_cond2 (i : grid0.Coords) : BitVec 1 :=
  let arg1 : BitVec 32 := BitVec.ofNat 32 (i 1).val
  let c25_i32 : BitVec 32 := 25#32
  let v3 : BitVec 1 := Scalar.cmpi .slt arg1 c25_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let c0_i32_68 : BitVec 32 := 0#32
  let arg1 : BitVec 32 := BitVec.ofNat 32 (i 1).val
  let c0_i32_69 : BitVec 32 := 0#32
  let c0_i32_70 : BitVec 32 := 0#32
  ![0, arg1.toNat, 0, 0]
def k0_off2 (i : grid0.Coords) : Fin 4 → Nat :=
  let c1_i32 : BitVec 32 := 1#32
  let arg1 : BitVec 32 := BitVec.ofNat 32 (i 1).val
  let c0_i32_101 : BitVec 32 := 0#32
  let c0_i32_102 : BitVec 32 := 0#32
  ![1, arg1.toNat, 0, 0]
def k0_cond3 (i : grid0.Coords) : BitVec 1 :=
  let arg1 : BitVec 32 := BitVec.ofNat 32 (i 1).val
  let c25_i32_2 : BitVec 32 := 25#32
  let v6 : BitVec 1 := Scalar.cmpi .sge arg1 c25_i32_2
  let v7 : BitVec 32 := Scalar.extui v6
  let c0_i32_3 : BitVec 32 := 0#32
  let v8 : BitVec 1 := Scalar.cmpi .ne v7 c0_i32_3
  v8

def k0_off3 (i : grid0.Coords) : Fin 4 → Nat :=
  let c0_58 : Index := 0#32
  let arg1 : BitVec 32 := BitVec.ofNat 32 (i 1).val
  let v115 : Index := Scalar.indexCast arg1
  let c0_59 : Index := 0#32
  let c0_60 : Index := 0#32
  ![0, v115.toNat, 0, 0]
def k0_off4 (i : grid0.Coords) : Fin 4 → Nat :=
  let c1_62 : Index := 1#32
  let arg1 : BitVec 32 := BitVec.ofNat 32 (i 1).val
  let v120 : Index := Scalar.indexCast arg1
  let c0_63 : Index := 0#32
  let c0_64 : Index := 0#32
  ![1, v120.toNat, 0, 0]
def k0_off5 (i : grid0.Coords) : Fin 4 → Nat :=
  let c0 : Index := 0#32
  let arg1 : BitVec 32 := BitVec.ofNat 32 (i 1).val
  let v9 : Index := Scalar.indexCast arg1
  let c0_4 : Index := 0#32
  let c0_5 : Index := 0#32
  ![0, v9.toNat, 0, 0]
def k0_off6 (i : grid0.Coords) : Fin 4 → Nat :=
  let c1 : Index := 1#32
  let arg1 : BitVec 32 := BitVec.ofNat 32 (i 1).val
  let v60 : Index := Scalar.indexCast arg1
  let c0_29 : Index := 0#32
  let c0_30 : Index := 0#32
  ![1, v60.toNat, 0, 0]
def k0_cond4 (i : grid0.Coords) : BitVec 1 :=
  let arg1 : BitVec 32 := BitVec.ofNat 32 (i 1).val
  let c39_i32 : BitVec 32 := 39#32
  let v111 : BitVec 1 := Scalar.cmpi .eq arg1 c39_i32
  let v112 : BitVec 32 := Scalar.extui v111
  let c0_i32_56 : BitVec 32 := 0#32
  let v113 : BitVec 1 := Scalar.cmpi .ne v112 c0_i32_56
  v113

@[reducible] def k0_t1_loop : Scf.Loop 32 :=
  let c0_i32_67 : BitVec 32 := 0#32
  let c5_i32 : BitVec 32 := 5#32
  let v127 : BitVec 32 := Scalar.addi c0_i32_67 c5_i32
  let c1_i32 : BitVec 32 := 1#32
  ⟨c0_i32_67, v127, c1_i32⟩
def k0_mult1 (k0_t1 : Fin k0_t1_loop.trips) : BitVec 32 :=
  let c0_i32_67 : BitVec 32 := 0#32
  let c1_i32 : BitVec 32 := 1#32
  let arg14 : BitVec 32 := Scf.iv c0_i32_67 c1_i32 k0_t1
  let c8_i32 : BitVec 32 := 8#32
  let v142 : BitVec 32 := Scalar.muli arg14 c8_i32
  v142
def k0_off7 (k0_t1 : Fin k0_t1_loop.trips) (c0_i32_83 : BitVec 32) : Fin 4 → Nat :=
  let c0_84 : Index := 0#32
  let c0_i32_67 : BitVec 32 := 0#32
  let c1_i32 : BitVec 32 := 1#32
  let arg14 : BitVec 32 := Scf.iv c0_i32_67 c1_i32 k0_t1
  let c8_i32 : BitVec 32 := 8#32
  let v142 : BitVec 32 := Scalar.muli arg14 c8_i32
  let v143 : BitVec 32 := v142
  let v144 : BitVec 32 := Scalar.addi v143 c0_i32_83
  let v145 : Index := Scalar.indexCast v144
  let c0_85 : Index := 0#32
  let c0_86 : Index := 0#32
  ![0, v145.toNat, 0, 0]
def k0_off8 (k0_t1 : Fin k0_t1_loop.trips) (c0_i32_89 : BitVec 32) : Fin 3 → Nat :=
  let c0_91 : Index := 0#32
  let c0_i32_67 : BitVec 32 := 0#32
  let c1_i32 : BitVec 32 := 1#32
  let arg14 : BitVec 32 := Scf.iv c0_i32_67 c1_i32 k0_t1
  let c8_i32 : BitVec 32 := 8#32
  let v142 : BitVec 32 := Scalar.muli arg14 c8_i32
  let v143 : BitVec 32 := v142
  let v157 : BitVec 32 := Scalar.addi v143 c0_i32_89
  let c4_i32_90 : BitVec 32 := 4#32
  let v158 : BitVec 32 := Scalar.muli v157 c4_i32_90
  let v159 : Index := Scalar.indexCast v158
  let c0_92 : Index := 0#32
  ![0, v159.toNat, 0]
@[reducible] def k0_t2_loop : Scf.Loop 32 :=
  let c0_i32_79 : BitVec 32 := 0#32
  let c5_i32_80 : BitVec 32 := 5#32
  let v141 : BitVec 32 := Scalar.addi c0_i32_79 c5_i32_80
  let c1_i32_81 : BitVec 32 := 1#32
  ⟨c0_i32_79, v141, c1_i32_81⟩
def k0_mult2 (k0_t2 : Fin k0_t2_loop.trips) : BitVec 32 :=
  let c0_i32_79 : BitVec 32 := 0#32
  let c1_i32_81 : BitVec 32 := 1#32
  let arg14 : BitVec 32 := Scf.iv c0_i32_79 c1_i32_81 k0_t2
  let c8_i32 : BitVec 32 := 8#32
  let v142 : BitVec 32 := Scalar.muli arg14 c8_i32
  v142
def k0_off9 (k0_t2 : Fin k0_t2_loop.trips) (c0_i32_83 : BitVec 32) : Fin 4 → Nat :=
  let c1_84 : Index := 1#32
  let c0_i32_79 : BitVec 32 := 0#32
  let c1_i32_81 : BitVec 32 := 1#32
  let arg14 : BitVec 32 := Scf.iv c0_i32_79 c1_i32_81 k0_t2
  let c8_i32 : BitVec 32 := 8#32
  let v142 : BitVec 32 := Scalar.muli arg14 c8_i32
  let v143 : BitVec 32 := v142
  let v144 : BitVec 32 := Scalar.addi v143 c0_i32_83
  let v145 : Index := Scalar.indexCast v144
  let c0_85 : Index := 0#32
  let c0_86 : Index := 0#32
  ![1, v145.toNat, 0, 0]
def k0_off10 (k0_t2 : Fin k0_t2_loop.trips) (c0_i32_89 : BitVec 32) : Fin 3 → Nat :=
  let c128 : Index := 128#32
  let c0_i32_79 : BitVec 32 := 0#32
  let c1_i32_81 : BitVec 32 := 1#32
  let arg14 : BitVec 32 := Scf.iv c0_i32_79 c1_i32_81 k0_t2
  let c8_i32 : BitVec 32 := 8#32
  let v142 : BitVec 32 := Scalar.muli arg14 c8_i32
  let v143 : BitVec 32 := v142
  let v157 : BitVec 32 := Scalar.addi v143 c0_i32_89
  let c4_i32_90 : BitVec 32 := 4#32
  let v158 : BitVec 32 := Scalar.muli v157 c4_i32_90
  let v159 : Index := Scalar.indexCast v158
  let c0_91 : Index := 0#32
  ![128, v159.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.minsi arg1 c24_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.minsi arg1 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.minsi arg1 c24_i32
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x160x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Mlp2ReferenceIdeal.lean ====
abbrev S4096x3584 : Shape := ⟨2, ![4096, 3584]⟩
abbrev S4096 : Shape := ⟨1, ![4096]⟩
abbrev S3584x12800 : Shape := ⟨2, ![3584, 12800]⟩
abbrev S12800 : Shape := ⟨1, ![12800]⟩
abbrev S4096x160x128 : Shape := ⟨3, ![4096, 160, 128]⟩
abbrev S128 : Shape := ⟨1, ![128]⟩
abbrev S32x1x128 : Shape := ⟨3, ![32, 1, 128]⟩
abbrev S4096x12800 : Shape := ⟨2, ![4096, 12800]⟩
abbrev S4096x1 : Shape := ⟨2, ![4096, 1]⟩
abbrev S1x12800 : Shape := ⟨2, ![1, 12800]⟩
abbrev S4096x100x128 : Shape := ⟨3, ![4096, 100, 128]⟩
abbrev S4096x60x128 : Shape := ⟨3, ![4096, 60, 128]⟩
abbrev S4096x160 : Shape := ⟨2, ![4096, 160]⟩
abbrev S4096x160x1 : Shape := ⟨3, ![4096, 160, 1]⟩
abbrev S1x1x128 : Shape := ⟨3, ![1, 1, 128]⟩
abbrev S4096x1x1 : Shape := ⟨3, ![4096, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x3584, .fp8e4m3⟩
  | .hbm, ⟨1, _⟩ => ⟨S4096, .f32⟩
  | .hbm, ⟨2, _⟩ => ⟨S3584x12800, .fp8e4m3⟩
  | .hbm, ⟨3, _⟩ => ⟨S12800, .f32⟩
  | .hbm, ⟨4, _⟩ => ⟨S12800, .f32⟩
  | .hbm, ⟨5, _⟩ => ⟨S4096x160x128, .f32⟩
  | .hbm, ⟨6, _⟩ => ⟨S128, .f32⟩
  | .hbm, ⟨7, _⟩ => ⟨S128, .f32⟩
  | .hbm, ⟨8, _⟩ => ⟨S4096x160x128, .fp8e4m3⟩
  | .hbm, ⟨9, _⟩ => ⟨S32x1x128, .f32⟩
  | .local _ .vmem, ⟨0, _⟩ => ⟨S4096x3584, .fp8e4m3⟩
  | .local _ .vmem, ⟨1, _⟩ => ⟨S4096, .f32⟩
  | .local _ .vmem, ⟨2, _⟩ => ⟨S3584x12800, .fp8e4m3⟩
  | .local _ .vmem, ⟨3, _⟩ => ⟨S12800, .f32⟩
  | .local _ .vmem, ⟨4, _⟩ => ⟨S12800, .f32⟩
  | .local _ .vmem, ⟨5, _⟩ => ⟨S4096x160x128, .f32⟩
  | .local _ .vmem, ⟨6, _⟩ => ⟨S128, .f32⟩
  | .local _ .vmem, ⟨7, _⟩ => ⟨S128, .f32⟩
  | .local _ .vmem, ⟨8, _⟩ => ⟨S4096x160x128, .fp8e4m3⟩
  | .local _ .vmem, ⟨9, _⟩ => ⟨S32x1x128, .f32⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x12800 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x160x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Mlp1Frame.lean ====
/- The frame of the kernel at any value domain: the body runs from inputs at their blocks and outputs at anything, and hands
   the outputs back at some contents that nothing names. From that follow the run of the whole program, the arguments
   unchanged, and every semaphore counter at zero at the end. -/
module

public import proofs.«01_k».proof.Proof.Gen.Mlp1.Frame.Runs
public import Idealize.ShloMosaic.Lib.Claim

@[expose] public section

-- membership in a rectangle of production extents (`View.cover_of_tiled`): the elaborator's structural look
-- recurses once per coordinate of the long axes
set_option maxRecDepth 16384

noncomputable section

namespace Cert.Mlp1.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mlp1.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S512x7680 .fp8e4m3) (harg1 : arg1.IsWhole) (arg2 : Memref sig .tc .vmem S512x128 .f32) (harg2 : arg2.IsWhole) (arg3 : Memref sig .tc .vmem S7680x3584 .fp8e4m3) (harg3 : arg3.IsWhole) (arg4 : Memref sig .tc .vmem S1x3584 .f32) (harg4 : arg4.IsWhole) (arg5 : Memref sig .tc .vmem S1x3584 .f32) (harg5 : arg5.IsWhole) (arg6 : Memref sig .tc .vmem S512x3584 .fp8e4m3) (harg6 : arg6.IsWhole) (arg7 : Memref sig .tc .vmem S4x1x128 .f32) (harg7 : arg7.IsWhole) (arg8 : Memref sig .tc .vmem S512x128 .f32) (harg8 : arg8.IsWhole) (arg9 : Memref sig .tc .vmem S512x3584 .f32) (harg9 : arg9.IsWhole)
    (x0 : Vec F S512x7680 .fp8e4m3) (x1 : Vec F S512x128 .f32) (x2 : Vec F S7680x3584 .fp8e4m3) (x3 : Vec F S1x3584 .f32) (x4 : Vec F S1x3584 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mlp1 i arg1 harg1 arg2 harg2 arg3 harg3 arg4 harg4 arg5 harg5 arg6 harg6 arg7 harg7 arg8 harg8 arg9 harg9) K := by
    intro E K
    simp only [cc0_mlp1_eq_skeleton]; unfold cc0_mlp1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What input window 1 holds after a point's body: its block. -/
theorem after0_1 (c : Dev nD) (t : Fin cfg0.N) : (dats m 0 c).after 1 t = iblk m c 1 t := by dsimp only [dats]
/-- What input window 2 holds after a point's body: its block. -/
theorem after0_2 (c : Dev nD) (t : Fin cfg0.N) : (dats m 0 c).after 2 t = iblk m c 2 t := by dsimp only [dats]
/-- What input window 3 holds after a point's body: its block. -/
theorem after0_3 (c : Dev nD) (t : Fin cfg0.N) : (dats m 0 c).after 3 t = iblk m c 3 t := by dsimp only [dats]
/-- What input window 4 holds after a point's body: its block. -/
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What input window 1 holds before a point's body: its block. -/
theorem before0_1 (c : Dev nD) (t : Fin cfg0.N) (d) : (dats m 0 c).before 1 t d = iblk m c 1 t :=
  before0_1_of m (dats m 0 c) (A_eq m c 1) (after0_1 m c) t d
/-- What input window 2 holds before a point's body: its block. -/
theorem before0_2 (c : Dev nD) (t : Fin cfg0.N) (d) : (dats m 0 c).before 2 t d = iblk m c 2 t :=
  before0_2_of m (dats m 0 c) (A_eq m c 2) (after0_2 m c) t d
/-- What input window 3 holds before a point's body: its block. -/
theorem before0_3 (c : Dev nD) (t : Fin cfg0.N) (d) : (dats m 0 c).before 3 t d = iblk m c 3 t :=
  before0_3_of m (dats m 0 c) (A_eq m c 3) (after0_3 m c) t d
/-- What input window 4 holds before a point's body: its block. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Mlp1`, Defs.lean, at any `F`). -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forgotten m ρ (fun c => (dats m 0 c).toRForget forgets0) (A_eq m) (run_main m ρ)

/-- THE FRAME: `Cert.quiescent_Mlp1`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Mlp1.Run

end
-- ==== Proof.Mlp1Spec.lean ====
/- What the first layer of the feature network computes on one block of 512 rows, over the extended reals, index by
   index; and the arithmetic of the kernel's register values read at an index against it. -/
module

public import proofs.«01_k».proof.Proof.Gen.Mlp1Ideal.Skeleton
public import Idealize.ShloMosaic.Lib.Pipeline.Value
public import Idealize.ShloMosaic.Lib.Pipeline.ValueKit
public import Idealize.ShloMosaic.Lib.Pointwise

@[expose] public section

set_option maxRecDepth 16384

noncomputable section

namespace Cert.Mlp1Ideal.Block

open Idealize.ShloMosaic Idealize.ShloMosaic.TcCoe Cert.Mlp1Ideal

/-- The scale of a row whose largest activation is `a`: one if `a` is zero, else `a / 448`. -/
def scaleOf (a : EReal) : EReal :=
  Scalar.select (FloatOps.cmpf (F := Ideal) (φ := .f32) .oeq a (Ideal.ofBits .f32 0x00000000#32))
    (Ideal.ofBits .f32 0x3F800000#32) (Ideal.div a (Ideal.ofBits .f32 0x43E00000#32))

/-- The code of the activation `h` under the scale `s`: `h / s` clipped to `[-448, 448]`. -/
def codeOf (h s : EReal) : EReal :=
  min (Ideal.ofBits .f32 0x43E00000#32) (max (Ideal.ofBits .f32 0xC3E00000#32) (Ideal.div h s))

/-- One activation: the accumulated product `a` times the row's scale `s` and the column's scale `w`, plus the bias `b`,
    cut off below at zero. -/
def actOf (a s w b : EReal) : EReal := max (a * s * w + b) (Ideal.ofBits .f32 0x00000000#32)

section Spec
variable (x0 : Vec Ideal S512x7680 .fp8e4m3) (x1 : Vec Ideal S512x128 .f32) (x2 : Vec Ideal S7680x3584 .fp8e4m3)
  (x3 x4 : Vec Ideal S1x3584 .f32)

/-- The matrix product at row `r`, column `c`. -/
def ACC (r : Fin 512) (c : Fin 3584) : EReal := ∑ k : Fin 7680, x0 (ix2 r k) * x2 (ix2 k c)

/-- The activation at row `r`, column `c`. The row scales come repeated over 128 lanes; lane `c % 128` is used. -/
def ACT (r : Fin 512) (c : Fin 3584) : EReal :=
  actOf (ACC x0 x2 r c) (x1 (ix2 r ⟨c.val % 128, Nat.mod_lt _ (by omega)⟩)) (x3 (ix2 0 c)) (x4 (ix2 0 c))

/-- The largest activation of row `r`. -/
def AMAX (r : Fin 512) : EReal := Finset.univ.sup fun c : Fin 3584 => ACT x0 x1 x2 x3 x4 r c

/-- Row `r`'s scale. -/
def SCALE (r : Fin 512) : EReal := scaleOf (AMAX x0 x1 x2 x3 x4 r)

/-- The code at row `r`, column `c`. -/
def CODE (r : Fin 512) (c : Fin 3584) : EReal := codeOf (ACT x0 x1 x2 x3 x4 r c) (SCALE x0 x1 x2 x3 x4 r)
end Spec

/-! ## The register values at an index -/

/-- The product of the row block with one tile of 512 columns. -/
theorem pay2_apply (v91 : Vec Ideal S512x7680 .fp8e4m3) (v93 : Vec Ideal S7680x512 .fp8e4m3) (r : Fin 512) (c : Fin 512) :
    Gen.k0_pay2 v91 v93 (ix2 r c) = ∑ k : Fin 7680, v91 (ix2 r k) * v93 (ix2 k c) := by
  pointwise [Gen.k0_pay2]

/-- The activation of a tile of 128 rows and columns. -/
theorem pay12_apply (s a : Vec Ideal S128x128 .f32) (w b : Vec Ideal S1x128 .f32) (r l : Fin 128) :
    Gen.k0_pay12 s a w b (ix2 r l) = actOf (a (ix2 r l)) (s (ix2 r l)) (w (ix2 0 l)) (b (ix2 0 l)) := by
  pointwise [Gen.k0_pay12, actOf]

/-- The neutral element of the maximum. -/
theorem ofBits_negInf : Ideal.ofBits .f32 0xFF800000#32 = ⊥ := by simp [Ideal.ofBits, Ideal.ieee]

/-- The scales of a tile of 128 rows, repeated over the lanes. -/
theorem pay7_apply (v : FVec Ideal S128x128 .f32) (r l : Fin 128) :
    Gen.k0_pay7 v (ix2 r l) = scaleOf (Finset.univ.sup fun k : Fin 128 => v (ix2 r k)) := by
  pointwise [Gen.k0_pay7, scaleOf]
  rw [ofBits_negInf]
  rfl

/-- The scales of a tile of 128 rows, as one row. -/
theorem pay8_apply (v : FVec Ideal S128x128 .f32) (l : Fin 128) :
    Gen.k0_pay8 v (ix3 0 0 l) = scaleOf (Finset.univ.sup fun k : Fin 128 => v (ix2 l k)) := by
  rw [← pay7_apply v l 0]
  pointwise [Gen.k0_pay8]

/-- The codes of a tile of activations `a` under the scales `s`. -/
theorem pay1_apply (s a : FVec Ideal S128x128 .f32) (r l : Fin 128) :
    Gen.k0_pay1 s a (ix2 r l) = codeOf (a (ix2 r l)) (s (ix2 r l)) := by
  pointwise [Gen.k0_pay1, codeOf]

/-! The tiles of the four row blocks use the same register arithmetic, cut at different places. -/

/-- This value of the body is the one named. -/
theorem pay5_eq (s a : Vec Ideal S128x128 .f32) (w b : Vec Ideal S1x128 .f32) : Gen.k0_pay5 s a w b = Gen.k0_pay12 s a w b := by
  show shapeCast _ (Gen.k0_pay12 (shapeCast _ s _) a w b) _ = _; rw [shapeCast_self, shapeCast_self]
/-- This value of the body is the one named. -/
theorem pay6_eq (s acc a : Vec Ideal S128x128 .f32) (w b : Vec Ideal S1x128 .f32) :
    Gen.k0_pay6 s acc a w b = maximumf (φ := .f32) acc (Gen.k0_pay12 s a w b) := by
  show maximumf acc (Gen.k0_pay12 (shapeCast _ s _) a w b) = _; rw [shapeCast_self]
/-- This value of the body is the one named. -/
theorem pay13_eq (s a : Vec Ideal S128x128 .f32) (w b : Vec Ideal S1x128 .f32) :
    Gen.k0_pay13 (Gen.k0_pay10 s) a w b = Gen.k0_pay12 s a w b := by
  show shapeCast _ (Gen.k0_pay12 (shapeCast _ s _) a w b) _ = _; rw [shapeCast_self, shapeCast_self]
/-- This value of the body is the one named. -/
theorem pay14_eq (s acc a : Vec Ideal S128x128 .f32) (w b : Vec Ideal S1x128 .f32) :
    Gen.k0_pay14 (Gen.k0_pay10 s) acc a w b = maximumf (φ := .f32) acc (Gen.k0_pay12 s a w b) := by
  show maximumf acc (Gen.k0_pay12 (shapeCast _ s _) a w b) = _; rw [shapeCast_self]
/-- This value of the body is the one named. -/
theorem pay20_eq (s a : Vec Ideal S128x128 .f32) (w b : Vec Ideal S1x128 .f32) : Gen.k0_pay20 s a w b = Gen.k0_pay12 s a w b :=
  pay5_eq s a w b
/-- This value of the body is the one named. -/
theorem pay21_eq (s acc a : Vec Ideal S128x128 .f32) (w b : Vec Ideal S1x128 .f32) :
    Gen.k0_pay21 s acc a w b = maximumf (φ := .f32) acc (Gen.k0_pay12 s a w b) := pay6_eq s acc a w b
/-- This value of the body is the one named. -/
theorem pay31_eq (s a : Vec Ideal S128x128 .f32) (w b : Vec Ideal S1x128 .f32) : Gen.k0_pay31 s a w b = Gen.k0_pay12 s a w b :=
  pay5_eq s a w b
/-- This value of the body is the one named. -/
theorem pay32_eq (s acc a : Vec Ideal S128x128 .f32) (w b : Vec Ideal S1x128 .f32) :
    Gen.k0_pay32 s acc a w b = maximumf (φ := .f32) acc (Gen.k0_pay12 s a w b) := pay6_eq s acc a w b
/-- This value of the body is the one named. -/
theorem pay9_eq (v a : FVec Ideal S128x128 .f32) : Gen.k0_pay9 v a = Gen.k0_pay1 (Gen.k0_pay7 v) a := rfl
/-- This value of the body is the one named. -/
theorem pay15_eq (v : FVec Ideal S128x128 .f32) : Gen.k0_pay15 v = Gen.k0_pay7 v := rfl
/-- This value of the body is the one named. -/
theorem pay16_eq (v : FVec Ideal S128x128 .f32) : Gen.k0_pay16 v = Gen.k0_pay8 v := rfl
/-- This value of the body is the one named. -/
theorem pay17_eq (v a : FVec Ideal S128x128 .f32) : Gen.k0_pay17 v a = Gen.k0_pay1 (Gen.k0_pay7 v) a := rfl
/-- This value of the body is the one named. -/
theorem pay26_eq (v : FVec Ideal S128x128 .f32) :
    Gen.k0_pay26 (Gen.k0_pay23 v) (Gen.k0_pay24 v) Gen.k0_pay25 = Gen.k0_pay7 v := rfl
/-- This value of the body is the one named. -/
theorem pay27_eq (v : FVec Ideal S128x128 .f32) :
    Gen.k0_pay27 (Gen.k0_pay23 v) (Gen.k0_pay24 v) Gen.k0_pay25 = Gen.k0_pay8 v := rfl
/-- This value of the body is the one named. -/
theorem pay28_eq (v a : FVec Ideal S128x128 .f32) :
    Gen.k0_pay28 (Gen.k0_pay23 v) (Gen.k0_pay24 v) Gen.k0_pay25 a = Gen.k0_pay1 (Gen.k0_pay7 v) a := rfl
/-- This value of the body is the one named. -/
theorem pay33_eq (v : FVec Ideal S128x128 .f32) : Gen.k0_pay33 v = Gen.k0_pay7 v := rfl
/-- This value of the body is the one named. -/
theorem pay34_eq (v : FVec Ideal S128x128 .f32) : Gen.k0_pay34 v = Gen.k0_pay8 v := rfl
/-- The running maximum starts from zero. -/
theorem pay3_apply (r l : Fin 128) : Gen.k0_pay3 (F := Ideal) (ix2 r l) = 0 := by
  pointwise [Gen.k0_pay3]
/-- This value of the body is the one named. -/
theorem pay11_eq : Gen.k0_pay11 (F := Ideal) = Gen.k0_pay3 := rfl
/-- This value of the body is the one named. -/
theorem pay18_eq : Gen.k0_pay18 (F := Ideal) = Gen.k0_pay3 := rfl
/-- This value of the body is the one named. -/
theorem pay29_eq : Gen.k0_pay29 (F := Ideal) = Gen.k0_pay3 := rfl

end Cert.Mlp1Ideal.Block

end
-- ==== Proof.Tiles.lean ====
/- Loads and stores of a rectangle of a two-axis array, read at an index written by its two coordinates. -/
module

public import Idealize.ShloMosaic.Lib.WritesUnit
public import Idealize.ShloMosaic.Lib.Pointwise

@[expose] public section

namespace Cert.Tiles

open Idealize.ShloMosaic

variable {sig : RefSig} {κ : Kind} {sp : Space} {e : EltTy} {Val : EltTy → Type} {D0 D1 N0 N1 : ℕ}

/-- After a store at a rectangle, an index inside reads the stored tile. -/
theorem read_writes_in (v : View sig κ sp ⟨2, ![D0, D1]⟩ e) (f : v.ty.Contents Val) {o0 o1 : ℕ}
    (inb : ∀ a : Fin 2, (![o0, o1] : Fin 2 → ℕ) a + (![N0, N1] : Fin 2 → ℕ) a ≤ (![D0, D1] : Fin 2 → ℕ) a)
    (w : (⟨2, ![N0, N1]⟩ : Shape).Idx → Val e) (L : List (View.Piece Val ⟨2, ![D0, D1]⟩ e)) (r : Fin D0) (j : Fin D1) (a : Fin N0) (b : Fin N1)
    (hr : r.val = o0 + a.val) (hj : j.val = o1 + b.val) :
    v.read Val (v.writes Val f (⟨Rect.unit (s := ⟨2, ![D0, D1]⟩) ![o0, o1] ![N0, N1] inb, w⟩ :: L)) (ix2 r j) = w (ix2 a b) :=
  View.read_writes_cons_unit_of_mem v f inb w L (ix2 r j) (ix2 a b) rfl
    (Fin.forall_fin_two.mpr ⟨hr, hj⟩)

/-- After a store at a rectangle, an index outside reads what was there. -/
theorem read_writes_out (v : View sig κ sp ⟨2, ![D0, D1]⟩ e) (f : v.ty.Contents Val) {o0 o1 : ℕ}
    (inb : ∀ a : Fin 2, (![o0, o1] : Fin 2 → ℕ) a + (![N0, N1] : Fin 2 → ℕ) a ≤ (![D0, D1] : Fin 2 → ℕ) a)
    (w : (⟨2, ![N0, N1]⟩ : Shape).Idx → Val e) (L : List (View.Piece Val ⟨2, ![D0, D1]⟩ e)) (r : Fin D0) (j : Fin D1)
    (h : r.val < o0 ∨ o0 + N0 ≤ r.val ∨ j.val < o1 ∨ o1 + N1 ≤ j.val) :
    v.read Val (v.writes Val f (⟨Rect.unit (s := ⟨2, ![D0, D1]⟩) ![o0, o1] ![N0, N1] inb, w⟩ :: L)) (ix2 r j)
      = v.read Val (v.writes Val f L) (ix2 r j) := by
  by_cases h0 : r.val < o0 ∨ o0 + N0 ≤ r.val
  · exact View.read_writes_cons_unit_of_not_mem v f inb w L (ix2 r j) rfl (0 : Fin 2) h0
  · exact View.read_writes_cons_unit_of_not_mem v f inb w L (ix2 r j) rfl (1 : Fin 2) (by
      have h1 : j.val < o1 ∨ o1 + N1 ≤ j.val := by omega
      exact h1)

/-- A load of a rectangle, at an index, reads the array at the shifted index. -/
theorem readAt_unit (v : View sig κ sp ⟨2, ![D0, D1]⟩ e) (f : v.ty.Contents Val) {o0 o1 : ℕ}
    (inb : ∀ a : Fin 2, (![o0, o1] : Fin 2 → ℕ) a + (![N0, N1] : Fin 2 → ℕ) a ≤ (![D0, D1] : Fin 2 → ℕ) a)
    (a : Fin N0) (b : Fin N1) (r : Fin D0) (j : Fin D1) (hr : r.val = o0 + a.val) (hj : j.val = o1 + b.val) :
    v.readAt Val (Rect.unit (s := ⟨2, ![D0, D1]⟩) ![o0, o1] ![N0, N1] inb).toLoadRect f (ix2 a b) = v.read Val f (ix2 r j) := by
  rw [View.readAt_apply]
  refine congrArg _ (funext fun x => Fin.ext ?_)
  match x with
  | ⟨0, _⟩ => exact (show o0 + 1 * a.val = r.val by omega)
  | ⟨1, _⟩ => exact (show o1 + 1 * b.val = j.val by omega)

end Cert.Tiles
-- ==== Proof.Mlp1Steps.lean ====
/- One trip of each of the kernel's loops: the tile of the matrix product, the tile of activations with the running
   row maximum, the tile of codes. Each is stated once, for any tile, and used at every loop of its kind. -/
module

public import proofs.«01_k».proof.Proof.Mlp1Spec
public import proofs.«01_k».proof.Proof.Gen.Mlp1Ideal.Launch
public import Idealize.ShloMosaic.Lib.Pipeline.FrameBody
public import proofs.«01_k».proof.Proof.Tiles
public import Idealize.ShloMosaic.Lib.Ring
public import Idealize.ShloMosaic.Lib.Tactic
public import Idealize.ShloMosaic.Lib.WordCmp

@[expose] public section

set_option maxRecDepth 16384

noncomputable section

namespace Cert.Mlp1Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp1Ideal Cert.Mlp1Ideal.Gen Cert.Tiles

local notation "𝕄" => MT nD τ sig Unit (Elt Ideal) ℕ (UR sig nD τ) ℕ

section Steps
variable (c : Dev nD) (E : Set ℕ)
  (arg1 : Memref sig .tc .vmem S512x7680 .fp8e4m3) (arg3 : Memref sig .tc .vmem S7680x3584 .fp8e4m3)
  (arg4 arg5 : Memref sig .tc .vmem S1x3584 .f32) (arg6 : Memref sig .tc .vmem S512x3584 .fp8e4m3) (arg9 : Memref sig .tc .vmem S512x3584 .f32)
  (x0 : Vec Ideal S512x7680 .fp8e4m3) (x1 : Vec Ideal S512x128 .f32) (x2 : Vec Ideal S7680x3584 .fp8e4m3)
  (x3 x4 : Vec Ideal S1x3584 .f32)

/-- A whole buffer held at contents read as `x`. -/
abbrev held {s : Shape} {e : EltTy} (c : Dev nD) (a : Memref sig .tc .vmem s e) (x : s.Idx → Elt Ideal e) : sProp 𝕄 :=
  iprop(∃ f, ⌜a.view.read (Elt Ideal) f = x⌝ ∗ (a.view.loc (c : Thread nD τ) ↦[a.view.set]{fullShare} f))

/-- A whole buffer held at contents read as some `x` with `P x`. -/
abbrev heldP {s : Shape} {e : EltTy} (c : Dev nD) (a : Memref sig .tc .vmem s e) (P : (s.Idx → Elt Ideal e) → Prop) : sProp 𝕄 :=
  iprop(∃ f, ⌜P (a.view.read (Elt Ideal) f)⌝ ∗ (a.view.loc (c : Thread nD τ) ↦[a.view.set]{fullShare} f))

/-- Before tile `k` of the product: the columns of the tiles before are done. -/
def mmInv (k : ℕ) : sProp 𝕄 :=
  iprop(held c arg1 x0 ∗ held c arg3 x2
    ∗ heldP c arg9 fun y => ∀ r : Fin 512, ∀ j : Fin 3584, j.val < 512 * k → y (ix2 r j) = ACC x0 x2 r j)

/-- One trip of the product's loop. -/
theorem mm_step (k : ℕ) (hk : k < 7) (off1 off2 : Fin 2 → ℕ) (inb1) (inb2) (h1 : off1 = ![0, 512 * k]) (h2 : off2 = ![0, 512 * k]) :
    mmInv c arg1 arg3 arg9 x0 x2 k ⊢ wp frame (wpE (defs₀ (F := Ideal)) Variants.none c none) E
      (do
        let v91 : Vec Ideal S512x7680 .fp8e4m3 ← Prog.lift (.load arg1 (Rect.unit (s := S512x7680) ![0, 0] S512x7680.size inb_S512x7680_S512x7680_0_0).toLoadRect (View.loadsAt_vmem h_S512x7680))
        let v93 : Vec Ideal S7680x512 .fp8e4m3 ← Prog.lift (.load arg3 (Rect.unit (s := S7680x3584) off1 S7680x512.size inb1).toLoadRect (View.loadsAt_vmem h_S7680x512))
        let v96 : Vec Ideal S512x512 .f32 ← Prog.lift (.load arg9 (Rect.unit (s := S512x3584) off2 S512x512.size inb2).toLoadRect (View.loadsAt_vmem h_S512x512))
        Prog.lift (.store arg9 (Rect.unit (s := S512x3584) off2 S512x512.size inb2) (k0_pay2 v91 v93) Finset.univ (View.stores_vmem_bits_univ h_S512x512 rfl) (.inl rfl))
        pure ⟨⟩ : Prog (TpuEff nD τ sig (Elt Ideal) Λ₀ .tc) Unit)
      (fun _ => mmInv c arg1 arg3 arg9 x0 x2 (k + 1)) := by
  subst h1 h2
  unfold mmInv held heldP
  iintro ⟨⟨%f1, %hf1, H1⟩, ⟨%f3, %hf3, H3⟩, ⟨%f9, %hf9, H9⟩⟩
  sl_exec
  sl_step
  subst hf1 hf3
  isplitl [H1]; · iexists f1; isplitr; · ipureintro; rfl
                  iexact H1
  isplitl [H3]; · iexists f3; isplitr; · ipureintro; rfl
                  iexact H3
  iexists _; isplitr; swap; · iexact H9
  ipureintro
  intro r j hj
  by_cases h : j.val < 512 * k
  · rw [read_writes_out _ _ _ _ _ _ _ (by omega)]; exact hf9 r j h
  · rw [read_writes_in _ _ _ _ _ r j r ⟨j.val - 512 * k, by omega⟩ (by omega) (by simp; omega)]
    rw [pay2_apply]
    refine Finset.sum_congr rfl fun x _ => ?_
    rw [readAt_unit _ _ _ r x r x (by omega) (by omega), readAt_unit _ _ _ x _ x j (by omega) (by simp; omega)]

/-- Before tile `k` of the activations of row block `q`: the tiles of the earlier blocks, and of this block's earlier
    columns, hold activations; the others the matrix product. The running maximum `v` bounds zero and this block's
    activations so far, each in its lane. -/
def actInv (q k : ℕ) (v : FVec Ideal S128x128 .f32) : sProp 𝕄 :=
  iprop(held c arg4 x3 ∗ held c arg5 x4
    ∗ heldP c arg9 (fun y => ∀ r : Fin 512, ∀ j : Fin 3584, y (ix2 r j)
        = if r.val < 128 * q ∨ (r.val < 128 * q + 128 ∧ j.val < 128 * k) then ACT x0 x1 x2 x3 x4 r j else ACC x0 x2 r j)
    ∗ ⌜∀ a l : Fin 128, ∀ b : EReal, v (ix2 a l) ≤ b ↔ 0 ≤ b ∧ ∀ r : Fin 512, r.val = 128 * q + a.val →
        ∀ j : Fin 3584, j.val < 128 * k → j.val % 128 = l.val → ACT x0 x1 x2 x3 x4 r j ≤ b⌝)

/-- One trip of an activation loop. -/
theorem act_step (q k : ℕ) (hq : q < 4) (hk : k < 28) (off3 off4 : Fin 2 → ℕ) (inb3) (inb4)
    (h3 : off3 = ![128 * q, 128 * k]) (h4 : off4 = ![0, 128 * k])
    (s : Vec Ideal S128x128 .f32) (hs : ∀ a l : Fin 128, ∀ r : Fin 512, r.val = 128 * q + a.val → s (ix2 a l) = x1 (ix2 r l))
    (pay : Vec Ideal S128x128 .f32 → Vec Ideal S1x128 .f32 → Vec Ideal S1x128 .f32 → FVec Ideal S128x128 .f32)
    (hpay : ∀ a w b, pay a w b = k0_pay12 s a w b)
    (acc : FVec Ideal S128x128 .f32)
    (cry : Vec Ideal S128x128 .f32 → Vec Ideal S1x128 .f32 → Vec Ideal S1x128 .f32 → FVec Ideal S128x128 .f32)
    (hcry : ∀ a w b, cry a w b = maximumf (φ := .f32) acc (k0_pay12 s a w b)) :
    actInv c arg4 arg5 arg9 x0 x1 x2 x3 x4 q k acc ⊢ wp frame (wpE (defs₀ (F := Ideal)) Variants.none c none) E
      (do
        let v92 : Vec Ideal S128x128 .f32 ← Prog.lift (.load arg9 (Rect.unit (s := S512x3584) off3 S128x128.size inb3).toLoadRect (View.loadsAt_vmem h_S128x128))
        let v95 : Vec Ideal S1x128 .f32 ← Prog.lift (.load arg4 (Rect.unit (s := S1x3584) off4 S1x128.size inb4).toLoadRect (View.loadsAt_vmem h_S1x128))
        let v100 : Vec Ideal S1x128 .f32 ← Prog.lift (.load arg5 (Rect.unit (s := S1x3584) off4 S1x128.size inb4).toLoadRect (View.loadsAt_vmem h_S1x128))
        let v107 : Vec Ideal S128x128 .f32 ← Prog.lift (.load arg9 (Rect.unit (s := S512x3584) off3 S128x128.size inb3).toLoadRect (View.loadsAt_vmem h_S128x128))
        Prog.lift (.store arg9 (Rect.unit (s := S512x3584) off3 S128x128.size inb3) (pay v92 v95 v100) Finset.univ (View.stores_vmem_bits_univ h_S128x128 rfl) (.inl rfl))
        pure (cry v92 v95 v100) : Prog (TpuEff nD τ sig (Elt Ideal) Λ₀ .tc) (FVec Ideal S128x128 .f32))
      (actInv c arg4 arg5 arg9 x0 x1 x2 x3 x4 q (k + 1)) := by
  subst h3 h4
  unfold actInv held heldP
  iintro ⟨⟨%f4, %hf4, H4⟩, ⟨%f5, %hf5, H5⟩, ⟨%f9, %hf9, H9⟩, %hacc⟩
  sl_exec
  sl_step
  subst hf4 hf5
  -- the tile's activations, in terms of the array's
  have key : ∀ a l : Fin 128, ∀ r : Fin 512, ∀ j : Fin 3584, r.val = 128 * q + a.val → j.val = 128 * k + l.val →
      k0_pay12 (F := Ideal) s (View.readAt (Elt Ideal) arg9.view (Rect.unit (s := S512x3584) ![128 * q, 128 * k] S128x128.size inb3).toLoadRect f9)
        (View.readAt (Elt Ideal) arg4.view (Rect.unit (s := S1x3584) ![0, 128 * k] S1x128.size inb4).toLoadRect f4)
        (View.readAt (Elt Ideal) arg5.view (Rect.unit (s := S1x3584) ![0, 128 * k] S1x128.size inb4).toLoadRect f5) (ix2 a l)
      = ACT x0 x1 x2 (View.read (Elt Ideal) arg4.view f4) (View.read (Elt Ideal) arg5.view f5) r j := by
    intro a l r j hr hj
    rw [pay12_apply, readAt_unit _ _ _ a l r j hr hj, readAt_unit _ _ _ 0 l 0 j rfl hj, readAt_unit _ _ _ 0 l 0 j rfl hj,
      hs a l r hr, hf9 r j, if_neg (by omega)]
    unfold ACT
    rw [show (⟨j.val % 128, Nat.mod_lt _ (by omega)⟩ : Fin 128) = l from Fin.ext (show j.val % 128 = l.val by omega)]
  isplitl [H4]; · iexists f4; isplitr; · ipureintro; rfl
                  iexact H4
  isplitl [H5]; · iexists f5; isplitr; · ipureintro; rfl
                  iexact H5
  isplitl [H9]
  · iexists _; isplitr; swap; · iexact H9
    ipureintro
    intro r j
    by_cases h : 128 * q ≤ r.val ∧ r.val < 128 * q + 128 ∧ 128 * k ≤ j.val ∧ j.val < 128 * k + 128
    · rw [read_writes_in _ _ _ _ _ r j ⟨r.val - 128 * q, by omega⟩ ⟨j.val - 128 * k, by omega⟩ (by simp; omega) (by simp; omega),
        if_pos (by omega), hpay]
      exact key _ _ r j (by simp; omega) (by simp; omega)
    · rw [read_writes_out _ _ _ _ _ r j (by omega)]
      refine (hf9 r j).trans ?_
      by_cases h' : r.val < 128 * q ∨ (r.val < 128 * q + 128 ∧ j.val < 128 * k)
      · rw [if_pos h', if_pos (by omega)]
      · rw [if_neg h', if_neg (by omega)]
  · ipureintro
    intro a l b
    rw [hcry, ValueIdx.maximumf_apply, key a l ⟨128 * q + a.val, by omega⟩ ⟨128 * k + l.val, by omega⟩ rfl rfl, max_le_iff, hacc a l b]
    constructor
    · rintro ⟨⟨h0, h1⟩, h2⟩
      refine ⟨h0, fun r hr j hj hl => ?_⟩
      by_cases hjk : j.val < 128 * k
      · exact h1 r hr j hjk hl
      · have er : r = ⟨128 * q + a.val, by omega⟩ := Fin.ext hr
        have ej : j = ⟨128 * k + l.val, by omega⟩ := Fin.ext (show j.val = 128 * k + l.val by omega)
        rw [er, ej]; exact h2
    · rintro ⟨h0, h1⟩
      exact ⟨⟨h0, fun r hr j hj hl => h1 r hr j (by omega) hl⟩,
        h1 _ rfl _ (show 128 * k + l.val < 128 * (k + 1) by omega) (show (128 * k + l.val) % 128 = l.val by omega)⟩

/-- Before tile `k` of the codes of row block `q`: the codes of the earlier blocks and of this block's earlier columns
    are stored. -/
def codeInv (q k : ℕ) : sProp 𝕄 :=
  iprop(heldP c arg9 (fun y => ∀ r : Fin 512, ∀ j : Fin 3584, y (ix2 r j)
        = if r.val < 128 * q + 128 then ACT x0 x1 x2 x3 x4 r j else ACC x0 x2 r j)
    ∗ heldP c arg6 (fun y => ∀ r : Fin 512, ∀ j : Fin 3584,
        r.val < 128 * q ∨ (r.val < 128 * q + 128 ∧ j.val < 128 * k) → y (ix2 r j) = CODE x0 x1 x2 x3 x4 r j))

/-- One trip of a code loop. -/
theorem code_step (q k : ℕ) (hq : q < 4) (hk : k < 28) (off : Fin 2 → ℕ) (inb) (h : off = ![128 * q, 128 * k]) (hst) (hst')
    (s : Vec Ideal S128x128 .f32) (hs : ∀ a l : Fin 128, ∀ r : Fin 512, r.val = 128 * q + a.val → s (ix2 a l) = SCALE x0 x1 x2 x3 x4 r)
    (pay : Vec Ideal S128x128 .f32 → FVec Ideal S128x128 .fp8e4m3) (hpay : ∀ a, pay a = k0_pay1 s a) :
    codeInv c arg6 arg9 x0 x1 x2 x3 x4 q k ⊢ wp frame (wpE (defs₀ (F := Ideal)) Variants.none c none) E
      (do
        let v92 : Vec Ideal S128x128 .f32 ← Prog.lift (.load arg9 (Rect.unit (s := S512x3584) off S128x128.size inb).toLoadRect (View.loadsAt_vmem h_S128x128))
        let v100 : Vec Ideal S128x128 .fp8e4m3 ← Prog.lift (.load arg6 (Rect.unit (s := S512x3584) off S128x128.size inb).toLoadRect (View.loadsAt_vmem h_S128x128))
        Prog.lift (.store arg6 (Rect.unit (s := S512x3584) off S128x128.size inb) (pay v92) Finset.univ hst hst')
        pure ⟨⟩ : Prog (TpuEff nD τ sig (Elt Ideal) Λ₀ .tc) Unit)
      (fun _ => codeInv c arg6 arg9 x0 x1 x2 x3 x4 q (k + 1)) := by
  subst h
  unfold codeInv heldP
  iintro ⟨⟨%f9, %hf9, H9⟩, ⟨%f6, %hf6, H6⟩⟩
  sl_exec
  sl_step
  isplitl [H9]
  · iexists f9; isplitr; · ipureintro; exact hf9
    iexact H9
  iexists _; isplitr; swap; · iexact H6
  ipureintro
  intro r j hrj
  by_cases h : 128 * q ≤ r.val ∧ r.val < 128 * q + 128 ∧ 128 * k ≤ j.val ∧ j.val < 128 * k + 128
  · rw [read_writes_in _ _ _ _ _ r j ⟨r.val - 128 * q, by omega⟩ ⟨j.val - 128 * k, by omega⟩ (by simp; omega) (by simp; omega),
      hpay, pay1_apply, hs _ _ r (by simp; omega), readAt_unit _ _ _ _ _ r j (by simp; omega) (by simp; omega), hf9 r j, if_pos (by omega)]
    rfl
  · rw [read_writes_out _ _ _ _ _ r j (by omega)]
    exact hf6 r j (by omega)

/-! ## Between the loops -/

/-- Before the first trip of an activation loop nothing is overwritten and the maximum is zero. -/
theorem actInv_zero (q : ℕ) (hq : q < 4) (f4 f5 f9) (h4 : arg4.view.read (Elt Ideal) f4 = x3) (h5 : arg5.view.read (Elt Ideal) f5 = x4)
    (h9 : ∀ r : Fin 512, ∀ j : Fin 3584, arg9.view.read (Elt Ideal) f9 (ix2 r j) = if r.val < 128 * q then ACT x0 x1 x2 x3 x4 r j else ACC x0 x2 r j) :
    iprop((arg4.view.loc (c : Thread nD τ) ↦[arg4.view.set]{fullShare} f4) ∗ (arg5.view.loc (c : Thread nD τ) ↦[arg5.view.set]{fullShare} f5)
      ∗ (arg9.view.loc (c : Thread nD τ) ↦[arg9.view.set]{fullShare} f9)) ⊢ (actInv c arg4 arg5 arg9 x0 x1 x2 x3 x4 q 0 k0_pay3 : sProp 𝕄) := by
  unfold actInv held heldP
  iintro ⟨H4, H5, H9⟩
  isplitl [H4]; · iexists f4; isplitr; · ipureintro; exact h4
                  iexact H4
  isplitl [H5]; · iexists f5; isplitr; · ipureintro; exact h5
                  iexact H5
  isplitl [H9]
  · iexists f9; isplitr; swap; · iexact H9
    ipureintro
    intro r j
    refine (h9 r j).trans ?_
    by_cases h : r.val < 128 * q
    · rw [if_pos h, if_pos (by omega)]
    · rw [if_neg h, if_neg (by omega)]
  · ipureintro
    intro a l b
    rw [pay3_apply]
    exact ⟨fun h => ⟨h, fun r hr j hj => absurd hj (by omega)⟩, fun h => h.1⟩

/-- An activation is not negative. -/
theorem ACT_nonneg (r : Fin 512) (j : Fin 3584) : 0 ≤ ACT x0 x1 x2 x3 x4 r j := by
  unfold ACT actOf
  rw [Ideal.ofBits_zero_f32]
  exact le_max_right _ _

/-- After the last tile the running maximum, taken over the lanes, is the row's largest activation. -/
theorem sup_eq_AMAX (q : ℕ) (v : FVec Ideal S128x128 .f32)
    (hv : ∀ a l : Fin 128, ∀ b : EReal, v (ix2 a l) ≤ b ↔ 0 ≤ b ∧ ∀ r : Fin 512, r.val = 128 * q + a.val →
        ∀ j : Fin 3584, j.val < 128 * 28 → j.val % 128 = l.val → ACT x0 x1 x2 x3 x4 r j ≤ b)
    (a : Fin 128) (r : Fin 512) (hr : r.val = 128 * q + a.val) :
    (Finset.univ.sup fun l : Fin 128 => (v (ix2 a l) : EReal)) = AMAX x0 x1 x2 x3 x4 r := by
  refine eq_of_forall_ge_iff fun b => ?_
  unfold AMAX
  rw [Finset.sup_le_iff, Finset.sup_le_iff]
  constructor
  · intro h j _
    exact ((hv a ⟨j.val % 128, Nat.mod_lt _ (by omega)⟩ b).mp (h _ (Finset.mem_univ _))).2 r hr j (by omega) rfl
  · intro h l _
    refine (hv a l b).mpr ⟨(ACT_nonneg x0 x1 x2 x3 x4 r 0).trans (h 0 (Finset.mem_univ _)), fun r' hr' j _ _ => ?_⟩
    rw [show r' = r from Fin.ext (hr'.trans hr.symm)]
    exact h j (Finset.mem_univ _)

/-- What holds after the activations of a row block. -/
theorem actInv_last (q : ℕ) (hq : q < 4) {n : ℕ} (hn : n = 28) (v : FVec Ideal S128x128 .f32) :
    (actInv c arg4 arg5 arg9 x0 x1 x2 x3 x4 q n v : sProp 𝕄) ⊢ iprop(held c arg4 x3 ∗ held c arg5 x4
      ∗ heldP c arg9 (fun y => ∀ r : Fin 512, ∀ j : Fin 3584, y (ix2 r j)
        = if r.val < 128 * q + 128 then ACT x0 x1 x2 x3 x4 r j else ACC x0 x2 r j)
      ∗ ⌜∀ a l : Fin 128, ∀ r : Fin 512, r.val = 128 * q + a.val → k0_pay7 v (ix2 a l) = SCALE x0 x1 x2 x3 x4 r⌝) := by
  subst hn
  unfold actInv held heldP
  iintro ⟨H4, H5, ⟨%f9, %hf9, H9⟩, %hacc⟩
  isplitl [H4]; · iexact H4
  isplitl [H5]; · iexact H5
  isplitl [H9]
  · iexists f9; isplitr; swap; · iexact H9
    ipureintro
    intro r j
    refine (hf9 r j).trans ?_
    by_cases h : r.val < 128 * q + 128
    · rw [if_pos h, if_pos (by omega)]
    · rw [if_neg h, if_neg (by omega)]
  · ipureintro
    intro a l r hr
    rw [pay7_apply]
    exact congrArg scaleOf (sup_eq_AMAX x0 x1 x2 x3 x4 q v hacc a r hr)

/-- Entering the codes of a row block. -/
theorem codeInv_zero (q : ℕ) (hq : q < 4) (f6 f9)
    (h9 : ∀ r : Fin 512, ∀ j : Fin 3584, arg9.view.read (Elt Ideal) f9 (ix2 r j) = if r.val < 128 * q + 128 then ACT x0 x1 x2 x3 x4 r j else ACC x0 x2 r j)
    (h6 : ∀ r : Fin 512, ∀ j : Fin 3584, r.val < 128 * q → arg6.view.read (Elt Ideal) f6 (ix2 r j) = CODE x0 x1 x2 x3 x4 r j) :
    iprop((arg6.view.loc (c : Thread nD τ) ↦[arg6.view.set]{fullShare} f6) ∗ (arg9.view.loc (c : Thread nD τ) ↦[arg9.view.set]{fullShare} f9))
      ⊢ (codeInv c arg6 arg9 x0 x1 x2 x3 x4 q 0 : sProp 𝕄) := by
  unfold codeInv heldP
  iintro ⟨H6, H9⟩
  isplitl [H9]
  · iexists f9; isplitr; swap; · iexact H9
    ipureintro; exact h9
  · iexists f6; isplitr; swap; · iexact H6
    ipureintro; intro r j h; exact h6 r j (by omega)

/-- What holds after the codes of a row block. -/
theorem codeInv_last (q : ℕ) (hq : q < 4) {n : ℕ} (hn : n = 28) :
    (codeInv c arg6 arg9 x0 x1 x2 x3 x4 q n : sProp 𝕄) ⊢ iprop(
      heldP c arg9 (fun y => ∀ r : Fin 512, ∀ j : Fin 3584, y (ix2 r j)
        = if r.val < 128 * (q + 1) then ACT x0 x1 x2 x3 x4 r j else ACC x0 x2 r j)
      ∗ heldP c arg6 (fun y => ∀ r : Fin 512, ∀ j : Fin 3584, r.val < 128 * (q + 1) → y (ix2 r j) = CODE x0 x1 x2 x3 x4 r j)) := by
  subst hn
  unfold codeInv heldP
  iintro ⟨⟨%f9, %hf9, H9⟩, ⟨%f6, %hf6, H6⟩⟩
  isplitl [H9]
  · iexists f9; isplitr; swap; · iexact H9
    ipureintro; exact hf9
  · iexists f6; isplitr; swap; · iexact H6
    ipureintro; intro r j h; exact hf6 r j (by omega)

end Steps

end Cert.Mlp1Ideal.Block

end
-- ==== Proof.Mlp1Body.lean ====
/- The kernel's body on one block of 512 rows: the codes, the scales as rows and the scales as columns it leaves are the
   ones the layer defines. -/
module

public import proofs.«01_k».proof.Proof.Mlp1Steps
public import proofs.«01_k».proof.Proof.Gen.Mlp1Ideal.Points

@[expose] public section

set_option maxRecDepth 16384

noncomputable section

namespace Cert.Mlp1Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp1Ideal Cert.Mlp1Ideal.Gen Cert.Tiles

local notation "𝕄" => MT nD τ sig Unit (Elt Ideal) ℕ (UR sig nD τ) ℕ

/-- Where the body reads or writes, in plain numbers. -/
theorem off1_eq (k : Fin k0_t1_loop.trips) : k0_off1 k = ![0, 512 * k.val] := by revert k; decide +kernel
/-- Where the body reads or writes, in plain numbers. -/
theorem off2_eq (k : Fin k0_t1_loop.trips) : k0_off2 k = ![0, 512 * k.val] := by revert k; decide +kernel
/-- Where the body reads or writes, in plain numbers. -/
theorem off3_eq (k : Fin k0_t2_loop.trips) : k0_off3 k = ![128 * 0, 128 * k.val] := by revert k; decide +kernel
/-- Where the body reads or writes, in plain numbers. -/
theorem off4_eq (k : Fin k0_t2_loop.trips) : k0_off4 k = ![0, 128 * k.val] := by revert k; decide +kernel
/-- Where the body reads or writes, in plain numbers. -/
theorem off5_eq (k : Fin k0_t3_loop.trips) : k0_off5 k = ![128 * 0, 128 * k.val] := by revert k; decide +kernel
/-- Where the body reads or writes, in plain numbers. -/
theorem off6_eq (k : Fin k0_t4_loop.trips) : k0_off6 k = ![128 * 1, 128 * k.val] := by revert k; decide +kernel
/-- Where the body reads or writes, in plain numbers. -/
theorem off7_eq (k : Fin k0_t4_loop.trips) : k0_off7 k = ![0, 128 * k.val] := by revert k; decide +kernel
/-- Where the body reads or writes, in plain numbers. -/
theorem off8_eq (k : Fin k0_t5_loop.trips) : k0_off8 k = ![128 * 1, 128 * k.val] := by revert k; decide +kernel
/-- Where the body reads or writes, in plain numbers. -/
theorem off9_eq (k : Fin k0_t6_loop.trips) : k0_off9 k = ![128 * 2, 128 * k.val] := by revert k; decide +kernel
/-- Where the body reads or writes, in plain numbers. -/
theorem off10_eq (k : Fin k0_t6_loop.trips) : k0_off10 k = ![0, 128 * k.val] := by revert k; decide +kernel
/-- Where the body reads or writes, in plain numbers. -/
theorem off11_eq (k : Fin k0_t7_loop.trips) : k0_off11 k = ![128 * 2, 128 * k.val] := by revert k; decide +kernel
/-- Where the body reads or writes, in plain numbers. -/
theorem off12_eq (k : Fin k0_t8_loop.trips) : k0_off12 k = ![128 * 3, 128 * k.val] := by revert k; decide +kernel
/-- Where the body reads or writes, in plain numbers. -/
theorem off13_eq (k : Fin k0_t8_loop.trips) : k0_off13 k = ![0, 128 * k.val] := by revert k; decide +kernel
/-- Where the body reads or writes, in plain numbers. -/
theorem off14_eq (k : Fin k0_t9_loop.trips) : k0_off14 k = ![128 * 3, 128 * k.val] := by revert k; decide +kernel

/-- The number of the loop's trips. -/
theorem t2_trips : Scf.trips k0_t2_loop.lb k0_t2_loop.ub k0_t2_loop.st = 28 := by decide
/-- The number of the loop's trips. -/
theorem t3_trips : Scf.trips k0_t3_loop.lb k0_t3_loop.ub k0_t3_loop.st = 28 := by decide
/-- The number of the loop's trips. -/
theorem t4_trips : Scf.trips k0_t4_loop.lb k0_t4_loop.ub k0_t4_loop.st = 28 := by decide
/-- The number of the loop's trips. -/
theorem t5_trips : Scf.trips k0_t5_loop.lb k0_t5_loop.ub k0_t5_loop.st = 28 := by decide
/-- The number of the loop's trips. -/
theorem t6_trips : Scf.trips k0_t6_loop.lb k0_t6_loop.ub k0_t6_loop.st = 28 := by decide
/-- The number of the loop's trips. -/
theorem t7_trips : Scf.trips k0_t7_loop.lb k0_t7_loop.ub k0_t7_loop.st = 28 := by decide
/-- The number of the loop's trips. -/
theorem t8_trips : Scf.trips k0_t8_loop.lb k0_t8_loop.ub k0_t8_loop.st = 28 := by decide
/-- The number of the loop's trips. -/
theorem t9_trips : Scf.trips k0_t9_loop.lb k0_t9_loop.ub k0_t9_loop.st = 28 := by decide
/-- The number of the loop's trips. -/
theorem t1_trips : Scf.trips k0_t1_loop.lb k0_t1_loop.ub k0_t1_loop.st = 7 := by decide

/-- Four stored tiles of 128 rows, each holding its rows' values, make the whole array. -/
theorem four_tiles (v : View sig .tc .vmem S512x128 .f32) (f : v.ty.Contents (Elt Ideal)) (inb0 inb1 inb2 inb3)
    (w0 w1 w2 w3 : FVec Ideal S128x128 .f32) (X : Fin 512 → EReal)
    (h0 : ∀ (a l : Fin 128) (r : Fin 512), r.val = 128 * 0 + a.val → w0 (ix2 a l) = X r)
    (h1 : ∀ (a l : Fin 128) (r : Fin 512), r.val = 128 * 1 + a.val → w1 (ix2 a l) = X r)
    (h2 : ∀ (a l : Fin 128) (r : Fin 512), r.val = 128 * 2 + a.val → w2 (ix2 a l) = X r)
    (h3 : ∀ (a l : Fin 128) (r : Fin 512), r.val = 128 * 3 + a.val → w3 (ix2 a l) = X r) :
    v.read (Elt Ideal) (v.writes (Elt Ideal) f
      [⟨Rect.unit (s := S512x128) ![384, 0] S128x128.size inb3, w3⟩, ⟨Rect.unit (s := S512x128) ![256, 0] S128x128.size inb2, w2⟩,
       ⟨Rect.unit (s := S512x128) ![128, 0] S128x128.size inb1, w1⟩, ⟨Rect.unit (s := S512x128) ![0, 0] S128x128.size inb0, w0⟩])
      = fun y => X (y 0) := by
  funext y
  obtain ⟨r, l, rfl⟩ : ∃ (r : Fin 512) (l : Fin 128), y = ix2 r l := ⟨y 0, y 1, by ext a; match a with | ⟨0, _⟩ => rfl | ⟨1, _⟩ => rfl⟩
  have hr := r.isLt
  by_cases c3 : 384 ≤ r.val
  · exact (Cert.Tiles.read_writes_in v f inb3 w3 _ r l ⟨r.val - 384, by omega⟩ l (by show r.val = 384 + (r.val - 384); omega) (by omega)).trans
      (h3 _ l r (by show r.val = 128 * 3 + (r.val - 384); omega))
  refine (Cert.Tiles.read_writes_out v f inb3 w3 _ r l (by omega)).trans ?_
  by_cases c2 : 256 ≤ r.val
  · exact (Cert.Tiles.read_writes_in v f inb2 w2 _ r l ⟨r.val - 256, by omega⟩ l (by show r.val = 256 + (r.val - 256); omega) (by omega)).trans
      (h2 _ l r (by show r.val = 128 * 2 + (r.val - 256); omega))
  refine (Cert.Tiles.read_writes_out v f inb2 w2 _ r l (by omega)).trans ?_
  by_cases c1 : 128 ≤ r.val
  · exact (Cert.Tiles.read_writes_in v f inb1 w1 _ r l ⟨r.val - 128, by omega⟩ l (by show r.val = 128 + (r.val - 128); omega) (by omega)).trans
      (h1 _ l r (by show r.val = 128 * 1 + (r.val - 128); omega))
  refine (Cert.Tiles.read_writes_out v f inb1 w1 _ r l (by omega)).trans ?_
  exact (Cert.Tiles.read_writes_in v f inb0 w0 _ r l ⟨r.val, by omega⟩ l (by show r.val = 0 + r.val; omega) (by omega)).trans
    (h0 _ l r (by show r.val = 128 * 0 + r.val; omega))

/-- Four stored rows of 128 values each make the whole array. -/
theorem four_rows (v : View sig .tc .vmem S4x1x128 .f32) (f : v.ty.Contents (Elt Ideal)) (inb0 inb1 inb2 inb3)
    (w0 w1 w2 w3 : FVec Ideal S1x1x128 .f32) (X : Fin 512 → EReal)
    (h0 : ∀ (l : Fin 128) (r : Fin 512), r.val = 128 * 0 + l.val → w0 (ix3 0 0 l) = X r)
    (h1 : ∀ (l : Fin 128) (r : Fin 512), r.val = 128 * 1 + l.val → w1 (ix3 0 0 l) = X r)
    (h2 : ∀ (l : Fin 128) (r : Fin 512), r.val = 128 * 2 + l.val → w2 (ix3 0 0 l) = X r)
    (h3 : ∀ (l : Fin 128) (r : Fin 512), r.val = 128 * 3 + l.val → w3 (ix3 0 0 l) = X r)
    (hb : ∀ y : S4x1x128.Idx, 128 * (y 0).val + (y 2).val < 512) :
    v.read (Elt Ideal) (v.writes (Elt Ideal) f
      [⟨Rect.unit (s := S4x1x128) ![3, 0, 0] S1x1x128.size inb3, w3⟩, ⟨Rect.unit (s := S4x1x128) ![2, 0, 0] S1x1x128.size inb2, w2⟩,
       ⟨Rect.unit (s := S4x1x128) ![1, 0, 0] S1x1x128.size inb1, w1⟩, ⟨Rect.unit (s := S4x1x128) ![0, 0, 0] S1x1x128.size inb0, w0⟩])
      = fun y => X ⟨128 * (y 0).val + (y 2).val, hb y⟩ := by
  funext y
  obtain ⟨q, u, l, rfl⟩ : ∃ (q : Fin 4) (u : Fin 1) (l : Fin 128), y = ix3 q u l :=
    ⟨y 0, y 1, y 2, by ext a; match a with | ⟨0, _⟩ => rfl | ⟨1, _⟩ => rfl | ⟨2, _⟩ => rfl⟩
  have hu : u = 0 := Subsingleton.elim _ _
  subst hu
  have step : ∀ {o : ℕ} (inb) (w : FVec Ideal S1x1x128 .f32) (L), q.val = o →
      v.read (Elt Ideal) (v.writes (Elt Ideal) f (⟨Rect.unit (s := S4x1x128) ![o, 0, 0] S1x1x128.size inb, w⟩ :: L)) (ix3 q 0 l) = w (ix3 0 0 l) := by
    intro o inb w L h
    refine View.read_writes_cons_unit_of_mem v f inb w L (ix3 q 0 l) (ix3 0 0 l) rfl fun a => ?_
    match a with
    | ⟨0, _⟩ => exact (show q.val = o + 0 by omega)
    | ⟨1, _⟩ => rfl
    | ⟨2, _⟩ => exact (show l.val = 0 + l.val by omega)
  have skip : ∀ {o : ℕ} (inb) (w : FVec Ideal S1x1x128 .f32) (L), q.val ≠ o →
      v.read (Elt Ideal) (v.writes (Elt Ideal) f (⟨Rect.unit (s := S4x1x128) ![o, 0, 0] S1x1x128.size inb, w⟩ :: L)) (ix3 q 0 l)
        = v.read (Elt Ideal) (v.writes (Elt Ideal) f L) (ix3 q 0 l) := by
    intro o inb w L h
    exact View.read_writes_cons_unit_of_not_mem v f inb w L (ix3 q 0 l) rfl (0 : Fin 3)
      (show q.val < o ∨ o + 1 ≤ q.val by omega)
  have hq := q.isLt
  by_cases c3 : q.val = 3
  · exact (step inb3 w3 _ c3).trans (h3 l _ (by show 128 * q.val + l.val = _; omega))
  refine (skip inb3 w3 _ c3).trans ?_
  by_cases c2 : q.val = 2
  · exact (step inb2 w2 _ c2).trans (h2 l _ (by show 128 * q.val + l.val = _; omega))
  refine (skip inb2 w2 _ c2).trans ?_
  by_cases c1 : q.val = 1
  · exact (step inb1 w1 _ c1).trans (h1 l _ (by show 128 * q.val + l.val = _; omega))
  refine (skip inb1 w1 _ c1).trans ?_
  exact (step inb0 w0 _ (by omega)).trans (h0 l _ (by show 128 * q.val + l.val = _; omega))

/-- The two layouts of the scales hold the same values. -/
theorem row_of_tile {v : FVec Ideal S128x128 .f32} {X : Fin 512 → EReal} {q : ℕ}
    (h : ∀ (a l : Fin 128) (r : Fin 512), r.val = 128 * q + a.val → k0_pay7 v (ix2 a l) = X r)
    (l : Fin 128) (r : Fin 512) (hr : r.val = 128 * q + l.val) : k0_pay8 v (ix3 0 0 l) = X r := by
  rw [pay8_apply, ← pay7_apply v l 0]; exact h l 0 r hr

/-- The scales of row block `q`, loaded. -/
theorem h0s {arg2 : Memref sig .tc .vmem S512x128 .f32} {x1 : Vec Ideal S512x128 .f32} (q : ℕ) (hq : q < 4) (f2)
    (hf2 : arg2.view.read (Elt Ideal) f2 = x1)
    (inb : ∀ a : Fin 2, (![128 * q, 0] : Fin 2 → ℕ) a + S128x128.size a ≤ S512x128.size a)
    (a l : Fin 128) (r : Fin 512) (hr : r.val = 128 * q + a.val) :
    View.readAt (Elt Ideal) arg2.view (Rect.unit (s := S512x128) ![128 * q, 0] S128x128.size inb).toLoadRect f2 (ix2 a l) = x1 (ix2 r l) := by
  rw [readAt_unit _ _ _ a l r l hr (by omega), hf2]

set_option maxHeartbeats 4000000 in
/-- Run on one block, the body leaves the codes and both layouts of the scales of the block, and keeps its operands. -/
theorem body_run (c : Dev nD) (i : grid0.Coords) (arg1 : Memref sig .tc .vmem S512x7680 .fp8e4m3) (harg1 : arg1.IsWhole) (arg2 : Memref sig .tc .vmem S512x128 .f32) (harg2 : arg2.IsWhole) (arg3 : Memref sig .tc .vmem S7680x3584 .fp8e4m3) (harg3 : arg3.IsWhole) (arg4 : Memref sig .tc .vmem S1x3584 .f32) (harg4 : arg4.IsWhole) (arg5 : Memref sig .tc .vmem S1x3584 .f32) (harg5 : arg5.IsWhole) (arg6 : Memref sig .tc .vmem S512x3584 .fp8e4m3) (harg6 : arg6.IsWhole) (arg7 : Memref sig .tc .vmem S4x1x128 .f32) (harg7 : arg7.IsWhole) (arg8 : Memref sig .tc .vmem S512x128 .f32) (harg8 : arg8.IsWhole) (arg9 : Memref sig .tc .vmem S512x3584 .f32) (harg9 : arg9.IsWhole)
    (x0 : Vec Ideal S512x7680 .fp8e4m3) (x1 : Vec Ideal S512x128 .f32) (x2 : Vec Ideal S7680x3584 .fp8e4m3) (x3 : Vec Ideal S1x3584 .f32) (x4 : Vec Ideal S1x3584 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (fun y => CODE x0 x1 x2 x3 x4 (y 0) (y 1))
            ∗ owns (c : Thread nD τ) arg7 fullShare (fun y => SCALE x0 x1 x2 x3 x4 ⟨128 * (y 0).val + (y 2).val, by have h0 : (y 0).val < 4 := (y 0).isLt; have h2 : (y 2).val < 128 := (y 2).isLt; omega⟩)
            ∗ owns (c : Thread nD τ) arg8 fullShare (fun y => SCALE x0 x1 x2 x3 x4 (y 0))
            ∗ (∃ d, owns (c : Thread nD τ) arg9 fullShare d)) -∗ K ⟨⟩))
      ⊢ wp frame (wpE (defs₀ (F := Ideal)) Variants.none c none) E (cc0_mlp1 i arg1 harg1 arg2 harg2 arg3 harg3 arg4 harg4 arg5 harg5 arg6 harg6 arg7 harg7 arg8 harg8 arg9 harg9) K := by
  simp only [cc0_mlp1_eq_skeleton]; unfold cc0_mlp1_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4_0, %hf4_0, H4⟩, ⟨%f5_0, %hf5_0, H5⟩, ⟨%d6, %f6_0, -, H6⟩, ⟨%d7, %f7, -, H7⟩, ⟨%d8, %f8, -, H8⟩, ⟨%d9, %f9, -, H9⟩, Hk⟩
  sl_exec
  sl_for (fun k _ => mmInv c arg1 arg3 arg9 x0 x2 k) $$ [H1 H3 H9]
  · intro k acc
    exact mm_step c E arg1 arg3 arg9 x0 x2 k.val (lt_of_lt_of_le k.isLt k0_t1_abs.2.1) _ _ _ _ (off1_eq k) (off2_eq k)
  · unfold mmInv held heldP
    isplitl [H1]; · iexists f1; isplitr; · ipureintro; exact hf1
                    iexact H1
    isplitl [H3]; · iexists f3; isplitr; · ipureintro; exact hf3
                    iexact H3
    iexists f9; isplitr; swap; · iexact H9
    ipureintro; intro r j hj; exact absurd hj (by omega)
  iintro %_ HI
  unfold mmInv held heldP
  icases HI with ⟨H1, H3, ⟨%f9_0, %hf9', H9⟩⟩
  sl_exec
  have hf9_0 : ∀ r : Fin 512, ∀ j : Fin 3584, arg9.view.read (Elt Ideal) f9_0 (ix2 r j) = if r.val < 128 * 0 then ACT x0 x1 x2 x3 x4 r j else ACC x0 x2 r j :=
    fun r j => by rw [if_neg (by omega)]; exact hf9' r j (by rw [t1_trips]; omega)
  have hf6_0 : ∀ r : Fin 512, ∀ j : Fin 3584, r.val < 128 * 0 → arg6.view.read (Elt Ideal) f6_0 (ix2 r j) = CODE x0 x1 x2 x3 x4 r j :=
    fun r j h => absurd h (by omega)
  sl_for (fun k v => actInv c arg4 arg5 arg9 x0 x1 x2 x3 x4 0 k v) $$ [H4 H5 H9]
  · intro k acc
    exact act_step c E arg4 arg5 arg9 x0 x1 x2 x3 x4 0 k.val (by omega) (lt_of_lt_of_le k.isLt k0_t2_abs.2.1) _ _ _ _ (off3_eq k) (off4_eq k)
      _ (h0s 0 (by omega) f2 hf2 _) _ (fun a w b => pay5_eq _ a w b) acc _ (fun a w b => pay6_eq _ acc a w b)
  · iapply (actInv_zero c arg4 arg5 arg9 x0 x1 x2 x3 x4 0 (by omega) f4_0 f5_0 f9_0 hf4_0 hf5_0 hf9_0)
    isplitl [H4]; · iexact H4
    isplitl [H5]; · iexact H5
    iexact H9
  iintro %v0 HI
  icases (actInv_last c arg4 arg5 arg9 x0 x1 x2 x3 x4 0 (by omega) t2_trips v0) $$ HI with ⟨⟨%f4_1, %hf4_1, H4⟩, ⟨%f5_1, %hf5_1, H5⟩, ⟨%f9a0, %hf9a0, H9⟩, %hv0⟩
  sl_exec
  sl_for (fun k _ => codeInv c arg6 arg9 x0 x1 x2 x3 x4 0 k) $$ [H6 H9]
  · intro k _
    exact code_step c E arg6 arg9 x0 x1 x2 x3 x4 0 k.val (by omega) (lt_of_lt_of_le k.isLt k0_t3_abs.2.1) _ _ (off5_eq k) _ _
      (k0_pay7 v0) hv0 _ (fun a => pay9_eq v0 a)
  · iapply (codeInv_zero c arg6 arg9 x0 x1 x2 x3 x4 0 (by omega) f6_0 f9a0 hf9a0 hf6_0)
    isplitl [H6]; · iexact H6
    iexact H9
  iintro %_ HI
  icases (codeInv_last c arg6 arg9 x0 x1 x2 x3 x4 0 (by omega) t3_trips) $$ HI with ⟨⟨%f9_1, %hf9_1, H9⟩, ⟨%f6_1, %hf6_1, H6⟩⟩
  sl_exec
  sl_for (fun k v => actInv c arg4 arg5 arg9 x0 x1 x2 x3 x4 1 k v) $$ [H4 H5 H9]
  · intro k acc
    exact act_step c E arg4 arg5 arg9 x0 x1 x2 x3 x4 1 k.val (by omega) (lt_of_lt_of_le k.isLt k0_t4_abs.2.1) _ _ _ _ (off6_eq k) (off7_eq k)
      _ (h0s 1 (by omega) f2 hf2 _) _ (fun a w b => pay13_eq _ a w b) acc _ (fun a w b => pay14_eq _ acc a w b)
  · iapply (actInv_zero c arg4 arg5 arg9 x0 x1 x2 x3 x4 1 (by omega) f4_1 f5_1 f9_1 hf4_1 hf5_1 hf9_1)
    isplitl [H4]; · iexact H4
    isplitl [H5]; · iexact H5
    iexact H9
  iintro %v1 HI
  icases (actInv_last c arg4 arg5 arg9 x0 x1 x2 x3 x4 1 (by omega) t4_trips v1) $$ HI with ⟨⟨%f4_2, %hf4_2, H4⟩, ⟨%f5_2, %hf5_2, H5⟩, ⟨%f9a1, %hf9a1, H9⟩, %hv1⟩
  sl_exec
  sl_for (fun k _ => codeInv c arg6 arg9 x0 x1 x2 x3 x4 1 k) $$ [H6 H9]
  · intro k _
    exact code_step c E arg6 arg9 x0 x1 x2 x3 x4 1 k.val (by omega) (lt_of_lt_of_le k.isLt k0_t5_abs.2.1) _ _ (off8_eq k) _ _
      (k0_pay7 v1) hv1 _ (fun a => pay17_eq v1 a)
  · iapply (codeInv_zero c arg6 arg9 x0 x1 x2 x3 x4 1 (by omega) f6_1 f9a1 hf9a1 hf6_1)
    isplitl [H6]; · iexact H6
    iexact H9
  iintro %_ HI
  icases (codeInv_last c arg6 arg9 x0 x1 x2 x3 x4 1 (by omega) t5_trips) $$ HI with ⟨⟨%f9_2, %hf9_2, H9⟩, ⟨%f6_2, %hf6_2, H6⟩⟩
  sl_exec
  sl_for (fun k v => actInv c arg4 arg5 arg9 x0 x1 x2 x3 x4 2 k v) $$ [H4 H5 H9]
  · intro k acc
    exact act_step c E arg4 arg5 arg9 x0 x1 x2 x3 x4 2 k.val (by omega) (lt_of_lt_of_le k.isLt k0_t6_abs.2.1) _ _ _ _ (off9_eq k) (off10_eq k)
      _ (h0s 2 (by omega) f2 hf2 _) _ (fun a w b => pay20_eq _ a w b) acc _ (fun a w b => pay21_eq _ acc a w b)
  · iapply (actInv_zero c arg4 arg5 arg9 x0 x1 x2 x3 x4 2 (by omega) f4_2 f5_2 f9_2 hf4_2 hf5_2 hf9_2)
    isplitl [H4]; · iexact H4
    isplitl [H5]; · iexact H5
    iexact H9
  iintro %v2 HI
  icases (actInv_last c arg4 arg5 arg9 x0 x1 x2 x3 x4 2 (by omega) t6_trips v2) $$ HI with ⟨⟨%f4_3, %hf4_3, H4⟩, ⟨%f5_3, %hf5_3, H5⟩, ⟨%f9a2, %hf9a2, H9⟩, %hv2⟩
  sl_exec
  sl_for (fun k _ => codeInv c arg6 arg9 x0 x1 x2 x3 x4 2 k) $$ [H6 H9]
  · intro k _
    exact code_step c E arg6 arg9 x0 x1 x2 x3 x4 2 k.val (by omega) (lt_of_lt_of_le k.isLt k0_t7_abs.2.1) _ _ (off11_eq k) _ _
      (k0_pay7 v2) hv2 _ (fun a => pay28_eq v2 a)
  · iapply (codeInv_zero c arg6 arg9 x0 x1 x2 x3 x4 2 (by omega) f6_2 f9a2 hf9a2 hf6_2)
    isplitl [H6]; · iexact H6
    iexact H9
  iintro %_ HI
  icases (codeInv_last c arg6 arg9 x0 x1 x2 x3 x4 2 (by omega) t7_trips) $$ HI with ⟨⟨%f9_3, %hf9_3, H9⟩, ⟨%f6_3, %hf6_3, H6⟩⟩
  sl_exec
  sl_for (fun k v => actInv c arg4 arg5 arg9 x0 x1 x2 x3 x4 3 k v) $$ [H4 H5 H9]
  · intro k acc
    exact act_step c E arg4 arg5 arg9 x0 x1 x2 x3 x4 3 k.val (by omega) (lt_of_lt_of_le k.isLt k0_t8_abs.2.1) _ _ _ _ (off12_eq k) (off13_eq k)
      _ (h0s 3 (by omega) f2 hf2 _) _ (fun a w b => pay31_eq _ a w b) acc _ (fun a w b => pay32_eq _ acc a w b)
  · iapply (actInv_zero c arg4 arg5 arg9 x0 x1 x2 x3 x4 3 (by omega) f4_3 f5_3 f9_3 hf4_3 hf5_3 hf9_3)
    isplitl [H4]; · iexact H4
    isplitl [H5]; · iexact H5
    iexact H9
  iintro %v3 HI
  icases (actInv_last c arg4 arg5 arg9 x0 x1 x2 x3 x4 3 (by omega) t8_trips v3) $$ HI with ⟨⟨%f4_4, %hf4_4, H4⟩, ⟨%f5_4, %hf5_4, H5⟩, ⟨%f9a3, %hf9a3, H9⟩, %hv3⟩
  sl_exec
  sl_for (fun k _ => codeInv c arg6 arg9 x0 x1 x2 x3 x4 3 k) $$ [H6 H9]
  · intro k _
    exact code_step c E arg6 arg9 x0 x1 x2 x3 x4 3 k.val (by omega) (lt_of_lt_of_le k.isLt k0_t9_abs.2.1) _ _ (off14_eq k) _ _
      (k0_pay7 v3) hv3 _ (fun a => congrArg (fun s => k0_pay1 s a) (pay33_eq v3))
  · iapply (codeInv_zero c arg6 arg9 x0 x1 x2 x3 x4 3 (by omega) f6_3 f9a3 hf9a3 hf6_3)
    isplitl [H6]; · iexact H6
    iexact H9
  iintro %_ HI
  icases (codeInv_last c arg6 arg9 x0 x1 x2 x3 x4 3 (by omega) t9_trips) $$ HI with ⟨⟨%f9_4, %hf9_4, H9⟩, ⟨%f6_4, %hf6_4, H6⟩⟩
  sl_step
  delta body_run.sl.H7_4 body_run.sl.H8_4
  iapply Hk
  isplitl [H1]; · iexact H1
  isplitl [H2]
  · iexists f2; isplitr; swap; · iexact H2
    ipureintro; exact hf2
  isplitl [H3]; · iexact H3
  isplitl [H4]
  · iexists f4_4; isplitr; swap; · iexact H4
    ipureintro; exact hf4_4
  isplitl [H5]
  · iexists f5_4; isplitr; swap; · iexact H5
    ipureintro; exact hf5_4
  isplitl [H6]
  · iexists f6_4; isplitr; swap; · iexact H6
    ipureintro; funext y
    have hy : y = ix2 (y 0) (y 1) := by ext a; match a with | ⟨0, _⟩ => rfl | ⟨1, _⟩ => rfl
    exact (congrArg (View.read (Elt Ideal) arg6.view f6_4) hy).trans (hf6_4 (y 0) (y 1) (y 0).isLt)
  isplitl [H7]
  · iexists _; isplitr; swap; · iexact H7
    ipureintro
    exact four_rows arg7.view _ _ _ _ _ _ _ _ _ (SCALE x0 x1 x2 x3 x4) (row_of_tile hv0) (row_of_tile hv1) (row_of_tile hv2) (row_of_tile hv3) _
  isplitl [H8]
  · iexists _; isplitr; swap; · iexact H8
    ipureintro
    exact four_tiles arg8.view _ _ _ _ _ _ _ _ _ (SCALE x0 x1 x2 x3 x4) hv0 hv1 hv2 hv3
  iexists _, f9_4; isplitr; swap; · iexact H9
  ipureintro; rfl

end Cert.Mlp1Ideal.Block

end
-- ==== Proof.Mlp1Run.lean ====
/- The run of the kernel: block by block the body leaves the layer's codes and scales. -/
module

public import proofs.«01_k».proof.Proof.Mlp1Body
public import proofs.«01_k».proof.Proof.Gen.Mlp1Ideal.Frame.Runs
public import Idealize.ShloMosaic.Lib.Claim

@[expose] public section

set_option maxRecDepth 16384

noncomputable section

namespace Cert.Mlp1Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp1Ideal Cert.Mlp1Ideal.Gen Cert.Mlp1Ideal.Block

local notation "𝕄" => MT nD τ sig Unit (Elt Ideal) ℕ (UR sig nD τ) ℕ

variable (m : (ℓ : Loc nD τ sig) → Buf (Elt Ideal) ℓ) (ρ : Dev nD → PrngReg)

/-- The scales of a block, laid out as rows of 128. -/
def rowsOf (X : Fin 512 → EReal) : Vec Ideal S4x1x128 .f32 := fun y =>
  X ⟨128 * (y 0).val + (y 2).val, by have h0 : (y 0).val < 4 := (y 0).isLt; have h2 : (y 2).val < 128 := (y 2).isLt; omega⟩

/-- What the body leaves at point `t`: the codes, -/
def codesAt (c : Dev nD) (t : Fin cfg0.N) : Vec Ideal S512x3584 .fp8e4m3 := fun y =>
  CODE (iblk m c 0 t) (iblk m c 1 t) (iblk m c 2 t) (iblk m c 3 t) (iblk m c 4 t) (y 0) (y 1)
/-- the scales as rows, -/
def rowsAt (c : Dev nD) (t : Fin cfg0.N) : Vec Ideal S4x1x128 .f32 :=
  rowsOf (SCALE (iblk m c 0 t) (iblk m c 1 t) (iblk m c 2 t) (iblk m c 3 t) (iblk m c 4 t))
/-- and the scales as columns. -/
def colsAt (c : Dev nD) (t : Fin cfg0.N) : Vec Ideal S512x128 .f32 := fun y =>
  SCALE (iblk m c 0 t) (iblk m c 1 t) (iblk m c 2 t) (iblk m c 3 t) (iblk m c 4 t) (y 0)

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => rowsAt m c t
    | ⟨7, _⟩ => colsAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What input window 1 holds after a point's body: its block. -/
theorem after0_1 (c : Dev nD) (t : Fin cfg0.N) : (dats m 0 c).after 1 t = iblk m c 1 t := by dsimp only [dats]
/-- What input window 2 holds after a point's body: its block. -/
theorem after0_2 (c : Dev nD) (t : Fin cfg0.N) : (dats m 0 c).after 2 t = iblk m c 2 t := by dsimp only [dats]
/-- What input window 3 holds after a point's body: its block. -/
theorem after0_3 (c : Dev nD) (t : Fin cfg0.N) : (dats m 0 c).after 3 t = iblk m c 3 t := by dsimp only [dats]
/-- What input window 4 holds after a point's body: its block. -/
theorem after0_4 (c : Dev nD) (t : Fin cfg0.N) : (dats m 0 c).after 4 t = iblk m c 4 t := by dsimp only [dats]
/-- What output window 5 holds after a point's body. -/
theorem after0_5 (c : Dev nD) (t : Fin cfg0.N) : (dats m 0 c).after 5 t = codesAt m c t := by dsimp only [dats]
/-- What output window 6 holds after a point's body. -/
theorem after0_6 (c : Dev nD) (t : Fin cfg0.N) : (dats m 0 c).after 6 t = rowsAt m c t := by dsimp only [dats]
/-- What output window 7 holds after a point's body. -/
theorem after0_7 (c : Dev nD) (t : Fin cfg0.N) : (dats m 0 c).after 7 t = colsAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What input window 1 holds before a point's body: its block. -/
theorem before0_1 (c : Dev nD) (t : Fin cfg0.N) (d) : (dats m 0 c).before 1 t d = iblk m c 1 t :=
  before0_1_of m (dats m 0 c) (A_eq m c 1) (after0_1 m c) t d
/-- What input window 2 holds before a point's body: its block. -/
theorem before0_2 (c : Dev nD) (t : Fin cfg0.N) (d) : (dats m 0 c).before 2 t d = iblk m c 2 t :=
  before0_2_of m (dats m 0 c) (A_eq m c 2) (after0_2 m c) t d
/-- What input window 3 holds before a point's body: its block. -/
theorem before0_3 (c : Dev nD) (t : Fin cfg0.N) (d) : (dats m 0 c).before 3 t d = iblk m c 3 t :=
  before0_3_of m (dats m 0 c) (A_eq m c 3) (after0_3 m c) t d
/-- What input window 4 holds before a point's body: its block. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs, its arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Mlp1Ideal.Run

end
-- ==== Proof.Mlp1Reference.lean ====
/- What the reference computes, at an index. -/
module

public import proofs.«01_k».proof.Proof.Mlp1Spec
public import proofs.«01_k».proof.Proof.Gen.Mlp1ReferenceIdeal.Skeleton

@[expose] public section

set_option maxRecDepth 16384

noncomputable section

namespace Cert.Mlp1ReferenceIdeal.Layer

open Idealize.ShloMosaic Idealize.ShloMosaic.TcCoe Cert.Mlp1ReferenceIdeal Cert.Mlp1ReferenceIdeal.Gen
open Cert.Mlp1Ideal.Block (scaleOf codeOf actOf ofBits_negInf)

variable (a0 : Vec Ideal S4096x7680 .fp8e4m3) (a1 : Vec Ideal S4096 .f32) (a2 : Vec Ideal S7680x3584 .fp8e4m3) (a3 a4 : Vec Ideal S3584 .f32)

/-- The activation of sample `r` at feature `j`. -/
def act (r : Fin 4096) (j : Fin 3584) : EReal :=
  actOf (∑ k : Fin 7680, a0 (ix2 r k) * a2 (ix2 k j)) (a1 (ix1 r)) (a3 (ix1 j)) (a4 (ix1 j))

/-- The scale of sample `r`. -/
def scale (r : Fin 4096) : EReal := scaleOf (Finset.univ.sup fun j : Fin 3584 => act a0 a1 a2 a3 a4 r j)

/-- An activation is not negative. -/
theorem act_nonneg (r : Fin 4096) (j : Fin 3584) : 0 ≤ act a0 a1 a2 a3 a4 r j := by
  unfold act actOf
  exact (Ideal.ofBits_zero_f32).symm.le.trans (le_max_right _ _)

/-- This value of the body, entry by entry. -/
theorem pay2_apply (r : Fin 4096) (j : Fin 3584) : Gen.k0_pay2 a0 a2 a1 a3 a4 (ix2 r j) = act a0 a1 a2 a3 a4 r j := by
  pointwise [Gen.k0_pay2, act, actOf]

/-- The largest entry of each row. -/
def rowMax (h : FVec Ideal S4096x3584 .f32) : FVec Ideal S4096 .f32 :=
  multiReduction .maximumf [1] S4096 h 0xFF800000#32 reduces_S4096x3584_S4096 (.inl rfl) rfl

/-- The scales of rows whose largest entries are `v18`. -/
def scalesOf (v18 : FVec Ideal S4096 .f32) : FVec Ideal S4096 .f32 :=
  have v19 : FVec Ideal S4096 .f32 := broadcast S4096 (Scalar.ofBits (F := Ideal) .f32 0x00000000#32)
  have v20 : IVec S4096 1 := cmpf .oeq v18 v19
  have v22 : FVec Ideal S4096 .f32 := divf v18 (broadcast S4096 (Scalar.ofBits (F := Ideal) .f32 0x43E00000#32))
  select v20 (broadcast S4096 (Scalar.ofBits (F := Ideal) .f32 0x3F800000#32)) v22

/-- The codes of the activations `h` under the row scales `s`. -/
def codes (h : FVec Ideal S4096x3584 .f32) (s : FVec Ideal S4096 .f32) : FVec Ideal S4096x3584 .fp8e4m3 :=
  have v25 : FVec Ideal S4096x1 .f32 := shapeCast S4096x1 s shapeCasts_S4096_S4096x1
  have v26 : FVec Ideal S4096x3584 .f32 := broadcastTo S4096x3584 v25 broadcasts_S4096x1_S4096x3584
  have v27 : FVec Ideal S4096x3584 .f32 := divf h v26
  have v29 : FVec Ideal S4096x3584 .f32 := maximumf (broadcast S4096x3584 (Scalar.ofBits (F := Ideal) .f32 0xC3E00000#32)) v27
  have v31 : FVec Ideal S4096x3584 .f32 := minimumf (broadcast S4096x3584 (Scalar.ofBits (F := Ideal) .f32 0x43E00000#32)) v29
  truncf .fp8e4m3 v31 bitsLt_fp8e4m3_f32

/-- The largest absolute value of a sample. -/
theorem rowMax_apply (h : FVec Ideal S4096x3584 .f32) (r : Fin 4096) :
    rowMax h (ix1 r) = Finset.univ.sup fun j : Fin 3584 => h (ix2 r j) := by
  pointwise [rowMax]
  rw [ofBits_negInf]
  rfl

/-- The scale of a sample. -/
theorem scalesOf_apply (v : FVec Ideal S4096 .f32) (r : Fin 4096) : scalesOf v (ix1 r) = scaleOf (v (ix1 r)) := by
  pointwise [scalesOf, scaleOf]

/-- The code of a value, at an index. -/
theorem codes_apply (h : FVec Ideal S4096x3584 .f32) (s : FVec Ideal S4096 .f32) (r : Fin 4096) (j : Fin 3584) :
    codes h s (ix2 r j) = codeOf (h (ix2 r j)) (s (ix1 r)) := by
  pointwise [codes, codeOf]

/-- This value of the body is the one named. -/
theorem pay3_eq : Gen.k0_pay3 a0 a2 a1 a3 a4 = scalesOf (rowMax (absf (Gen.k0_pay2 a0 a2 a1 a3 a4))) := rfl
/-- This value of the body is the one named. -/
theorem pay4_eq : Gen.k0_pay4 a0 a2 a1 a3 a4 = codes (Gen.k0_pay2 a0 a2 a1 a3 a4) (Gen.k0_pay3 a0 a2 a1 a3 a4) := rfl

/-- This value of the body, entry by entry. -/
theorem pay3_apply (r : Fin 4096) : Gen.k0_pay3 a0 a2 a1 a3 a4 (ix1 r) = scale a0 a1 a2 a3 a4 r := by
  rw [pay3_eq, scalesOf_apply, rowMax_apply]
  unfold scale
  refine congrArg scaleOf (Finset.sup_congr rfl fun j _ => ?_)
  rw [absf_apply, pay2_apply, Ideal.absf_def]
  have h := act_nonneg a0 a1 a2 a3 a4 r j
  refine max_eq_left (le_trans ?_ h)
  have := EReal.neg_le_neg_iff.2 h
  rwa [neg_zero] at this

/-- This value of the body, entry by entry. -/
theorem pay4_apply (r : Fin 4096) (j : Fin 3584) :
    Gen.k0_pay4 a0 a2 a1 a3 a4 (ix2 r j) = codeOf (act a0 a1 a2 a3 a4 r j) (scale a0 a1 a2 a3 a4 r) := by
  rw [pay4_eq, codes_apply, pay2_apply, pay3_apply]

/-- This value of the body, entry by entry. -/
theorem pay5_apply (q : Fin 32) (u : Fin 1) (l : Fin 128) (r : Fin 4096) (hr : r.val = 128 * q.val + l.val) :
    Gen.k0_pay5 a0 a2 a1 a3 a4 (ix3 q u l) = scale a0 a1 a2 a3 a4 r := by
  rw [← pay3_apply]
  pointwise [Gen.k0_pay5]
  exact congrArg (fun r => Gen.k0_pay3 a0 a2 a1 a3 a4 (ix1 r)) (Fin.ext (by show q.val * 128 + l.val = r.val; omega))

/-- This value of the body, entry by entry. -/
theorem pay16_apply (r : Fin 4096) (l : Fin 128) :
    Gen.k0_pay1 (Gen.k0_pay6 a0 a2 a1 a3 a4) (ix2 r l) = scale a0 a1 a2 a3 a4 r := by
  rw [← pay3_apply]
  pointwise [Gen.k0_pay1, Gen.k0_pay6]

end Cert.Mlp1ReferenceIdeal.Layer
-- ==== Proof.Mlp1Arrays.lean ====
/- The arrays after the run: the blocks' codes and scales are the reference's, at their places. -/
module

public import proofs.«01_k».proof.Proof.Mlp1Run
public import proofs.«01_k».proof.Proof.Mlp1Reference
public import Idealize.ShloMosaic.Lib.StableHlo.ReadAt

@[expose] public section

set_option maxRecDepth 16384

noncomputable section

namespace Cert.Mlp1Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp1Ideal Cert.Mlp1Ideal.Gen Cert.Mlp1Ideal.Block

local notation "𝕄" => MT nD τ sig Unit (Elt Ideal) ℕ (UR sig nD τ) ℕ

variable (m : (ℓ : Loc nD τ sig) → Buf (Elt Ideal) ℓ) (ρ : Dev nD → PrngReg)

/-! ## The blocks' places in the arrays -/

/-- The block index of the codes at a point. -/
theorem idx0 : ∀ t : Fin cfg0.N, win0_0.index t (0 : Fin 2) = t.val ∧ win0_0.index t (1 : Fin 2) = 0 := (by decide +kernel : ∀ t : Fin grid0.N, _)
/-- The block index of the per-sample scales at a point. -/
theorem idx1 : ∀ t : Fin cfg0.N, win0_1.index t (0 : Fin 2) = t.val ∧ win0_1.index t (1 : Fin 2) = 0 := (by decide +kernel : ∀ t : Fin grid0.N, _)
/-- The block index of the weights at a point. -/
theorem idx2 : ∀ t : Fin cfg0.N, win0_2.index t (0 : Fin 2) = 0 ∧ win0_2.index t (1 : Fin 2) = 0 := (by decide +kernel : ∀ t : Fin grid0.N, _)
/-- The block index of the weight scales at a point. -/
theorem idx3 : ∀ t : Fin cfg0.N, win0_3.index t (0 : Fin 2) = 0 ∧ win0_3.index t (1 : Fin 2) = 0 := (by decide +kernel : ∀ t : Fin grid0.N, _)
/-- The block index of the biases at a point. -/
theorem idx4 : ∀ t : Fin cfg0.N, win0_4.index t (0 : Fin 2) = 0 ∧ win0_4.index t (1 : Fin 2) = 0 := (by decide +kernel : ∀ t : Fin grid0.N, _)
/-- The block index of the result codes at a point. -/
theorem idx5 : ∀ t : Fin cfg0.N, win0_5.index t (0 : Fin 2) = t.val ∧ win0_5.index t (1 : Fin 2) = 0 := (by decide +kernel : ∀ t : Fin grid0.N, _)
/-- The block index of the result scales, row layout at a point. -/
theorem idx6 : ∀ t : Fin cfg0.N, win0_6.index t (0 : Fin 3) = t.val ∧ win0_6.index t (1 : Fin 3) = 0 ∧ win0_6.index t (2 : Fin 3) = 0 := (by decide +kernel : ∀ t : Fin grid0.N, _)
/-- The block index of the result scales, column layout at a point. -/
theorem idx7 : ∀ t : Fin cfg0.N, win0_7.index t (0 : Fin 2) = t.val ∧ win0_7.index t (1 : Fin 2) = 0 := (by decide +kernel : ∀ t : Fin grid0.N, _)

/-- The place in the array of an entry of a block of the codes. -/
theorem emb0 (t : Fin cfg0.N) (r : Fin 512) (k : Fin 7680) (R : Fin 4096) (hR : R.val = 512 * t.val + r.val) :
    ((cfg0.win 0).blk t).view.emb (ix2 r k) = (ix2 R k : S4096x7680.Idx) := by
  obtain ⟨e0, e1⟩ := idx0 t
  funext a; apply Fin.ext
  match a with
  | ⟨0, _⟩ => show win0_0.index t (0 : Fin 2) * 512 + 1 * r.val = R.val; omega
  | ⟨1, _⟩ => show win0_0.index t (1 : Fin 2) * 7680 + 1 * k.val = k.val; omega
/-- The place in the array of an entry of a block of the per-sample scales. -/
theorem emb1 (t : Fin cfg0.N) (r : Fin 512) (k : Fin 128) (R : Fin 4096) (hR : R.val = 512 * t.val + r.val) :
    ((cfg0.win 1).blk t).view.emb (ix2 r k) = (ix2 R k : S4096x128.Idx) := by
  obtain ⟨e0, e1⟩ := idx1 t
  funext a; apply Fin.ext
  match a with
  | ⟨0, _⟩ => show win0_1.index t (0 : Fin 2) * 512 + 1 * r.val = R.val; omega
  | ⟨1, _⟩ => show win0_1.index t (1 : Fin 2) * 128 + 1 * k.val = k.val; omega
/-- The place in the array of an entry of a block of the weights. -/
theorem emb2 (t : Fin cfg0.N) (r : Fin 7680) (k : Fin 3584) :
    ((cfg0.win 2).blk t).view.emb (ix2 r k) = (ix2 r k : S7680x3584.Idx) := by
  obtain ⟨e0, e1⟩ := idx2 t
  funext a; apply Fin.ext
  match a with
  | ⟨0, _⟩ => show win0_2.index t (0 : Fin 2) * 7680 + 1 * r.val = r.val; omega
  | ⟨1, _⟩ => show win0_2.index t (1 : Fin 2) * 3584 + 1 * k.val = k.val; omega
/-- The place in the array of an entry of a block of the weight scales. -/
theorem emb3 (t : Fin cfg0.N) (k : Fin 3584) :
    ((cfg0.win 3).blk t).view.emb (ix2 0 k) = (ix2 0 k : S1x3584.Idx) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 3584 + 1 * k.val = k.val; omega
/-- The place in the array of an entry of a block of the biases. -/
theorem emb4 (t : Fin cfg0.N) (k : Fin 3584) :
    ((cfg0.win 4).blk t).view.emb (ix2 0 k) = (ix2 0 k : S1x3584.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 3584 + 1 * k.val = k.val; omega
/-- The place in the array of an entry of a block of the result codes. -/
theorem emb5 (t : Fin cfg0.N) (r : Fin 512) (k : Fin 3584) (R : Fin 4096) (hR : R.val = 512 * t.val + r.val) :
    ((cfg0.win 5).blk t).view.emb (ix2 r k) = (ix2 R k : S4096x3584.Idx) := by
  obtain ⟨e0, e1⟩ := idx5 t
  funext a; apply Fin.ext
  match a with
  | ⟨0, _⟩ => show win0_5.index t (0 : Fin 2) * 512 + 1 * r.val = R.val; omega
  | ⟨1, _⟩ => show win0_5.index t (1 : Fin 2) * 3584 + 1 * k.val = k.val; omega
/-- The place in the array of an entry of a block of the result scales, row layout. -/
theorem emb6 (t : Fin cfg0.N) (q : Fin 4) (l : Fin 128) (Q : Fin 32) (hQ : Q.val = 4 * t.val + q.val) :
    ((cfg0.win 6).blk t).view.emb (ix3 q 0 l) = (ix3 Q 0 l : S32x1x128.Idx) := by
  obtain ⟨e0, e1, e2⟩ := idx6 t
  funext a; apply Fin.ext
  match a with
  | ⟨0, _⟩ => show win0_6.index t (0 : Fin 3) * 4 + 1 * q.val = Q.val; omega
  | ⟨1, _⟩ => show win0_6.index t (1 : Fin 3) * 1 + 1 * 0 = 0; omega
  | ⟨2, _⟩ => show win0_6.index t (2 : Fin 3) * 128 + 1 * l.val = l.val; omega
/-- The place in the array of an entry of a block of the result scales, column layout. -/
theorem emb7 (t : Fin cfg0.N) (r : Fin 512) (k : Fin 128) (R : Fin 4096) (hR : R.val = 512 * t.val + r.val) :
    ((cfg0.win 7).blk t).view.emb (ix2 r k) = (ix2 R k : S4096x128.Idx) := by
  obtain ⟨e0, e1⟩ := idx7 t
  funext a; apply Fin.ext
  match a with
  | ⟨0, _⟩ => show win0_7.index t (0 : Fin 2) * 512 + 1 * r.val = R.val; omega
  | ⟨1, _⟩ => show win0_7.index t (1 : Fin 2) * 128 + 1 * k.val = k.val; omega

/-! ## The operands the host lays out -/

/-- An operand that the host lays out, entry by entry from its argument. -/
theorem V_main_v1 (c : Dev nD) (R : Fin 4096) (l : Fin 128) :
    V m c main_v1 (ix2 R l) = m ((c : Thread nD τ).loc main_arg1) (ix1 R) := by
  unfold V
  after_reads_at
/-- An operand that the host lays out, entry by entry from its argument. -/
theorem V_main_v2 (c : Dev nD) (j : Fin 3584) :
    V m c main_v2 (ix2 0 j) = m ((c : Thread nD τ).loc main_arg3) (ix1 j) := by
  unfold V
  after_reads_at
/-- An operand that the host lays out, entry by entry from its argument. -/
theorem V_main_v3 (c : Dev nD) (j : Fin 3584) :
    V m c main_v3 (ix2 0 j) = m ((c : Thread nD τ).loc main_arg4) (ix1 j) := by
  unfold V
  after_reads_at

/-! ## The blocks hold the layer's values -/

/-- The argument arrays. -/
abbrev A0 (c : Dev nD) := m ((c : Thread nD τ).loc main_arg0)
/-- Argument 1. -/
abbrev A1 (c : Dev nD) := m ((c : Thread nD τ).loc main_arg1)
/-- Argument 2. -/
abbrev A2 (c : Dev nD) := m ((c : Thread nD τ).loc main_arg2)
/-- Argument 3. -/
abbrev A3 (c : Dev nD) := m ((c : Thread nD τ).loc main_arg3)
/-- Argument 4. -/
abbrev A4 (c : Dev nD) := m ((c : Thread nD τ).loc main_arg4)

/-- Row `r` of block `t` is sample `512 t + r`: its activations are the layer's. -/
theorem act_eq (c : Dev nD) (t : Fin cfg0.N) (r : Fin 512) (j : Fin 3584) (R : Fin 4096) (hR : R.val = 512 * t.val + r.val) :
    ACT (iblk m c 0 t) (iblk m c 1 t) (iblk m c 2 t) (iblk m c 3 t) (iblk m c 4 t) r j
      = Cert.Mlp1ReferenceIdeal.Layer.act (A0 m c) (A1 m c) (A2 m c) (A3 m c) (A4 m c) R j := by
  have h0 : ∀ k : Fin 7680, iblk m c 0 t (ix2 r k) = A0 m c (ix2 R k) := fun k => by
    show V m c main_arg0 (((cfg0.win 0).blk t).view.emb (ix2 r k)) = _
    rw [emb0 t r k R hR, V_main_arg0]
  have h2 : ∀ k : Fin 7680, iblk m c 2 t (ix2 k j) = A2 m c (ix2 k j) := fun k => by
    show V m c main_arg2 (((cfg0.win 2).blk t).view.emb (ix2 k j)) = _
    rw [emb2 t k j, V_main_arg2]
  have h1 : ∀ l : Fin 128, iblk m c 1 t (ix2 r l) = A1 m c (ix1 R) := fun l => by
    show V m c main_v1 (((cfg0.win 1).blk t).view.emb (ix2 r l)) = _
    rw [emb1 t r l R hR, V_main_v1]
  have h3 : iblk m c 3 t (ix2 0 j) = A3 m c (ix1 j) := by
    show V m c main_v2 (((cfg0.win 3).blk t).view.emb (ix2 0 j)) = _
    rw [emb3 t j, V_main_v2]
  have h4 : iblk m c 4 t (ix2 0 j) = A4 m c (ix1 j) := by
    show V m c main_v3 (((cfg0.win 4).blk t).view.emb (ix2 0 j)) = _
    rw [emb4 t j, V_main_v3]
  unfold ACT ACC Cert.Mlp1ReferenceIdeal.Layer.act
  rw [h1, h3, h4]
  exact congrArg (fun x => actOf x _ _ _) (Finset.sum_congr rfl fun k _ => by rw [h0, h2])

/-- … and so is its scale. -/
theorem scale_eq (c : Dev nD) (t : Fin cfg0.N) (r : Fin 512) (R : Fin 4096) (hR : R.val = 512 * t.val + r.val) :
    SCALE (iblk m c 0 t) (iblk m c 1 t) (iblk m c 2 t) (iblk m c 3 t) (iblk m c 4 t) r
      = Cert.Mlp1ReferenceIdeal.Layer.scale (A0 m c) (A1 m c) (A2 m c) (A3 m c) (A4 m c) R := by
  unfold SCALE AMAX Cert.Mlp1ReferenceIdeal.Layer.scale
  exact congrArg scaleOf (Finset.sup_congr rfl fun j _ => act_eq m c t r j R hR)

/-- … and its codes. -/
theorem code_eq (c : Dev nD) (t : Fin cfg0.N) (r : Fin 512) (j : Fin 3584) (R : Fin 4096) (hR : R.val = 512 * t.val + r.val) :
    CODE (iblk m c 0 t) (iblk m c 1 t) (iblk m c 2 t) (iblk m c 3 t) (iblk m c 4 t) r j
      = codeOf (Cert.Mlp1ReferenceIdeal.Layer.act (A0 m c) (A1 m c) (A2 m c) (A3 m c) (A4 m c) R j)
        (Cert.Mlp1ReferenceIdeal.Layer.scale (A0 m c) (A1 m c) (A2 m c) (A3 m c) (A4 m c) R) := by
  unfold CODE
  rw [act_eq m c t r j R hR, scale_eq m c t r R hR]

/-- A block of the grid is one of eight. -/
theorem lt8 (t : Fin cfg0.N) : t.val < 8 := t.isLt

/-! ## The arrays after the run -/

/-- The codes, the scales as rows and the scales as columns the reference computes from the arguments. -/
@[irreducible] def G5 (c : Dev nD) : Vec Ideal S4096x3584 .fp8e4m3 := Cert.Mlp1ReferenceIdeal.Gen.k0_pay4 (A0 m c) (A2 m c) (A1 m c) (A3 m c) (A4 m c)
/-- The scales the reference computes, row layout. -/
@[irreducible] def G6 (c : Dev nD) : Vec Ideal S32x1x128 .f32 := Cert.Mlp1ReferenceIdeal.Gen.k0_pay5 (A0 m c) (A2 m c) (A1 m c) (A3 m c) (A4 m c)
/-- The scales the reference computes, column layout. -/
@[irreducible] def G7 (c : Dev nD) : Vec Ideal S4096x128 .f32 :=
  Cert.Mlp1ReferenceIdeal.Gen.k0_pay1 (Cert.Mlp1ReferenceIdeal.Gen.k0_pay6 (A0 m c) (A2 m c) (A1 m c) (A3 m c) (A4 m c))

/-- The reference's codes, at an index. -/
theorem G5_apply (c : Dev nD) (R : Fin 4096) (j : Fin 3584) : G5 m c (ix2 R j)
    = codeOf (Cert.Mlp1ReferenceIdeal.Layer.act (A0 m c) (A1 m c) (A2 m c) (A3 m c) (A4 m c) R j)
        (Cert.Mlp1ReferenceIdeal.Layer.scale (A0 m c) (A1 m c) (A2 m c) (A3 m c) (A4 m c) R) := by
  unfold G5; exact Cert.Mlp1ReferenceIdeal.Layer.pay4_apply (A0 m c) (A1 m c) (A2 m c) (A3 m c) (A4 m c) R j
/-- The reference's scales in row layout, at an index. -/
theorem G6_apply (c : Dev nD) (q : Fin 32) (l : Fin 128) (R : Fin 4096) (hR : R.val = 128 * q.val + l.val) : G6 m c (ix3 q 0 l)
    = Cert.Mlp1ReferenceIdeal.Layer.scale (A0 m c) (A1 m c) (A2 m c) (A3 m c) (A4 m c) R := by
  unfold G6; exact Cert.Mlp1ReferenceIdeal.Layer.pay5_apply (A0 m c) (A1 m c) (A2 m c) (A3 m c) (A4 m c) q 0 l R hR
/-- The reference's scales in column layout, at an index. -/
theorem G7_apply (c : Dev nD) (R : Fin 4096) (l : Fin 128) : G7 m c (ix2 R l)
    = Cert.Mlp1ReferenceIdeal.Layer.scale (A0 m c) (A1 m c) (A2 m c) (A3 m c) (A4 m c) R := by
  unfold G7; exact Cert.Mlp1ReferenceIdeal.Layer.pay16_apply (A0 m c) (A1 m c) (A2 m c) (A3 m c) (A4 m c) R l

/-- A block that holds, index by index, what an array holds at the block's place is the array read through the block. -/
theorem block5 (t : Fin cfg0.N) (X : Vec Ideal S512x3584 .fp8e4m3) (G : Vec Ideal S4096x3584 .fp8e4m3)
    (h : ∀ y : S512x3584.Idx, X y = G (((cfg0.win 5).blk t).view.emb y)) :
    (cfg0.win 5).cut (grid0.coords t) X = ((cfg0.win 5).blk t).view.read (Elt Ideal) G := funext fun y => h y

/-- What a point writes back to the result codes is the reference's array read through the block. -/
theorem flushed5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  refine block5 t _ _ fun y => ?_
  obtain ⟨r, j, rfl⟩ : ∃ (r : Fin 512) (j : Fin 3584), y = ix2 r j := ⟨y 0, y 1, by funext a; match a with | ⟨0, _⟩ => rfl | ⟨1, _⟩ => rfl⟩
  have ht := lt8 t
  have hr := r.isLt
  show CODE (iblk m c 0 t) (iblk m c 1 t) (iblk m c 2 t) (iblk m c 3 t) (iblk m c 4 t) r j = G5 m c (((cfg0.win 5).blk t).view.emb (ix2 r j))
  rw [emb5 t r j ⟨512 * t.val + r.val, by omega⟩ rfl]
  exact (code_eq m c t r j ⟨512 * t.val + r.val, by omega⟩ rfl).trans (G5_apply m c _ _).symm

/-- A block that holds, index by index, what an array holds at the block's place is the array read through the block. -/
theorem block6 (t : Fin cfg0.N) (X : Vec Ideal S4x1x128 .f32) (G : Vec Ideal S32x1x128 .f32)
    (h : ∀ y : S4x1x128.Idx, X y = G (((cfg0.win 6).blk t).view.emb y)) :
    (cfg0.win 6).cut (grid0.coords t) X = ((cfg0.win 6).blk t).view.read (Elt Ideal) G := funext fun y => h y

/-- What a point writes back to the result scales, row layout is the reference's array read through the block. -/
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  refine block6 t _ _ fun y => ?_
  obtain ⟨q, u, l, rfl⟩ : ∃ (q : Fin 4) (u : Fin 1) (l : Fin 128), y = ix3 q u l :=
    ⟨y 0, y 1, y 2, by funext a; match a with | ⟨0, _⟩ => rfl | ⟨1, _⟩ => rfl | ⟨2, _⟩ => rfl⟩
  obtain rfl : u = 0 := Subsingleton.elim _ _
  have ht := lt8 t
  have hq := q.isLt
  have hl := l.isLt
  show SCALE (iblk m c 0 t) (iblk m c 1 t) (iblk m c 2 t) (iblk m c 3 t) (iblk m c 4 t) ⟨128 * q.val + l.val, _⟩ = G6 m c (((cfg0.win 6).blk t).view.emb (ix3 q 0 l))
  rw [emb6 t q l ⟨4 * t.val + q.val, by omega⟩ rfl]
  exact (scale_eq m c t _ ⟨512 * t.val + (128 * q.val + l.val), by omega⟩ rfl).trans (G6_apply m c _ _ _ (by
    show 512 * t.val + (128 * q.val + l.val) = 128 * (4 * t.val + q.val) + l.val; omega)).symm

/-- A block that holds, index by index, what an array holds at the block's place is the array read through the block. -/
theorem block7 (t : Fin cfg0.N) (X : Vec Ideal S512x128 .f32) (G : Vec Ideal S4096x128 .f32)
    (h : ∀ y : S512x128.Idx, X y = G (((cfg0.win 7).blk t).view.emb y)) :
    (cfg0.win 7).cut (grid0.coords t) X = ((cfg0.win 7).blk t).view.read (Elt Ideal) G := funext fun y => h y

/-- What a point writes back to the result scales, column layout is the reference's array read through the block. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  refine block7 t _ _ fun y => ?_
  obtain ⟨r, l, rfl⟩ : ∃ (r : Fin 512) (l : Fin 128), y = ix2 r l := ⟨y 0, y 1, by funext a; match a with | ⟨0, _⟩ => rfl | ⟨1, _⟩ => rfl⟩
  have ht := lt8 t
  have hr := r.isLt
  show SCALE (iblk m c 0 t) (iblk m c 1 t) (iblk m c 2 t) (iblk m c 3 t) (iblk m c 4 t) r = G7 m c (((cfg0.win 7).blk t).view.emb (ix2 r l))
  rw [emb7 t r l ⟨512 * t.val + r.val, by omega⟩ rfl]
  exact (scale_eq m c t r _ rfl).trans (G7_apply m c _ _).symm

/-- At every point the result codes are written back. -/
theorem flush5 : ∀ t : Fin cfg0.N, (cfg0.win 5).flush t = true := (by decide +kernel : ∀ t : Fin grid0.N, _)
/-- At every point the result scales, row layout are written back. -/
theorem flush6 : ∀ t : Fin cfg0.N, (cfg0.win 6).flush t = true := (by decide +kernel : ∀ t : Fin grid0.N, _)
/-- At every point the result scales, column layout are written back. -/
theorem flush7 : ∀ t : Fin cfg0.N, (cfg0.win 7).flush t = true := (by decide +kernel : ∀ t : Fin grid0.N, _)

/-- The block that holds sample `R`. -/
def blockOf (R : ℕ) (h : R < 4096) : Fin cfg0.N := ⟨R / 512, by show R / 512 < 8; omega⟩

/-- Every entry of the result codes lies in a block that is written back. -/
theorem covered5 (i : S4096x3584.Idx) : ∃ t : Fin cfg0.N, (cfg0.win 5).flush t = true ∧ i ∈ ((cfg0.win 5).blk t).view.set := by
  obtain ⟨R, j, rfl⟩ : ∃ (R : Fin 4096) (j : Fin 3584), i = ix2 R j := ⟨i 0, i 1, by funext a; match a with | ⟨0, _⟩ => rfl | ⟨1, _⟩ => rfl⟩
  refine ⟨blockOf R.val R.isLt, flush5 _, ?_⟩
  have h := ((cfg0.win 5).blk (blockOf R.val R.isLt)).view.emb_mem_set (ix2 ⟨R.val % 512, Nat.mod_lt _ (by omega)⟩ j)
  rwa [emb5 _ _ j R (by show R.val = 512 * (R.val / 512) + R.val % 512; omega)] at h
/-- Every entry of the result scales, row layout lies in a block that is written back. -/
theorem covered6 (i : S32x1x128.Idx) : ∃ t : Fin cfg0.N, (cfg0.win 6).flush t = true ∧ i ∈ ((cfg0.win 6).blk t).view.set := by
  obtain ⟨Q, u, l, rfl⟩ : ∃ (Q : Fin 32) (u : Fin 1) (l : Fin 128), i = ix3 Q u l :=
    ⟨i 0, i 1, i 2, by funext a; match a with | ⟨0, _⟩ => rfl | ⟨1, _⟩ => rfl | ⟨2, _⟩ => rfl⟩
  obtain rfl : u = 0 := Subsingleton.elim _ _
  have hQ := Q.isLt
  refine ⟨blockOf (128 * Q.val) (by omega), flush6 _, ?_⟩
  have h := ((cfg0.win 6).blk (blockOf (128 * Q.val) (by omega))).view.emb_mem_set (ix3 ⟨Q.val % 4, Nat.mod_lt _ (by omega)⟩ 0 l)
  rwa [emb6 _ _ l Q (by show Q.val = 4 * (128 * Q.val / 512) + Q.val % 4; omega)] at h
/-- Every entry of the result scales, column layout lies in a block that is written back. -/
theorem covered7 (i : S4096x128.Idx) : ∃ t : Fin cfg0.N, (cfg0.win 7).flush t = true ∧ i ∈ ((cfg0.win 7).blk t).view.set := by
  obtain ⟨R, j, rfl⟩ : ∃ (R : Fin 4096) (j : Fin 128), i = ix2 R j := ⟨i 0, i 1, by funext a; match a with | ⟨0, _⟩ => rfl | ⟨1, _⟩ => rfl⟩
  refine ⟨blockOf R.val R.isLt, flush7 _, ?_⟩
  have h := ((cfg0.win 7).blk (blockOf R.val R.isLt)).view.emb_mem_set (ix2 ⟨R.val % 512, Nat.mod_lt _ (by omega)⟩ j)
  rwa [emb7 _ _ j R (by show R.val = 512 * (R.val / 512) + R.val % 512; omega)] at h

/-- The arrays after the run are the reference's. -/
theorem final5 (c : Dev nD) : (dats m 0 c).arrAt 5 cfg0.N = G5 m c :=
  (dats m 0 c).arrAt_eq_of_cover 5 (G5 m c) (fun t _ => flushed5 m c t) covered5
/-- After the run the array of the result scales, row layout is the reference's. -/
theorem final6 (c : Dev nD) : (dats m 0 c).arrAt 6 cfg0.N = G6 m c :=
  (dats m 0 c).arrAt_eq_of_cover 6 (G6 m c) (fun t _ => flushed6 m c t) covered6
/-- After the run the array of the result scales, column layout is the reference's. -/
theorem final7 (c : Dev nD) : (dats m 0 c).arrAt 7 cfg0.N = G7 m c :=
  (dats m 0 c).arrAt_eq_of_cover 7 (G7 m c) (fun t _ => flushed7 m c t) covered7

/-- The kernel runs, its results are the reference's functions of the arguments, and its arguments end unchanged. -/
theorem run : θ_run defs (onTc (τ := τ) (main (F := Ideal))) ⟨m, fun _ => 0, ρ⟩ fun r => ∀ c : Dev nD,
      r.2.mem ((c : Thread nD τ).loc main_v4_0) = G5 m c
      ∧ r.2.mem ((c : Thread nD τ).loc main_v4_1) = G6 m c
      ∧ r.2.mem ((c : Thread nD τ).loc main_v4_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), ((h.1 c).1 7).trans (final7 m c), h.2 c⟩)
    (θ_run_and (run_main m ρ) (unchanged m ρ))

end Cert.Mlp1Ideal.Run

end
-- ==== Proof.Mlp2Frame.lean ====
/- The frame of the kernel at any value domain: the body runs from inputs at their blocks and from outputs, kept values and
   running maxima at anything, and hands the latter back at some contents that nothing names. From that follow the run of
   the whole program, the arguments unchanged, and every semaphore counter at zero at the end. -/
module

public import proofs.«01_k».proof.Proof.Gen.Mlp2.Points
public import proofs.«01_k».proof.Proof.Gen.Mlp2.Loops
public import proofs.«01_k».proof.Proof.Gen.Mlp2.Frame
public import Idealize.ShloMosaic.Lib.Claim

@[expose] public section

set_option maxRecDepth 16384

noncomputable section

namespace Cert.Mlp2.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Mlp2 Cert.Mlp2.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store of every fourth row of a plane, with nothing stated of what it leaves. -/
theorem wp_strided {α : Type} (c : Dev nD) (E : Set ℕ) (m : Memref sig .tc .vmem S2x40x512x128 .f32) (t : ℕ)
    (off : Fin 4 → ℕ) (hoff) (inb) (spos) (hx) (hm) (f : m.view.ty.Contents (Elt F)) (w : FVec F S128x128 .f32)
    (k : PUnit → Prog (TpuEff nD τ sig (Elt F) Λ₀ .tc) α) (Q : α → sProp 𝕄) :
    (m.view.loc (c : Thread nD τ) ↦[m.view.set]{fullShare} f) ⊢
      iprop((∀ f', (m.view.loc (c : Thread nD τ) ↦[m.view.set]{fullShare} f') -∗ wp frame (wpE (defs₀ (F := F)) Variants.none c none) E (k ⟨⟩) Q)
        -∗ wp frame (wpE (defs₀ (F := F)) Variants.none c none) E
        (.op (.store ((m.slice (Rect.unit (s := S2x40x512x128) off S1x1x512x128.size hoff) (fun _ => rfl)).squeeze S512x128 squeezes_S1x1x512x128_S512x128)
          ⟨(⟨![t, 0], S128x128.size, ![4, 1], inb⟩ : LoadRect S512x128), spos⟩ w Finset.univ hx hm) k) Q) := by
  set v := (((m.slice (Rect.unit (s := S2x40x512x128) off S1x1x512x128.size hoff) (fun _ => rfl)).squeeze S512x128 squeezes_S1x1x512x128_S512x128).access
      ⟨(⟨![t, 0], S128x128.size, ![4, 1], inb⟩ : LoadRect S512x128), spos⟩) with hv
  have hset : v.setOn Finset.univ ⊆ m.view.set := by
    rw [View.setOn_univ]
    refine (View.set_slice_subset _ _).trans ?_
    refine (le_of_eq (View.set_reshape _ _)).trans ?_
    exact View.set_slice_subset _ _
  iintro Hf Hk
  iapply (wp_store (defs := defs₀ (F := F)) Variants.none c none E (Γ := .empty) (hx := hx) (hm := hm) (k := k) (Q := Q) (f := f) hset) $$ Hf
  iintro Hf
  iapply Hk $$ %_ Hf

/-- The first step sets the maxima. -/
theorem zero_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
     (E : Set ℕ) {α : Type} (k : Prog (TpuEff nD τ sig (Elt F) Λ₀ .tc) α) (K : α → sProp 𝕄) :
    iprop((∃ d, owns (c : Thread nD τ) arg13 fullShare d) ∗ (iprop((∃ d, owns (c : Thread nD τ) arg13 fullShare d)) -∗ wp frame (wpE (defs₀ (F := F)) Variants.none c none) E k K))
      ⊢ wp frame (wpE (defs₀ (F := F)) Variants.none c none) E
      (if k0_h1 : (Scalar.cmpi .ne (Scalar.extui (Scalar.cmpi .eq (BitVec.ofNat 32 (i 1).val) 0#32) : BitVec 32) 0#32 = 1#1) then do
        let v115 : Vec F S2x8x128 .f32 ← Prog.lift (.load arg13 (Rect.unit (s := S2x8x128) ![0, 0, 0] S2x8x128.size inb_S2x8x128_S2x8x128_0_0_0).toLoadRect (View.loadsAt_vmem h_S2x8x128))
        Prog.lift (.store arg13 (Rect.unit (s := S2x8x128) ![0, 0, 0] S2x8x128.size inb_S2x8x128_S2x8x128_0_0_0) (k0_pay38 (F := F)) Finset.univ (View.stores_vmem_bits_univ h_S2x8x128 rfl) (.inl rfl))
        k
      else do
        k : Prog (TpuEff nD τ sig (Elt F) Λ₀ .tc) α) K := by
  by_cases h : (Scalar.cmpi .ne (Scalar.extui (Scalar.cmpi .eq (BitVec.ofNat 32 (i 1).val) 0#32) : BitVec 32) 0#32 = 1#1)
  · rw [dif_pos h]
    unfold owns
    iintro ⟨⟨%d, %f, -, H⟩, Hk⟩
    sl_exec
    iapply Hk
    iexists _, _; isplitr; swap; · iexact H
    ipureintro; rfl
  · rw [dif_neg h]
    iintro ⟨H, Hk⟩
    iapply Hk
    iexact H

/-- The steps with tokens of the layer put the layer's values into their two planes. -/
theorem product_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec F S256x3584 .fp8e4m3) (x1 : Vec F S256x128 .f32) (x2 : Vec F S3584x512 .fp8e4m3) (x3 x4 : Vec F S1x512 .f32) (x5 : Vec F S2x1x512x128 .f32) (x6 x7 : Vec F S512x128 .f32) (E : Set ℕ) {α : Type} (k : Prog (TpuEff nD τ sig (Elt F) Λ₀ .tc) α) (K : α → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg12 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg12 fullShare d)) -∗ wp frame (wpE (defs₀ (F := F)) Variants.none c none) E k K))
      ⊢ wp frame (wpE (defs₀ (F := F)) Variants.none c none) E
      (if k0_h2 : k0_cond2 i = 1#1 then do
        let ⟨v116, v117, v119, v146⟩ : Σ' (v116 : FVec F S256x512 .f32) (v117 : FVec F S128x512 .f32) (v119 : FVec F S128x128 .f32), FVec F S128x128 .f32 ← k0_part1 i arg2 harg2 arg3 harg3 arg4 harg4 arg5 harg5 arg6 harg6 arg7 harg7 arg8 harg8 arg9 harg9 arg10 harg10 arg11 harg11 arg12 harg12 arg13 harg13 k0_h2
        let v184 : FVec F S128x512 .f32 ← k0_part2 i arg2 harg2 arg3 harg3 arg4 harg4 arg5 harg5 arg6 harg6 arg7 harg7 arg8 harg8 arg9 harg9 arg10 harg10 arg11 harg11 arg12 harg12 arg13 harg13 k0_h2 v116 v117 v119 v146
        let ⟨v186, v220, v222⟩ : Σ' (v186 : FVec F S128x128 .f32) (v220 : FVec F S128x128 .f32), FVec F S1x128 .f32 ← k0_part3 i arg2 harg2 arg3 harg3 arg4 harg4 arg5 harg5 arg6 harg6 arg7 harg7 arg8 harg8 arg9 harg9 arg10 harg10 arg11 harg11 arg12 harg12 arg13 harg13 k0_h2 v184
        let v225 : Vec F S1x128 .f32 ← Prog.lift (.load arg6 (Rect.unit (s := S1x512) ![0, 256] S1x128.size inb_S1x512_S1x128_0_256).toLoadRect (View.loadsAt_vmem h_S1x128))
        let v230 : Memref sig .tc .vmem S1x1x512x128 .f32 := arg12.slice (Rect.unit (s := S2x40x512x128) (k0_off2 i) S1x1x512x128.size (k0_off2_inb i k0_h2)) (fun _ => rfl)
        let v231 : Memref sig .tc .vmem S512x128 .f32 := v230.squeeze S512x128 squeezes_S1x1x512x128_S512x128
        let v232 : Vec F S128x128 .f32 ← Prog.lift (.load v231 (⟨![2, 0], S128x128.size, ![4, 1], inb_S512x128_S128x128_2_0_s_4_1⟩ : LoadRect S512x128) (View.loadsAt_vmem h_S128x128))
        Prog.lift (.store v231 ⟨(⟨![2, 0], S128x128.size, ![4, 1], inb_S512x128_S128x128_2_0_s_4_1⟩ : LoadRect S512x128), spos_4_1⟩ (k0_pay39 v220 v222 v225) Finset.univ (View.stores_vmem_bits_univ h_S128x128 rfl) (.inl rfl))
        let v237 : Vec F S1x128 .f32 ← Prog.lift (.load arg5 (Rect.unit (s := S1x512) ![0, 384] S1x128.size inb_S1x512_S1x128_0_384).toLoadRect (View.loadsAt_vmem h_S1x128))
        let v241 : Vec F S1x128 .f32 ← Prog.lift (.load arg6 (Rect.unit (s := S1x512) ![0, 384] S1x128.size inb_S1x512_S1x128_0_384).toLoadRect (View.loadsAt_vmem h_S1x128))
        let v246 : Memref sig .tc .vmem S1x1x512x128 .f32 := arg12.slice (Rect.unit (s := S2x40x512x128) (k0_off2 i) S1x1x512x128.size (k0_off2_inb i k0_h2)) (fun _ => rfl)
        let v247 : Memref sig .tc .vmem S512x128 .f32 := v246.squeeze S512x128 squeezes_S1x1x512x128_S512x128
        let v248 : Vec F S128x128 .f32 ← Prog.lift (.load v247 (⟨![3, 0], S128x128.size, ![4, 1], inb_S512x128_S128x128_3_0_s_4_1⟩ : LoadRect S512x128) (View.loadsAt_vmem h_S128x128))
        Prog.lift (.store v247 ⟨(⟨![3, 0], S128x128.size, ![4, 1], inb_S512x128_S128x128_3_0_s_4_1⟩ : LoadRect S512x128), spos_4_1⟩ (k0_pay40 v184 v186 v237 v241) Finset.univ (View.stores_vmem_bits_univ h_S128x128 rfl) (.inl rfl))
        k
      else do
        k : Prog (TpuEff nD τ sig (Elt F) Λ₀ .tc) α) K := by
  by_cases h : k0_cond2 i = 1#1
  · rw [dif_pos h]
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d0, %g0, -, H12⟩, Hk⟩
    sl_exec
    iapply (wp_strided c E arg12 0 _ _ _ _ _ _ _ _) $$ H12
    iintro %g1 H12
    sl_exec
    iapply (wp_strided c E arg12 1 _ _ _ _ _ _ _ _) $$ H12
    iintro %g2 H12
    sl_exec
    iapply (wp_strided c E arg12 2 _ _ _ _ _ _ _ _) $$ H12
    iintro %g3 H12
    sl_exec
    iapply (wp_strided c E arg12 3 _ _ _ _ _ _ _ _) $$ H12
    iintro %g4 H12
    sl_exec
    iapply (wp_strided c E arg12 0 _ _ _ _ _ _ _ _) $$ H12
    iintro %g5 H12
    sl_exec
    iapply (wp_strided c E arg12 1 _ _ _ _ _ _ _ _) $$ H12
    iintro %g6 H12
    sl_exec
    iapply (wp_strided c E arg12 2 _ _ _ _ _ _ _ _) $$ H12
    iintro %g7 H12
    sl_exec
    iapply (wp_strided c E arg12 3 _ _ _ _ _ _ _ _) $$ H12
    iintro %g8 H12
    iapply Hk
    isplitl [H2]
    · iexists f2; isplitr; swap; · iexact H2
      ipureintro; exact hf2
    isplitl [H3]
    · iexists f3; isplitr; swap; · iexact H3
      ipureintro; exact hf3
    isplitl [H4]
    · iexists f4; isplitr; swap; · iexact H4
      ipureintro; exact hf4
    isplitl [H5]
    · iexists f5; isplitr; swap; · iexact H5
      ipureintro; exact hf5
    isplitl [H6]
    · iexists f6; isplitr; swap; · iexact H6
      ipureintro; exact hf6
    iexists _, g8; isplitr; swap; · iexact H12
    ipureintro; rfl
  · rw [dif_neg h]
    iintro ⟨H2, H3, H4, H5, H6, H12, Hk⟩
    iapply Hk
    isplitl [H2]; · iexact H2
    isplitl [H3]; · iexact H3
    isplitl [H4]; · iexact H4
    isplitl [H5]; · iexact H5
    isplitl [H6]; · iexact H6
    iexact H12

/-- The other steps put zeros into theirs. -/
theorem pad_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
     (E : Set ℕ) {α : Type} (k : Prog (TpuEff nD τ sig (Elt F) Λ₀ .tc) α) (K : α → sProp 𝕄) :
    iprop((∃ d, owns (c : Thread nD τ) arg12 fullShare d) ∗ (iprop((∃ d, owns (c : Thread nD τ) arg12 fullShare d)) -∗ wp frame (wpE (defs₀ (F := F)) Variants.none c none) E k K))
      ⊢ wp frame (wpE (defs₀ (F := F)) Variants.none c none) E
      (if k0_h3 : k0_cond3 i = 1#1 then do
        let v116 : Vec F S1x1x512x128 .f32 ← Prog.lift (.load arg12 (Rect.unit (s := S2x40x512x128) (k0_off3 i) S1x1x512x128.size (k0_off3_inb i k0_h3)).toLoadRect (View.loadsAt_vmem h_S1x1x512x128))
        Prog.lift (.store arg12 (Rect.unit (s := S2x40x512x128) (k0_off3 i) S1x1x512x128.size (k0_off3_inb i k0_h3)) (k0_pay41 (F := F)) Finset.univ (View.stores_vmem_bits_univ h_S1x1x512x128 rfl) (.inl rfl))
        let v121 : Vec F S1x1x512x128 .f32 ← Prog.lift (.load arg12 (Rect.unit (s := S2x40x512x128) (k0_off4 i) S1x1x512x128.size (k0_off4_inb i k0_h3)).toLoadRect (View.loadsAt_vmem h_S1x1x512x128))
        Prog.lift (.store arg12 (Rect.unit (s := S2x40x512x128) (k0_off4 i) S1x1x512x128.size (k0_off4_inb i k0_h3)) (k0_pay42 (F := F)) Finset.univ (View.stores_vmem_bits_univ h_S1x1x512x128 rfl) (.inl rfl))
        k
      else do
        k : Prog (TpuEff nD τ sig (Elt F) Λ₀ .tc) α) K := by
  by_cases h : k0_cond3 i = 1#1
  · rw [dif_pos h]
    unfold owns
    iintro ⟨⟨%d, %f, -, H⟩, Hk⟩
    sl_exec
    iapply Hk
    iexists _, _; isplitr; swap; · iexact H
    ipureintro; rfl
  · rw [dif_neg h]
    iintro ⟨H, Hk⟩
    iapply Hk
    iexact H

/-- The first part of one step. -/
theorem part11_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec F S256x3584 .fp8e4m3) (x1 : Vec F S256x128 .f32) (x2 : Vec F S3584x512 .fp8e4m3) (x3 x4 : Vec F S1x512 .f32) (x5 : Vec F S2x1x512x128 .f32) (x6 x7 : Vec F S512x128 .f32) (E : Set ℕ) (K : (Σ' (arg1 : BitVec 32) (v25 : FVec F S512x128 .f32), FVec F S8x128 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ (∃ d, owns (c : Thread nD τ) arg13 fullShare d) ∗ (∀ v, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ (∃ d, owns (c : Thread nD τ) arg13 fullShare d)) -∗ K v))
      ⊢ wp frame (wpE (defs₀ (F := F)) Variants.none c none) E (k0_part11 (F := F) i arg2 harg2 arg3 harg3 arg4 harg4 arg5 harg5 arg6 harg6 arg7 harg7 arg8 harg8 arg9 harg9 arg10 harg10 arg11 harg11 arg12 harg12 arg13 harg13) K := by
  simp only [k0_part11_eq_skeleton]; unfold k0_part11_skel; dsimp only
  iintro ⟨H2, H3, H4, H5, H6, H7, H12, H13, Hk⟩
  iapply (zero_run c i arg2 harg2 arg3 harg3 arg4 harg4 arg5 harg5 arg6 harg6 arg7 harg7 arg8 harg8 arg9 harg9 arg10 harg10 arg11 harg11 arg12 harg12 arg13 harg13 E _ _)
  isplitl [H13]; · iexact H13
  iintro H13
  iapply (product_run c i arg2 harg2 arg3 harg3 arg4 harg4 arg5 harg5 arg6 harg6 arg7 harg7 arg8 harg8 arg9 harg9 arg10 harg10 arg11 harg11 arg12 harg12 arg13 harg13 x0 x1 x2 x3 x4 x5 x6 x7 E _ _)
  isplitl [H2]; · iexact H2
  isplitl [H3]; · iexact H3
  isplitl [H4]; · iexact H4
  isplitl [H5]; · iexact H5
  isplitl [H6]; · iexact H6
  isplitl [H12]; · iexact H12
  iintro ⟨H2, H3, H4, H5, H6, H12⟩
  iapply (pad_run c i arg2 harg2 arg3 harg3 arg4 harg4 arg5 harg5 arg6 harg6 arg7 harg7 arg8 harg8 arg9 harg9 arg10 harg10 arg11 harg11 arg12 harg12 arg13 harg13 E _ _)
  isplitl [H12]; · iexact H12
  iintro H12
  unfold owns
  icases H7 with ⟨%f7, %hf7, H7⟩
  icases H12 with ⟨%d12, %f12, -, H12⟩
  sl_exec
  sl_step
  iapply Hk $$ %_
  isplitl [H2]; · iexact H2
  isplitl [H3]; · iexact H3
  isplitl [H4]; · iexact H4
  isplitl [H5]; · iexact H5
  isplitl [H6]; · iexact H6
  isplitl [H7]; · iexists f7; isplitr; · ipureintro; exact hf7
                  iexact H7
  isplitl [H12]; · iexists _, f12; isplitr; swap; · iexact H12
                   ipureintro; rfl
  iexact H13

/-- The last step of a block. -/
theorem part10_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (h4 : k0_cond4 i = 1#1) (E : Set ℕ) (K : PUnit → sProp 𝕄) :
    iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (k0_part10 (F := F) i arg2 harg2 arg3 harg3 arg4 harg4 arg5 harg5 arg6 harg6 arg7 harg7 arg8 harg8 arg9 harg9 arg10 harg10 arg11 harg11 arg12 harg12 arg13 harg13 h4) K := by
  simp only [k0_part10_eq_skeleton]; unfold k0_part10_skel owns
  iintro ⟨⟨%d10, %f10, -, H10⟩, ⟨%d11, %f11, -, H11⟩, ⟨%d12, %f12, -, H12⟩, ⟨%d13, %f13, -, H13⟩, Hk⟩
  sl_exec
  sl_step
  iapply Hk
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 1000000 in
/-- The body at one step. -/
theorem body_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec F S256x3584 .fp8e4m3) (x1 : Vec F S256x128 .f32) (x2 : Vec F S3584x512 .fp8e4m3) (x3 x4 : Vec F S1x512 .f32) (x5 : Vec F S2x1x512x128 .f32) (x6 x7 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_mlp2 (F := F) i arg2 harg2 arg3 harg3 arg4 harg4 arg5 harg5 arg6 harg6 arg7 harg7 arg8 harg8 arg9 harg9 arg10 harg10 arg11 harg11 arg12 harg12 arg13 harg13) K := by
  simp only [cc0_mlp2_eq_skeleton]; unfold cc0_mlp2_skel
  rw [wp_bind]
  iintro ⟨H2, H3, H4, H5, H6, H7, H8, H9, H10, H11, H12, H13, Hk⟩
  iapply (part11_run c i arg2 harg2 arg3 harg3 arg4 harg4 arg5 harg5 arg6 harg6 arg7 harg7 arg8 harg8 arg9 harg9 arg10 harg10 arg11 harg11 arg12 harg12 arg13 harg13 x0 x1 x2 x3 x4 x5 x6 x7 E _)
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H13]; · iexact H13
  iintro %v ⟨H2, H3, H4, H5, H6, H7, H12, H13⟩
  dsimp only
  simp only [k0_part12_eq_skeleton, k0_part13_eq_skeleton]; unfold k0_part12_skel k0_part13_skel
  unfold owns
  icases H7 with ⟨%f7, %hf7, H7⟩
  icases H8 with ⟨%f8, %hf8, H8⟩
  icases H9 with ⟨%f9, %hf9, H9⟩
  icases H12 with ⟨%d12, %f12, -, H12⟩
  icases H13 with ⟨%d13, %f13, -, H13⟩
  sl_exec
  beta_reduce
  by_cases h : k0_cond4 i = 1#1
  · rw [dif_pos h, wp_bind]
    iapply (part10_run c i arg2 harg2 arg3 harg3 arg4 harg4 arg5 harg5 arg6 harg6 arg7 harg7 arg8 harg8 arg9 harg9 arg10 harg10 arg11 harg11 arg12 harg12 arg13 harg13 h E _)
    unfold owns
    isplitl [H10]; · iexact H10
    isplitl [H11]; · iexact H11
    isplitl [H12]
    · iexists _, _; isplitr; swap; · iexact H12
      ipureintro; rfl
    isplitl [H13]
    · iexists _, _; isplitr; swap; · iexact H13
      ipureintro; rfl
    iintro ⟨H10, H11, H12, H13⟩
    sl_step
    iapply Hk
    isplitl [H2]; · iexact H2
    isplitl [H3]; · iexact H3
    isplitl [H4]; · iexact H4
    isplitl [H5]; · iexact H5
    isplitl [H6]; · iexact H6
    isplitl [H7]
    · iexists f7; isplitr; swap; · iexact H7
      ipureintro; exact hf7
    isplitl [H8]
    · iexists f8; isplitr; swap; · iexact H8
      ipureintro; exact hf8
    isplitl [H9]
    · iexists f9; isplitr; swap; · iexact H9
      ipureintro; exact hf9
    isplitl [H10]; · iexact H10
    isplitl [H11]; · iexact H11
    isplitl [H12]; · iexact H12
    iexact H13
  · rw [dif_neg h]
    sl_step
    iapply Hk
    isplitl [H2]; · iexact H2
    isplitl [H3]; · iexact H3
    isplitl [H4]; · iexact H4
    isplitl [H5]; · iexact H5
    isplitl [H6]; · iexact H6
    isplitl [H7]
    · iexists f7; isplitr; swap; · iexact H7
      ipureintro; exact hf7
    isplitl [H8]
    · iexists f8; isplitr; swap; · iexact H8
      ipureintro; exact hf8
    isplitl [H9]
    · iexists f9; isplitr; swap; · iexact H9
      ipureintro; exact hf9
    isplitl [H10]; · iexact H10
    isplitl [H11]; · iexact H11
    isplitl [H12]
    · iexists _, _; isplitr; swap; · iexact H12
      ipureintro; rfl
    iexists _, _; isplitr; swap; · iexact H13
    ipureintro; rfl

/-- The proof data: the body leaves the inputs' buffers as it finds them; nothing is stated of the outputs'. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ _ => True
    | ⟨9, _⟩ => fun _ _ => True
  Φ _ := Pipeline.ΦA spec0 c
  q _ := fullShare
  owed _ := 0

/-- The arrays before the run are those the host leaves. -/
theorem A_eq (c : Dev nD) (w : Fin cfg0.W) : (rdat m c).A w = V m c (Pipeline.arrRef spec0 w) := by
  dsimp only [rdat]

/-- What the body is called with, the buffers one by one, -/
def bodyPre (c : Dev nD) (t : Fin cfg0.N) (Y : (w : Fin cfg0.W) → (cfg0.win w).block.Idx → Elt F (cfg0.win w).elt) : sProp 𝕄 :=
  iprop((rdat m c).Φ t.castSucc
    ∗ (rdat m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8)
    ∗ owns (c : Thread nD τ) (win0_9.stage (cfg0.slots t 9)) fullShare (Y 9))
/-- and what it returns. -/
def bodyPost (c : Dev nD) (t : Fin cfg0.N) (Y : (w : Fin cfg0.W) → (cfg0.win w).block.Idx → Elt F (cfg0.win w).elt) : sProp 𝕄 :=
  iprop((rdat m c).Φ t.succ
    ∗ (rdat m c).owesAt () t.succ
    ∗ (∃ X, ⌜(rdat m c).after 0 t (Y 0) X⌝ ∗ owns (c : Thread nD τ) (win0_0.stage (cfg0.slots t 0)) fullShare X)
    ∗ (∃ X, ⌜(rdat m c).after 1 t (Y 1) X⌝ ∗ owns (c : Thread nD τ) (win0_1.stage (cfg0.slots t 1)) fullShare X)
    ∗ (∃ X, ⌜(rdat m c).after 2 t (Y 2) X⌝ ∗ owns (c : Thread nD τ) (win0_2.stage (cfg0.slots t 2)) fullShare X)
    ∗ (∃ X, ⌜(rdat m c).after 3 t (Y 3) X⌝ ∗ owns (c : Thread nD τ) (win0_3.stage (cfg0.slots t 3)) fullShare X)
    ∗ (∃ X, ⌜(rdat m c).after 4 t (Y 4) X⌝ ∗ owns (c : Thread nD τ) (win0_4.stage (cfg0.slots t 4)) fullShare X)
    ∗ (∃ X, ⌜(rdat m c).after 5 t (Y 5) X⌝ ∗ owns (c : Thread nD τ) (win0_5.stage (cfg0.slots t 5)) fullShare X)
    ∗ (∃ X, ⌜(rdat m c).after 6 t (Y 6) X⌝ ∗ owns (c : Thread nD τ) (win0_6.stage (cfg0.slots t 6)) fullShare X)
    ∗ (∃ X, ⌜(rdat m c).after 7 t (Y 7) X⌝ ∗ owns (c : Thread nD τ) (win0_7.stage (cfg0.slots t 7)) fullShare X)
    ∗ (∃ X, ⌜(rdat m c).after 8 t (Y 8) X⌝ ∗ owns (c : Thread nD τ) (win0_8.stage (cfg0.slots t 8)) fullShare X)
    ∗ (∃ X, ⌜(rdat m c).after 9 t (Y 9) X⌝ ∗ owns (c : Thread nD τ) (win0_9.stage (cfg0.slots t 9)) fullShare X))

set_option maxHeartbeats 1000000 in
/-- The body at any point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  dsimp only [rdat]
  unfold Pipeline.ΦA; rw [scopedRest0_eq]
  iintro ⟨⟨⟨HZ, HA⟩, Hg⟩, Ho, H0, H1, H2, H3, H4, H5, H6, H7, H8, H9⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Y 0) (Y 1) (Y 2) (Y 3) (Y 4) (Y 5) (Y 6) (Y 7) Set.univ _)
  simp only [owns_whole]

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HZ]; · iexact HZ
  isplitl [HA]; · iexact HA
  iintro ⟨H0, H1, H2, H3, H4, H5, H6, H7, ⟨%d8, H8⟩, ⟨%d9, H9⟩, HZ, HA⟩
  isplitl [HZ HA Hg]
  · isplitl [HZ HA]
    · isplitl [HZ]; · iexact HZ
      iexact HA
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists d8; isplitr; swap; · iexact H8
    ipureintro; trivial
  iexists d9; isplitr; swap; · iexact H9
  ipureintro; trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := F)) Variants.none () Set.univ := fun t Y hY => by
  rw [bigSep_W0, bigSep_W0, defs₀_row]
  exact triple_restated (sound_body m c t Y) rfl .rfl fun _ => .rfl

set_option backward.isDefEq.respectTransparency.types false in
/-- The run, and every counter at zero at its end. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (rdat m) (A_eq m) (run_main m ρ)

/-- The program runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Mlp2.Run

end
-- ==== Proof.Mlp2Spec.lean ====
/- The second layer with its normalisation, as functions of one block's operands, and the kernel's register values read
   at an index in terms of them. -/
module

public import proofs.«01_k».proof.Proof.Gen.Mlp2Ideal.Skeleton
public import Idealize.ShloMosaic.Lib.Pipeline.Value
public import Idealize.ShloMosaic.Lib.Pipeline.ValueKit
public import Idealize.ShloMosaic.Lib.Pointwise

@[expose] public section

set_option maxRecDepth 16384

noncomputable section

namespace Cert.Mlp2Ideal.Block

open Idealize.ShloMosaic Idealize.ShloMosaic.TcCoe Cert.Mlp2Ideal

/-- The scale of a sample whose largest magnitude is `a`: one if `a` is zero, else `a / 448`. -/
def scaleOf (a : EReal) : EReal :=
  Scalar.select (FloatOps.cmpf (F := Ideal) (φ := .f32) .oeq a (Ideal.ofBits .f32 0x00000000#32))
    (Ideal.ofBits .f32 0x3F800000#32) (Ideal.div a (Ideal.ofBits .f32 0x43E00000#32))

/-- The code of the value `h` under the scale `s`: `h / s` clipped to `[-448, 448]`. -/
def codeOf (h s : EReal) : EReal :=
  min (Ideal.ofBits .f32 0x43E00000#32) (max (Ideal.ofBits .f32 0xC3E00000#32) (Ideal.div h s))

/-- The mean of 128 values whose sum is `t`. -/
def meanOf (t : EReal) : EReal := Ideal.div t (Ideal.ofBits .f32 0x43000000#32)

/-- The small constant added to a variance. -/
def eps : EReal := Ideal.ofBits .f32 0x3727C5AC#32

/-- The sum over the features of token `t`, feature `f` of token `t` standing in row `4 * f + t`. -/
def tot (Y : Fin 512 → EReal) (t : ℕ) (ht : t < 4) : EReal := ∑ f : Fin 128, Y ⟨4 * f.val + t, by omega⟩

/-- A remainder by four is below four. -/
theorem mod4 (r : ℕ) : r % 4 < 4 := Nat.mod_lt _ (by omega)

/-- A row less the mean of its token. -/
def cen (Y : Fin 512 → EReal) (r : Fin 512) : EReal := Y r - meanOf (tot Y (r.val % 4) (mod4 _))

/-- The variance of token `t`, plus the small constant. -/
def vare (Y : Fin 512 → EReal) (t : ℕ) (ht : t < 4) : EReal := meanOf (tot (fun r => cen Y r * cen Y r) t ht) + eps

/-- The normalised row, scaled and shifted. -/
def lnOf (Y g b : Fin 512 → EReal) (r : Fin 512) : EReal :=
  Ideal.div (cen Y r) (Ideal.sqrt (vare Y (r.val % 4) (mod4 _))) * g r + b r

/-! ## The register values at an index -/

/-- This value of the body, entry by entry. -/
theorem pay2_apply (a : Vec Ideal S256x3584 .fp8e4m3) (b : Vec Ideal S3584x512 .fp8e4m3) (r : Fin 256) (c : Fin 512) :
    Gen.k0_pay2 a b (ix2 r c) = ∑ k : Fin 3584, a (ix2 r k) * b (ix2 k c) := by
  pointwise [Gen.k0_pay2]

/-- The sums over the rows with the same remainder modulo eight. -/
theorem sum8 (v : FVec Ideal S512x128 .f32) (s : Fin 8) (l : Fin 128) :
    multiReduction (F := Ideal) (φ := .f32) .add [0] S8x128 (shapeCast S64x8x128 v Gen.shapeCasts_S512x128_S64x8x128) 0x00000000#32 Gen.reduces_S64x8x128_S8x128 (.inl rfl) rfl (ix2 s l)
      = ∑ k : Fin 64, v (ix2 ⟨8 * k.val + s.val, by omega⟩ l) := by
  pointwise []
  exact Finset.sum_congr rfl fun k _ => congrArg (fun j => v (ix2 j l)) (Fin.ext (by show k.val * 8 + s.val = 8 * k.val + s.val; omega))

/-- The neutral element of the maximum. -/
theorem ofBits_negInf : Ideal.ofBits .f32 0xFF800000#32 = ⊥ := by simp [Ideal.ofBits, Ideal.ieee]

/-- The maxima over the rows with the same remainder modulo eight. -/
theorem sup8 (v : FVec Ideal S512x128 .f32) (s : Fin 8) (l : Fin 128) :
    multiReduction (F := Ideal) (φ := .f32) .maximumf [0] S8x128 (shapeCast S64x8x128 v Gen.shapeCasts_S512x128_S64x8x128) 0xFF800000#32 Gen.reduces_S64x8x128_S8x128 (.inl rfl) rfl (ix2 s l)
      = Finset.univ.sup fun k : Fin 64 => (v (ix2 ⟨8 * k.val + s.val, by omega⟩ l) : EReal) := by
  have e : ∀ k : Fin 64, (v (ix2 ⟨8 * k.val + s.val, by omega⟩ l) : EReal) = v (ix2 ⟨k.val * 8 + s.val, by omega⟩ l) := fun k =>
    congrArg (fun j => v (ix2 j l)) (Fin.ext (by show 8 * k.val + s.val = k.val * 8 + s.val; omega))
  simp only [e]
  pointwise []
  rw [ofBits_negInf]
  rfl

/-- A turn of eight rows by four. -/
theorem rot8 (v : FVec Ideal S8x128 .f32) (s : Fin 8) (l : Fin 128) :
    dynamicRotate 0 4#32 none v Gen.rotates_S8x128_d0 (ix2 s l) = v (ix2 ⟨(s.val + 4) % 8, by omega⟩ l) := by
  pointwise []
  exact congrArg (fun j => v (ix2 j l)) (Fin.ext (by show (s.val + 8 - 4) % 8 = (s.val + 4) % 8; omega))

/-- Eight rows repeated over all rows. -/
theorem spread8 (v : FVec Ideal S8x128 .f32) (r : Fin 512) (l : Fin 128) :
    shapeCast S512x128 (broadcastTo S64x8x128 (shapeCast S1x8x128 (shapeCast S1x8x128 v Gen.shapeCasts_S8x128_S1x8x128) Gen.shapeCasts_S1x8x128_S1x8x128) Gen.broadcasts_S1x8x128_S64x8x128) Gen.shapeCasts_S64x8x128_S512x128 (ix2 r l)
      = v (ix2 ⟨r.val % 8, by omega⟩ l) := by
  pointwise []

/-- The sums over the features, one for each token and repeated twice. -/
def sums (v : FVec Ideal S512x128 .f32) : FVec Ideal S8x128 .f32 :=
  addf (multiReduction (F := Ideal) (φ := .f32) .add [0] S8x128 (shapeCast S64x8x128 v Gen.shapeCasts_S512x128_S64x8x128) 0x00000000#32 Gen.reduces_S64x8x128_S8x128 (.inl rfl) rfl)
    (dynamicRotate 0 4#32 none (multiReduction (F := Ideal) (φ := .f32) .add [0] S8x128 (shapeCast S64x8x128 v Gen.shapeCasts_S512x128_S64x8x128) 0x00000000#32 Gen.reduces_S64x8x128_S8x128 (.inl rfl) rfl) Gen.rotates_S8x128_d0)

/-- A sum over 128 features is a sum over 64 pairs. -/
theorem sum_pairs (g : Fin 128 → EReal) :
    ∑ f, g f = ∑ k : Fin 64, (g ⟨2 * k.val, by omega⟩ + g ⟨2 * k.val + 1, by omega⟩) := by
  have h := Fintype.sum_equiv (finProdFinEquiv (m := 64) (n := 2)) (fun p : Fin 64 × Fin 2 => g (finProdFinEquiv p)) g (fun _ => rfl)
  rw [← h, Fintype.sum_prod_type]
  refine Finset.sum_congr rfl fun k _ => ?_
  rw [Fin.sum_univ_two]
  congr 2
  · exact Fin.ext (by show 0 + 2 * k.val = 2 * k.val; omega)
  · exact Fin.ext (by show 1 + 2 * k.val = 2 * k.val + 1; omega)

/-- The sum over a token, at every row of the eight. -/
theorem sums_apply (v : FVec Ideal S512x128 .f32) (s : Fin 8) (l : Fin 128) :
    sums v (ix2 s l) = tot (fun r => v (ix2 r l)) (s.val % 4) (mod4 _) := by
  unfold sums tot
  rw [ValueIdx.addf_apply, rot8, sum8, sum8, ← Finset.sum_add_distrib, sum_pairs]
  refine Finset.sum_congr rfl fun k _ => ?_
  have hs := s.isLt
  have c : ∀ (i j : ℕ) (hi : i < 512) (hj : j < 512), i = j → (v (ix2 (⟨i, hi⟩ : Fin 512) l) : EReal) = v (ix2 (⟨j, hj⟩ : Fin 512) l) :=
    fun i j hi hj h => by subst h; rfl
  by_cases h : s.val < 4
  · exact congrArg₂ (· + ·) (c _ _ _ _ (by dsimp only; omega)) (c _ _ _ _ (by dsimp only; omega))
  · rw [add_comm]
    exact congrArg₂ (· + ·) (c _ _ _ _ (by dsimp only; omega)) (c _ _ _ _ (by dsimp only; omega))

/-- The rows less their token's mean. -/
def centre (v : FVec Ideal S512x128 .f32) : FVec Ideal S512x128 .f32 :=
  subf v (shapeCast S512x128 (broadcastTo S64x8x128 (shapeCast S1x8x128 (shapeCast S1x8x128
    (divf (sums v) (broadcast S8x128 (Scalar.ofBits (F := Ideal) .f32 0x43000000#32))) Gen.shapeCasts_S8x128_S1x8x128) Gen.shapeCasts_S1x8x128_S1x8x128) Gen.broadcasts_S1x8x128_S64x8x128) Gen.shapeCasts_S64x8x128_S512x128)

/-- A value less its token's mean. -/
theorem centre_apply (v : FVec Ideal S512x128 .f32) (r : Fin 512) (l : Fin 128) :
    centre v (ix2 r l) = cen (fun r => v (ix2 r l)) r := by
  unfold centre
  rw [ValueIdx.subf_apply, spread8, ValueIdx.divf_apply, sums_apply]
  have e : (r.val % 8) % 4 = r.val % 4 := by omega
  simp only [e]
  rfl

/-- The variances, plus the small constant. -/
def variance (c : FVec Ideal S512x128 .f32) : FVec Ideal S8x128 .f32 :=
  addf (divf (sums (mulf c c)) (broadcast S8x128 (Scalar.ofBits (F := Ideal) .f32 0x43000000#32))) (broadcast S8x128 (Scalar.ofBits (F := Ideal) .f32 0x3727C5AC#32))

/-- A token's variance with the small constant added. -/
theorem variance_apply (v : FVec Ideal S512x128 .f32) (s : Fin 8) (l : Fin 128) :
    variance (centre v) (ix2 s l) = vare (fun r => v (ix2 r l)) (s.val % 4) (mod4 _) := by
  unfold variance
  rw [ValueIdx.addf_apply, ValueIdx.divf_apply, sums_apply]
  have e : (fun r => mulf (centre v) (centre v) (ix2 r l)) = fun r => cen (fun r => v (ix2 r l)) r * cen (fun r => v (ix2 r l)) r := by
    funext r; rw [ValueIdx.mulf_apply, centre_apply]
  rw [e]
  rfl

/-- This value of the body, entry by entry. -/
theorem pay45_apply (c : FVec Ideal S512x128 .f32) (w : FVec Ideal S8x128 .f32) (g b : Vec Ideal S512x128 .f32) (r : Fin 512) (l : Fin 128) :
    Gen.k0_pay45 c w g b (ix2 r l) = Ideal.div (c (ix2 r l)) (Ideal.sqrt (w (ix2 ⟨r.val % 8, by omega⟩ l))) * g (ix2 r l) + b (ix2 r l) := by
  pointwise [Gen.k0_pay45]

/-- Normalising the rows `v`. -/
theorem norm_apply (v : FVec Ideal S512x128 .f32) (g b : Vec Ideal S512x128 .f32) (r : Fin 512) (l : Fin 128) :
    Gen.k0_pay45 (centre v) (variance (centre v)) g b (ix2 r l)
      = lnOf (fun r => v (ix2 r l)) (fun r => g (ix2 r l)) (fun r => b (ix2 r l)) r := by
  rw [pay45_apply, variance_apply, centre_apply]
  have e : (r.val % 8) % 4 = r.val % 4 := by omega
  simp only [e]
  rfl

/-- This value of the body, entry by entry. -/
theorem pay48_apply (a b : Vec Ideal S1x1x512x128 .f32) (r : Fin 512) (l : Fin 128) :
    Gen.k0_pay48 a b (ix2 r l) = a (ix4 0 0 r l) + b (ix4 0 0 r l) := by
  pointwise [Gen.k0_pay48]

/-- This value of the body is the one named. -/
theorem pay43_eq (a b : Vec Ideal S1x1x512x128 .f32) : Gen.k0_pay43 a b = centre (Gen.k0_pay48 a b) := rfl
/-- This value of the body is the one named. -/
theorem pay44_eq (a b : Vec Ideal S1x1x512x128 .f32) : Gen.k0_pay44 a b = variance (centre (Gen.k0_pay48 a b)) := rfl
/-- This value of the body is the one named. -/
theorem pay49_eq (a b : Vec Ideal S1x1x512x128 .f32) : Gen.k0_pay49 a b = sums (Gen.k0_pay48 a b) := rfl
/-- This value of the body is the one named. -/
theorem pay50_eq (v : FVec Ideal S512x128 .f32) (g b : Vec Ideal S512x128 .f32) :
    Gen.k0_pay50 v (sums v) g b = Gen.k0_pay45 (centre v) (variance (centre v)) g b := rfl
/-- This value of the body, entry by entry. -/
theorem pay46_apply (c : FVec Ideal S512x128 .f32) (w : FVec Ideal S8x128 .f32) (g b : Vec Ideal S512x128 .f32) (r : Fin 512) (l : Fin 128) :
    Gen.k0_pay46 c w g b (ix4 0 0 r l) = Gen.k0_pay45 c w g b (ix2 r l) := by
  unfold Gen.k0_pay46
  generalize Gen.k0_pay45 c w g b = x
  pointwise []
/-- This value of the body, entry by entry. -/
theorem pay51_apply (c : FVec Ideal S512x128 .f32) (w : FVec Ideal S8x128 .f32) (g b : Vec Ideal S512x128 .f32) (r : Fin 512) (l : Fin 128) :
    Gen.k0_pay51 c w g b (ix4 0 0 r l) = Gen.k0_pay50 c w g b (ix2 r l) := by
  unfold Gen.k0_pay51
  generalize Gen.k0_pay50 c w g b = x
  pointwise []

/-- The absolute value. -/
def absE (x : EReal) : EReal := max x (-x)

/-- The running maximum with one more step's rows `x`. -/
def bump (x : FVec Ideal S512x128 .f32) (m : Vec Ideal S1x8x128 .f32) : FVec Ideal S8x128 .f32 :=
  maximumf (shapeCast S8x128 m Gen.shapeCasts_S1x8x128_S8x128)
    (multiReduction (F := Ideal) (φ := .f32) .maximumf [0] S8x128 (shapeCast S64x8x128 (absf x) Gen.shapeCasts_S512x128_S64x8x128) 0xFF800000#32 Gen.reduces_S64x8x128_S8x128 (.inl rfl) rfl)

/-- The running maxima raised by a group's absolute values. -/
theorem bump_apply (x : FVec Ideal S512x128 .f32) (m : Vec Ideal S1x8x128 .f32) (s : Fin 8) (l : Fin 128) :
    bump x m (ix2 s l) = max (m (ix3 0 s l)) (Finset.univ.sup fun k : Fin 64 => absE (x (ix2 ⟨8 * k.val + s.val, by omega⟩ l))) := by
  unfold bump
  rw [ValueIdx.maximumf_apply, sup8]
  refine congrArg₂ max ?_ rfl
  pointwise []

/-- This value of the body, entry by entry. -/
theorem pay47_apply (c : FVec Ideal S512x128 .f32) (w : FVec Ideal S8x128 .f32) (g b : Vec Ideal S512x128 .f32) (m : Vec Ideal S1x8x128 .f32) (s : Fin 8) (l : Fin 128) :
    Gen.k0_pay47 c w g b m (ix3 0 s l) = bump (Gen.k0_pay45 c w g b) m (ix2 s l) := by
  show shapeCast S1x8x128 (bump (Gen.k0_pay45 c w g b) m) Gen.shapeCasts_S8x128_S1x8x128 (ix3 0 s l) = _
  generalize bump (Gen.k0_pay45 c w g b) m = x
  pointwise []
/-- This value of the body is the one named. -/
theorem pay52_eq (c : FVec Ideal S512x128 .f32) (w : FVec Ideal S8x128 .f32) (g b : Vec Ideal S512x128 .f32) (m : Vec Ideal S1x8x128 .f32) :
    Gen.k0_pay52 c w g b m = bump (Gen.k0_pay50 c w g b) m := rfl
/-- This value of the body, entry by entry. -/
theorem pay1_apply (x : FVec Ideal S8x128 .f32) (s : Fin 8) (l : Fin 128) : Gen.k0_pay1 x (ix3 0 s l) = x (ix2 s l) := by
  pointwise [Gen.k0_pay1]

/-- This value of the body, entry by entry. -/
theorem pay30_apply (m : Vec Ideal S1x8x128 .f32) (l : Fin 128) :
    Gen.k0_pay30 m (ix2 0 l) = scaleOf (Finset.univ.sup fun s : Fin 8 => (m (ix3 0 s l) : EReal)) := by
  pointwise [Gen.k0_pay30, scaleOf]
  rw [ofBits_negInf]
  rfl
/-- This value of the body, entry by entry. -/
theorem pay31_apply (m : Vec Ideal S1x8x128 .f32) (l : Fin 128) : Gen.k0_pay31 m (ix3 0 0 l) = Gen.k0_pay30 m (ix2 0 l) := by
  unfold Gen.k0_pay31
  generalize Gen.k0_pay30 m = x
  pointwise []
/-- This value of the body is the one named. -/
theorem pay34_eq (m : Vec Ideal S1x8x128 .f32) : Gen.k0_pay34 m = Gen.k0_pay30 m := rfl
/-- This value of the body is the one named. -/
theorem pay35_eq (m : Vec Ideal S1x8x128 .f32) : Gen.k0_pay35 m = Gen.k0_pay31 m := rfl

/-- This value of the body, entry by entry. -/
theorem pay16_apply (s : FVec Ideal S1x128 .f32) (z : Vec Ideal S1x1x512x128 .f32) (l : Fin 128) (t : Fin 4) (f : Fin 128) :
    Gen.k0_pay16 s z (ix3 l t f) = codeOf (z (ix4 0 0 ⟨4 * f.val + t.val, by omega⟩ l)) (s (ix2 0 l)) := by
  have e : (z (ix4 0 0 ⟨4 * f.val + t.val, by omega⟩ l) : EReal) = z (ix4 0 0 ⟨f.val * 4 + t.val, by omega⟩ l) :=
    congrArg (fun j => z (ix4 0 0 j l)) (Fin.ext (by show 4 * f.val + t.val = f.val * 4 + t.val; omega))
  rw [e]
  pointwise [Gen.k0_pay16, codeOf]
/-- This value of the body is the one named. -/
theorem pay17_eq : Gen.k0_pay17 (F := Ideal) = Gen.k0_pay16 := rfl
/-- This value of the body is the one named. -/
theorem pay18_eq : Gen.k0_pay18 (F := Ideal) = Gen.k0_pay16 := rfl
/-- This value of the body is the one named. -/
theorem pay19_eq : Gen.k0_pay19 (F := Ideal) = Gen.k0_pay16 := rfl
/-- This value of the body is the one named. -/
theorem pay20_eq : Gen.k0_pay20 (F := Ideal) = Gen.k0_pay16 := rfl
/-- This value of the body is the one named. -/
theorem pay21_eq : Gen.k0_pay21 (F := Ideal) = Gen.k0_pay16 := rfl
/-- This value of the body is the one named. -/
theorem pay23_eq : Gen.k0_pay23 (F := Ideal) = Gen.k0_pay16 := rfl
/-- This value of the body is the one named. -/
theorem pay24_eq : Gen.k0_pay24 (F := Ideal) = Gen.k0_pay16 := rfl
/-- This value of the body is the one named. -/
theorem pay25_eq : Gen.k0_pay25 (F := Ideal) = Gen.k0_pay16 := rfl
/-- This value of the body is the one named. -/
theorem pay26_eq : Gen.k0_pay26 (F := Ideal) = Gen.k0_pay16 := rfl
/-- This value of the body is the one named. -/
theorem pay27_eq : Gen.k0_pay27 (F := Ideal) = Gen.k0_pay16 := rfl
/-- This value of the body is the one named. -/
theorem pay28_eq : Gen.k0_pay28 (F := Ideal) = Gen.k0_pay16 := rfl
/-- This value of the body is the one named. -/
theorem pay32_eq (m : Vec Ideal S1x8x128 .f32) (z : Vec Ideal S1x1x512x128 .f32) : Gen.k0_pay32 m (Gen.k0_pay22 z) = Gen.k0_pay16 (Gen.k0_pay30 m) z := rfl
/-- This value of the body is the one named. -/
theorem pay33_eq (m : Vec Ideal S1x8x128 .f32) (z : Vec Ideal S1x1x512x128 .f32) : Gen.k0_pay33 m z = Gen.k0_pay16 (Gen.k0_pay30 m) z := rfl
/-- This value of the body is the one named. -/
theorem pay36_eq (m : Vec Ideal S1x8x128 .f32) (z : Vec Ideal S1x1x512x128 .f32) : Gen.k0_pay36 m (Gen.k0_pay29 z) = Gen.k0_pay16 (Gen.k0_pay30 m) z := rfl
/-- This value of the body is the one named. -/
theorem pay37_eq (m : Vec Ideal S1x8x128 .f32) (z : Vec Ideal S1x1x512x128 .f32) : Gen.k0_pay37 m z = Gen.k0_pay16 (Gen.k0_pay30 m) z := rfl

/-! ## The product's tiles -/

section Tiles
variable (a : Vec Ideal S256x3584 .fp8e4m3) (b : Vec Ideal S3584x512 .fp8e4m3) (s : Vec Ideal S128x128 .f32) (w c : Vec Ideal S1x128 .f32) (f l : Fin 128)

/-- This value of the body, entry by entry. -/
theorem pay5_apply : Gen.k0_pay5 a b s w c (ix2 f l)
    = (∑ k : Fin 3584, a (ix2 ⟨l.val, by omega⟩ k) * b (ix2 k ⟨f.val, by omega⟩)) * s (ix2 l f) * w (ix2 0 f) + c (ix2 0 f) := by
  rw [← pay2_apply]
  pointwise [Gen.k0_pay5, Gen.k0_pay4, Gen.k0_pay3]
/-- This value of the body, entry by entry. -/
theorem pay7_apply : Gen.k0_pay7 (Gen.k0_pay6 a b s w c) (ix2 f l)
    = (∑ k : Fin 3584, a (ix2 ⟨l.val, by omega⟩ k) * b (ix2 k ⟨128 + f.val, by omega⟩)) * s (ix2 l f) * w (ix2 0 f) + c (ix2 0 f) := by
  rw [← pay2_apply]
  pointwise [Gen.k0_pay7, Gen.k0_pay6, Gen.k0_pay4, Gen.k0_pay3]
/-- This value of the body, entry by entry. -/
theorem pay8_apply : Gen.k0_pay8 (Gen.k0_pay3 a b) (Gen.k0_pay4 s) w c (ix2 f l)
    = (∑ k : Fin 3584, a (ix2 ⟨l.val, by omega⟩ k) * b (ix2 k ⟨256 + f.val, by omega⟩)) * s (ix2 l f) * w (ix2 0 f) + c (ix2 0 f) := by
  rw [← pay2_apply]
  pointwise [Gen.k0_pay8, Gen.k0_pay4, Gen.k0_pay3]
/-- This value of the body, entry by entry. -/
theorem pay9_apply : Gen.k0_pay9 (Gen.k0_pay3 a b) (Gen.k0_pay4 s) w c (ix2 f l)
    = (∑ k : Fin 3584, a (ix2 ⟨l.val, by omega⟩ k) * b (ix2 k ⟨384 + f.val, by omega⟩)) * s (ix2 l f) * w (ix2 0 f) + c (ix2 0 f) := by
  rw [← pay2_apply]
  pointwise [Gen.k0_pay9, Gen.k0_pay4, Gen.k0_pay3]
/-- This value of the body, entry by entry. -/
theorem pay12_apply : Gen.k0_pay12 (Gen.k0_pay10 (Gen.k0_pay2 a b)) s w c (ix2 f l)
    = (∑ k : Fin 3584, a (ix2 ⟨128 + l.val, by omega⟩ k) * b (ix2 k ⟨f.val, by omega⟩)) * s (ix2 l f) * w (ix2 0 f) + c (ix2 0 f) := by
  rw [← pay2_apply]
  pointwise [Gen.k0_pay12, Gen.k0_pay11, Gen.k0_pay10]
/-- This value of the body, entry by entry. -/
theorem pay13_apply : Gen.k0_pay13 (Gen.k0_pay10 (Gen.k0_pay2 a b)) s w c (ix2 f l)
    = (∑ k : Fin 3584, a (ix2 ⟨128 + l.val, by omega⟩ k) * b (ix2 k ⟨128 + f.val, by omega⟩)) * s (ix2 l f) * w (ix2 0 f) + c (ix2 0 f) := by
  rw [← pay2_apply]
  pointwise [Gen.k0_pay13, Gen.k0_pay11, Gen.k0_pay10]
/-- This value of the body, entry by entry. -/
theorem pay39_apply : Gen.k0_pay39 (Gen.k0_pay14 (Gen.k0_pay10 (Gen.k0_pay2 a b)) s) (Gen.k0_pay15 w) c (ix2 f l)
    = (∑ k : Fin 3584, a (ix2 ⟨128 + l.val, by omega⟩ k) * b (ix2 k ⟨256 + f.val, by omega⟩)) * s (ix2 l f) * w (ix2 0 f) + c (ix2 0 f) := by
  rw [← pay2_apply]
  pointwise [Gen.k0_pay39, Gen.k0_pay14, Gen.k0_pay15, Gen.k0_pay11, Gen.k0_pay10]
/-- This value of the body, entry by entry. -/
theorem pay40_apply : Gen.k0_pay40 (Gen.k0_pay10 (Gen.k0_pay2 a b)) (Gen.k0_pay11 s) w c (ix2 f l)
    = (∑ k : Fin 3584, a (ix2 ⟨128 + l.val, by omega⟩ k) * b (ix2 k ⟨384 + f.val, by omega⟩)) * s (ix2 l f) * w (ix2 0 f) + c (ix2 0 f) := by
  rw [← pay2_apply]
  pointwise [Gen.k0_pay40, Gen.k0_pay11, Gen.k0_pay10]
/-- This value of the body, entry by entry. -/
theorem pay41_apply (r : Fin 512) (u v : Fin 1) : Gen.k0_pay41 (F := Ideal) (ix4 u v r l) = 0 := by
  pointwise [Gen.k0_pay41]
/-- This value of the body, entry by entry. -/
theorem pay42_apply (r : Fin 512) (u v : Fin 1) : Gen.k0_pay42 (F := Ideal) (ix4 u v r l) = 0 := by
  pointwise [Gen.k0_pay42]
/-- This value of the body, entry by entry. -/
theorem pay38_apply (y : S2x8x128.Idx) : Gen.k0_pay38 (F := Ideal) y = 0 := by
  pointwise [Gen.k0_pay38]
end Tiles

/-! ## One step's values -/

section Spec
variable (x0 : Vec Ideal S256x3584 .fp8e4m3) (x1 : Vec Ideal S256x128 .f32) (x2 : Vec Ideal S3584x512 .fp8e4m3) (x3 x4 : Vec Ideal S1x512 .f32)
  (x5 : Vec Ideal S2x1x512x128 .f32) (x6 x7 : Vec Ideal S512x128 .f32)

/-- The layer's value for sample `128 * q + l` and row `r`, which is feature `r / 4` of token `r % 4`. -/
def PRE (q : Fin 2) (r : Fin 512) (l : Fin 128) : EReal :=
  (∑ k : Fin 3584, x0 (ix2 ⟨128 * q.val + l.val, by omega⟩ k) * x2 (ix2 k ⟨128 * (r.val % 4) + r.val / 4, by omega⟩))
    * x1 (ix2 ⟨128 * q.val + l.val, by omega⟩ ⟨r.val / 4, by omega⟩) * x3 (ix2 0 ⟨128 * (r.val % 4) + r.val / 4, by omega⟩)
    + x4 (ix2 0 ⟨128 * (r.val % 4) + r.val / 4, by omega⟩)

/-- What step `n` stores first: the layer's value in the first 25 steps, zero after. -/
def UP (n : ℕ) (q : Fin 2) (r : Fin 512) (l : Fin 128) : EReal := if n < 25 then PRE x0 x1 x2 x3 x4 q r l else 0

/-- The normalised values of step `n`. -/
def VAL (n : ℕ) (q : Fin 2) (r : Fin 512) (l : Fin 128) : EReal :=
  lnOf (fun r => UP x0 x1 x2 x3 x4 n q r l + x5 (ix4 q 0 r l)) (fun r => x6 (ix2 r l)) (fun r => x7 (ix2 r l)) r

/-- The values kept, after those of step `n` are stored. -/
def putStep (z : S2x40x512x128.Idx → EReal) (n : ℕ) (V : Fin 2 → Fin 512 → Fin 128 → EReal) : S2x40x512x128.Idx → EReal :=
  fun y => if (y 1).val = n then V (y 0) (y 2) (y 3) else z y

/-- The running maxima after step `n`. -/
def putMax (am : S2x8x128.Idx → EReal) (n : ℕ) (V : Fin 2 → Fin 512 → Fin 128 → EReal) : S2x8x128.Idx → EReal :=
  fun y => max (if n = 0 then 0 else am y)
    (Finset.univ.sup fun k : Fin 64 => absE (V (y 0) ⟨8 * k.val + (y 1).val, by have h : (y 1).val < 8 := (y 1).isLt; omega⟩ (y 2)))

/-- The scale of sample `128 * q + l`. -/
def SC (am : S2x8x128.Idx → EReal) (q : Fin 2) (l : Fin 128) : EReal := scaleOf (Finset.univ.sup fun s : Fin 8 => am (ix3 q s l))

/-- The block of scales. -/
def OSC (am : S2x8x128.Idx → EReal) : S2x1x128.Idx → EReal := fun y => SC am (y 0) (y 2)

/-- The code of sample `128 * q + l` at token `p`, feature `f`. -/
def CODE (z : S2x40x512x128.Idx → EReal) (am : S2x8x128.Idx → EReal) (q : Fin 2) (l : Fin 128) (p : Fin 160) (f : Fin 128) : EReal :=
  codeOf (z (ix4 q ⟨p.val / 4, by omega⟩ ⟨4 * f.val + p.val % 4, by omega⟩ l)) (SC am q l)

/-- The block of codes. -/
def OUT (z : S2x40x512x128.Idx → EReal) (am : S2x8x128.Idx → EReal) : S256x160x128.Idx → EReal := fun y =>
  CODE z am ⟨(y 0).val / 128, by have h : (y 0).val < 256 := (y 0).isLt; omega⟩ ⟨(y 0).val % 128, Nat.mod_lt _ (by omega)⟩ (y 1) (y 2)
end Spec

end Cert.Mlp2Ideal.Block

end
-- ==== Proof.Mlp2Store.lean ====
module

public import proofs.«01_k».proof.Proof.Gen.Mlp2Ideal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Tiles
public import Idealize.ShloMosaic.Lib.Pipeline.Value
public import Idealize.ShloMosaic.Lib.Pipeline.ValueKit
public import Idealize.ShloMosaic.Lib.Pointwise

@[expose] public section

set_option maxRecDepth 16384

noncomputable section

namespace Cert.Mlp2Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp2Ideal Cert.Mlp2Ideal.Gen

local notation "𝕄" => MT nD τ sig Unit (Elt Ideal) ℕ (UR sig nD τ) ℕ

/-- The place of an entry of one plane, among the planes. -/
theorem squeeze_idx (hn : S512x128.numel = S1x1x512x128.numel) (a : Fin 512) (b : Fin 128) :
    Shape.reshapeEquiv hn (ix2 a b : S512x128.Idx) = (ix4 (0 : Fin 1) (0 : Fin 1) a b : S1x1x512x128.Idx) := by
  apply Shape.reshapeEquiv_eq_of_rowMajor
  show (Shape.rowMajorPi _ _).val = (Shape.rowMajorPi _ _).val
  simp only [Shape.rowMajorPi_succ_val]
  simp [Fin.prod_univ_succ, ix2, ix4]

/-- The cell of an entry of every fourth row of one plane. -/
theorem strided_emb (m : Memref sig .tc .vmem S2x40x512x128 .f32) (q s t : ℕ) (hoff) (inb) (spos) (x : S128x128.Idx)
    (Q : Fin 2) (S : Fin 40) (R : Fin 512) (l : Fin 128) (hl : (x 1).val = l.val) (hQ : Q.val = q) (hS : S.val = s) (hR : R.val = t + 4 * (x 0).val) :
    ((((m.slice (Rect.unit (s := S2x40x512x128) ![q, s, 0, 0] S1x1x512x128.size hoff) (fun _ => rfl)).squeeze S512x128 squeezes_S1x1x512x128_S512x128).access
      ⟨(⟨![t, 0], S128x128.size, ![4, 1], inb⟩ : LoadRect S512x128), spos⟩).emb x) = m.view.emb (ix4 Q S R l) := by
  have e : ∀ y : S512x128.Idx, y = ix2 R l →
    m.view.emb ((Rect.unit (s := S2x40x512x128) ![q, s, 0, 0] S1x1x512x128.size hoff).emb (Shape.reshapeEquiv squeezes_S1x1x512x128_S512x128.numel_eq y)) = m.view.emb (ix4 Q S R l) := by
    intro y hy
    rw [hy, squeeze_idx]
    refine congrArg _ (funext fun a => Fin.ext ?_)
    match a with
    | ⟨0, _⟩ => exact (show q + 1 * 0 = Q.val by omega)
    | ⟨1, _⟩ => exact (show s + 1 * 0 = S.val by omega)
    | ⟨2, _⟩ => exact (show 0 + 1 * R.val = R.val by omega)
    | ⟨3, _⟩ => exact (show 0 + 1 * l.val = l.val by omega)
  refine e _ (funext fun a => Fin.ext ?_)
  match a with
  | ⟨0, _⟩ => exact (show t + 4 * (x 0).val = R.val by omega)
  | ⟨1, _⟩ => exact (show 0 + 1 * (x 1).val = l.val by omega)

/-- After a store into every fourth row of one plane of a scratch, from row `t` on. -/
theorem wp_strided_store {α : Type} (c : Dev nD) (E : Set ℕ) (m : Memref sig .tc .vmem S2x40x512x128 .f32) (q s t : ℕ) (ht : t < 4)
    (off : Fin 4 → ℕ) (hoff) (ho : off = ![q, s, 0, 0]) (inb) (spos) (hx) (hm) (f : m.view.ty.Contents (Elt Ideal)) (w : FVec Ideal S128x128 .f32)
    (k : PUnit → Prog (TpuEff nD τ sig (Elt Ideal) Λ₀ .tc) α) (Q : α → sProp 𝕄) :
    (m.view.loc (c : Thread nD τ) ↦[m.view.set]{fullShare} f) ⊢
      iprop((∀ f', ⌜∀ (Q : Fin 2) (S : Fin 40) (R : Fin 512) (l : Fin 128), m.view.read (Elt Ideal) f' (ix4 Q S R l)
          = if Q.val = q ∧ S.val = s ∧ R.val % 4 = t then w (ix2 ⟨R.val / 4, by omega⟩ l) else m.view.read (Elt Ideal) f (ix4 Q S R l)⌝
          -∗ (m.view.loc (c : Thread nD τ) ↦[m.view.set]{fullShare} f') -∗ wp frame (wpE (defs₀ (F := Ideal)) Variants.none c none) E (k ⟨⟩) Q)
        -∗ wp frame (wpE (defs₀ (F := Ideal)) Variants.none c none) E
        (.op (.store ((m.slice (Rect.unit (s := S2x40x512x128) off S1x1x512x128.size hoff) (fun _ => rfl)).squeeze S512x128 squeezes_S1x1x512x128_S512x128)
          ⟨(⟨![t, 0], S128x128.size, ![4, 1], inb⟩ : LoadRect S512x128), spos⟩ w Finset.univ hx hm) k) Q) := by
  subst ho
  set v := (((m.slice (Rect.unit (s := S2x40x512x128) ![q, s, 0, 0] S1x1x512x128.size hoff) (fun _ => rfl)).squeeze S512x128 squeezes_S1x1x512x128_S512x128).access
      ⟨(⟨![t, 0], S128x128.size, ![4, 1], inb⟩ : LoadRect S512x128), spos⟩) with hv
  have hset : v.setOn Finset.univ ⊆ m.view.set := by
    rw [View.setOn_univ]
    refine (View.set_slice_subset _ _).trans ?_
    refine (le_of_eq (View.set_reshape _ _)).trans ?_
    exact View.set_slice_subset _ _
  iintro Hf Hk
  iapply (wp_store (defs := defs₀ (F := Ideal)) Variants.none c none E (Γ := .empty) (hx := hx) (hm := hm) (k := k) (Q := Q) (f := f) hset) $$ Hf
  iintro Hf
  iapply Hk $$ %_ [] Hf
  ipureintro
  intro Q S R l
  have hR := R.isLt
  by_cases h : Q.val = q ∧ S.val = s ∧ R.val % 4 = t
  · rw [if_pos h, View.read_apply,
      ← strided_emb m q s t hoff inb spos (ix2 ⟨R.val / 4, by omega⟩ l) Q S R l rfl h.1 h.2.1 (show R.val = t + 4 * (R.val / 4) by omega)]
    exact View.read_write_of_mem (v := v) f w (Finset.mem_univ _)
  · rw [if_neg h, View.read_apply, View.read_apply]
    refine congrArg _ (View.write_of_not_mem (v := v) f w Finset.univ fun hmem => h ?_)
    obtain ⟨x, -, hx⟩ := Finset.mem_map.mp hmem
    have h0 : (x 0).val < 128 := (x 0).isLt
    have h1 : (x 1).val < 128 := (x 1).isLt
    have hq : q < 2 := by have h := hoff 0; change q + 1 ≤ 2 at h; omega
    have hs : s < 40 := by have h := hoff 1; change s + 1 ≤ 40 at h; omega
    have e := (strided_emb m q s t hoff inb spos x ⟨q, hq⟩ ⟨s, hs⟩ ⟨t + 4 * (x 0).val, by omega⟩ ⟨(x 1).val, h1⟩ rfl rfl rfl rfl).symm.trans hx
    have e := m.view.emb.injective e
    have e0 : Q.val = q := (congrArg Fin.val (congrFun e 0)).symm
    have e1 : S.val = s := (congrArg Fin.val (congrFun e 1)).symm
    have e2 : R.val = t + 4 * (x 0).val := (congrArg Fin.val (congrFun e 2)).symm
    exact ⟨e0, e1, by omega⟩
end Cert.Mlp2Ideal.Block
end
-- ==== Proof.Mlp2First.lean ====
/- The first part of one step: the layer's values of the step's four tokens are put into the two planes of the step, or
   zeros where the step has no tokens of the layer. -/
module

public import proofs.«01_k».proof.Proof.Mlp2Spec
public import proofs.«01_k».proof.Proof.Mlp2Store
public import proofs.«01_k».proof.Proof.Gen.Mlp2Ideal.Points

@[expose] public section

set_option maxRecDepth 16384

noncomputable section

namespace Cert.Mlp2Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp2Ideal Cert.Mlp2Ideal.Gen

local notation "𝕄" => MT nD τ sig Unit (Elt Ideal) ℕ (UR sig nD τ) ℕ

section Reads
variable {sig : RefSig} {κ : Kind} {sp : Space} {e : EltTy} {Val : EltTy → Type}  {s : Shape}

/-- A load of a rectangle, at an index, reads the array at the shifted index. -/
theorem readAt_at (v : View sig κ sp s e) (f : v.ty.Contents Val) {off sz : Fin s.rank → ℕ}
    (inb : ∀ a, off a + sz a ≤ s.size a) (x : (⟨s.rank, sz⟩ : Shape).Idx) (y : s.Idx) (h : ∀ a, (y a).val = off a + (x a).val) :
    v.readAt Val (Rect.unit (s := s) off sz inb).toLoadRect f x = v.read Val f y := by
  rw [View.readAt_apply]
  refine congrArg _ (funext fun a => Fin.ext ?_)
  rw [h a]
  show off a + 1 * (x a).val = _
  omega

/-- After one plane is stored. -/
theorem read_writes_plane (v : View sig κ sp S2x40x512x128 e) (f : v.ty.Contents Val) {off : Fin 4 → ℕ} {q n : ℕ} (ho : off = ![q, n, 0, 0])
    (inb : ∀ a : Fin 4, off a + S1x1x512x128.size a ≤ S2x40x512x128.size a) (w : S1x1x512x128.Idx → Val e) (L : List (View.Piece Val S2x40x512x128 e))
    (Q : Fin 2) (S : Fin 40) (R : Fin 512) (l : Fin 128) :
    v.read Val (v.writes Val f (⟨Rect.unit (s := S2x40x512x128) off S1x1x512x128.size inb, w⟩ :: L)) (ix4 Q S R l)
      = if Q.val = q ∧ S.val = n then w (ix4 0 0 R l) else v.read Val (v.writes Val f L) (ix4 Q S R l) := by
  subst ho
  by_cases h : Q.val = q ∧ S.val = n
  · rw [if_pos h]
    refine View.read_writes_cons_unit_of_mem v f inb w L (ix4 Q S R l) (ix4 0 0 R l) rfl fun a => ?_
    match a with
    | ⟨0, _⟩ => exact (show Q.val = q + 0 by omega)
    | ⟨1, _⟩ => exact (show S.val = n + 0 by omega)
    | ⟨2, _⟩ => exact (show R.val = 0 + R.val by omega)
    | ⟨3, _⟩ => exact (show l.val = 0 + l.val by omega)
  · rw [if_neg h]
    by_cases h0 : Q.val = q
    · exact View.read_writes_cons_unit_of_not_mem v f inb w L (ix4 Q S R l) rfl (1 : Fin 4) (show S.val < n ∨ n + 1 ≤ S.val by omega)
    · exact View.read_writes_cons_unit_of_not_mem v f inb w L (ix4 Q S R l) rfl (0 : Fin 4) (show Q.val < q ∨ q + 1 ≤ Q.val by omega)
end Reads

/-- An index of the kept values, by its coordinates. -/
theorem eta4 (y : S2x40x512x128.Idx) : ∃ (Q : Fin 2) (S : Fin 40) (R : Fin 512) (l : Fin 128), y = ix4 Q S R l :=
  ⟨y 0, y 1, y 2, y 3, by ext a; match a with | ⟨0, _⟩ => rfl | ⟨1, _⟩ => rfl | ⟨2, _⟩ => rfl | ⟨3, _⟩ => rfl⟩

/-- The layer's value, from a tile's operands. -/
theorem pre_eq (x0 : Vec Ideal S256x3584 .fp8e4m3) (x1 : Vec Ideal S256x128 .f32) (x2 : Vec Ideal S3584x512 .fp8e4m3) (x3 x4 : Vec Ideal S1x512 .f32)
    (q : Fin 2) (t : ℕ) (R : Fin 512) (l : Fin 128) (hR : R.val % 4 = t) (s : Vec Ideal S128x128 .f32) (w c : Vec Ideal S1x128 .f32)
    (A : Fin 256) (B : Fin 512) (F : Fin 128) (hA : A.val = 128 * q.val + l.val) (hB : B.val = 128 * t + R.val / 4) (hF : F.val = R.val / 4)
    (hs : s (ix2 l F) = x1 (ix2 A F)) (hw : w (ix2 0 F) = x3 (ix2 0 B)) (hc : c (ix2 0 F) = x4 (ix2 0 B)) :
    (∑ k : Fin 3584, x0 (ix2 A k) * x2 (ix2 k B)) * s (ix2 l F) * w (ix2 0 F) + c (ix2 0 F) = PRE x0 x1 x2 x3 x4 q R l := by
  subst hR
  have hRl := R.isLt; have hql := q.isLt; have hll := l.isLt
  obtain ⟨A, hA'⟩ := A; obtain ⟨B, hB'⟩ := B; obtain ⟨F, hF'⟩ := F
  change A = _ at hA; change B = _ at hB; change F = _ at hF
  subst hA; subst hB; subst hF
  rw [hs, hw, hc]
  rfl

/-- The product is taken in the first 25 steps. -/
theorem cond2_iff (i : grid0.Coords) : k0_cond2 i = 1#1 ↔ (i 1).val < 25 := by
  have h : ∀ n : Fin 40, (Scalar.cmpi .ne (Scalar.extui (Scalar.cmpi .slt (BitVec.ofNat 32 n.val) 25#32) : BitVec 32) 0#32 = 1#1) ↔ n.val < 25 := by decide +kernel
  exact h (i 1)
/-- From step 25 on the group is filled with zeros. -/
theorem cond3_iff (i : grid0.Coords) : k0_cond3 i = 1#1 ↔ 25 ≤ (i 1).val := by
  have h : ∀ n : Fin 40, (Scalar.cmpi .ne (Scalar.extui (Scalar.cmpi .sge (BitVec.ofNat 32 n.val) 25#32) : BitVec 32) 0#32 = 1#1) ↔ 25 ≤ n.val := by decide +kernel
  exact h (i 1)
/-- Codes are stored at the last step. -/
theorem cond4_iff (i : grid0.Coords) : k0_cond4 i = 1#1 ↔ (i 1).val = 39 := by
  have h : ∀ n : Fin 40, (Scalar.cmpi .ne (Scalar.extui (Scalar.cmpi .eq (BitVec.ofNat 32 n.val) 39#32) : BitVec 32) 0#32 = 1#1) ↔ n.val = 39 := by decide +kernel
  exact h (i 1)
/-- The maxima are cleared at the first step. -/
theorem cond1_iff (i : grid0.Coords) : (Scalar.cmpi .ne (Scalar.extui (Scalar.cmpi .eq (BitVec.ofNat 32 (i 1).val) 0#32) : BitVec 32) 0#32 = 1#1) ↔ (i 1).val = 0 := by
  have h : ∀ n : Fin 40, (Scalar.cmpi .ne (Scalar.extui (Scalar.cmpi .eq (BitVec.ofNat 32 n.val) 0#32) : BitVec 32) 0#32 = 1#1) ↔ n.val = 0 := by decide +kernel
  exact h (i 1)
/-- Where the body reads or writes, in plain numbers. -/
theorem off1_eq (i : grid0.Coords) : k0_off1 i = ![0, (i 1).val, 0, 0] := by
  have h : ∀ n : Fin 40, (![0, (BitVec.ofNat 32 n.val).toNat, 0, 0] : Fin 4 → ℕ) = ![0, n.val, 0, 0] := by decide +kernel
  exact h (i 1)
/-- Where the body reads or writes, in plain numbers. -/
theorem off2_eq (i : grid0.Coords) : k0_off2 i = ![1, (i 1).val, 0, 0] := by
  have h : ∀ n : Fin 40, (![1, (BitVec.ofNat 32 n.val).toNat, 0, 0] : Fin 4 → ℕ) = ![1, n.val, 0, 0] := by decide +kernel
  exact h (i 1)
/-- Where the body reads or writes, in plain numbers. -/
theorem off3_eq (i : grid0.Coords) : k0_off3 i = ![0, (i 1).val, 0, 0] := by
  have h : ∀ n : Fin 40, (![0, (BitVec.ofNat 32 n.val).toNat, 0, 0] : Fin 4 → ℕ) = ![0, n.val, 0, 0] := by decide +kernel
  exact h (i 1)
/-- Where the body reads or writes, in plain numbers. -/
theorem off4_eq (i : grid0.Coords) : k0_off4 i = ![1, (i 1).val, 0, 0] := by
  have h : ∀ n : Fin 40, (![1, (BitVec.ofNat 32 n.val).toNat, 0, 0] : Fin 4 → ℕ) = ![1, n.val, 0, 0] := by decide +kernel
  exact h (i 1)
/-- Where the body reads or writes, in plain numbers. -/
theorem off5_eq (i : grid0.Coords) : k0_off5 i = ![0, (i 1).val, 0, 0] := by
  have h : ∀ n : Fin 40, (![0, (BitVec.ofNat 32 n.val).toNat, 0, 0] : Fin 4 → ℕ) = ![0, n.val, 0, 0] := by decide +kernel
  exact h (i 1)
/-- Where the body reads or writes, in plain numbers. -/
theorem off6_eq (i : grid0.Coords) : k0_off6 i = ![1, (i 1).val, 0, 0] := by
  have h : ∀ n : Fin 40, (![1, (BitVec.ofNat 32 n.val).toNat, 0, 0] : Fin 4 → ℕ) = ![1, n.val, 0, 0] := by decide +kernel
  exact h (i 1)

/-- The maxima a step starts from: zeros in the first step. -/
def zeroFirst (n : ℕ) (am : S2x8x128.Idx → EReal) : S2x8x128.Idx → EReal := fun y => if n = 0 then 0 else am y

/-- The first step starts the maxima from zero. -/
theorem zero_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (am : S2x8x128.Idx → EReal) (E : Set ℕ) {α : Type} (k : Prog (TpuEff nD τ sig (Elt Ideal) Λ₀ .tc) α) (K : α → sProp 𝕄) :
    iprop(owns (c : Thread nD τ) arg13 fullShare am ∗ (iprop(owns (c : Thread nD τ) arg13 fullShare (zeroFirst (i 1).val am)) -∗ wp frame (wpE (defs₀ (F := Ideal)) Variants.none c none) E k K))
      ⊢ wp frame (wpE (defs₀ (F := Ideal)) Variants.none c none) E
      (if k0_h1 : (Scalar.cmpi .ne (Scalar.extui (Scalar.cmpi .eq (BitVec.ofNat 32 (i 1).val) 0#32) : BitVec 32) 0#32 = 1#1) then do
        let v115 : Vec Ideal S2x8x128 .f32 ← Prog.lift (.load arg13 (Rect.unit (s := S2x8x128) ![0, 0, 0] S2x8x128.size inb_S2x8x128_S2x8x128_0_0_0).toLoadRect (View.loadsAt_vmem h_S2x8x128))
        Prog.lift (.store arg13 (Rect.unit (s := S2x8x128) ![0, 0, 0] S2x8x128.size inb_S2x8x128_S2x8x128_0_0_0) (k0_pay38 (F := Ideal)) Finset.univ (View.stores_vmem_bits_univ h_S2x8x128 rfl) (.inl rfl))
        k
      else do
        k : Prog (TpuEff nD τ sig (Elt Ideal) Λ₀ .tc) α) K := by
  by_cases h : (i 1).val = 0
  · rw [dif_pos ((cond1_iff i).mpr h)]
    unfold owns
    iintro ⟨⟨%f, -, H⟩, Hk⟩
    sl_exec
    iapply Hk
    iexists _; isplitr; swap; · iexact H
    ipureintro
    funext y
    refine (View.read_writes_cons_unit_of_mem arg13.view f _ _ [] y y rfl fun a => ?_).trans ?_
    · match a with
      | ⟨0, _⟩ => exact (Nat.zero_add _).symm
      | ⟨1, _⟩ => exact (Nat.zero_add _).symm
      | ⟨2, _⟩ => exact (Nat.zero_add _).symm
    rw [pay38_apply]
    unfold zeroFirst; rw [if_pos h]
  · rw [dif_neg (fun hc => h ((cond1_iff i).mp hc))]
    have e : zeroFirst (i 1).val am = am := by funext y; unfold zeroFirst; rw [if_neg h]
    rw [e]
    iintro ⟨H, Hk⟩
    iapply Hk
    iexact H

/-- The tile stored for token 0 of the step, samples 0 to 127 of the block. -/
theorem tile0 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨0 + l.val, by omega⟩ f)) (hw : ∀ f : Fin 128, w (ix2 0 f) = x3 (ix2 0 ⟨0 + f.val, by omega⟩))
    (hd : ∀ f : Fin 128, d (ix2 0 f) = x4 (ix2 0 ⟨0 + f.val, by omega⟩)) (R : Fin 512) (l : Fin 128) (hR : R.val % 4 = 0) :
    k0_pay5 a b s w d (ix2 ⟨R.val / 4, by omega⟩ l) = PRE x0 x1 x2 x3 x4 0 R l := by
  subst ha; subst hb
  refine (pay5_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 0 0 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 1 of the step, samples 0 to 127 of the block. -/
theorem tile1 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨0 + l.val, by omega⟩ f)) (hw : ∀ f : Fin 128, w (ix2 0 f) = x3 (ix2 0 ⟨128 + f.val, by omega⟩))
    (hd : ∀ f : Fin 128, d (ix2 0 f) = x4 (ix2 0 ⟨128 + f.val, by omega⟩)) (R : Fin 512) (l : Fin 128) (hR : R.val % 4 = 1) :
    k0_pay7 (k0_pay6 a b s w d) (ix2 ⟨R.val / 4, by omega⟩ l) = PRE x0 x1 x2 x3 x4 0 R l := by
  subst ha; subst hb
  refine (pay7_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 0 1 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 2 of the step, samples 0 to 127 of the block. -/
theorem tile2 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨0 + l.val, by omega⟩ f)) (hw : ∀ f : Fin 128, w (ix2 0 f) = x3 (ix2 0 ⟨256 + f.val, by omega⟩))
    (hd : ∀ f : Fin 128, d (ix2 0 f) = x4 (ix2 0 ⟨256 + f.val, by omega⟩)) (R : Fin 512) (l : Fin 128) (hR : R.val % 4 = 2) :
    k0_pay8 (k0_pay3 a b) (k0_pay4 s) w d (ix2 ⟨R.val / 4, by omega⟩ l) = PRE x0 x1 x2 x3 x4 0 R l := by
  subst ha; subst hb
  refine (pay8_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 0 2 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 3 of the step, samples 0 to 127 of the block. -/
theorem tile3 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨0 + l.val, by omega⟩ f)) (hw : ∀ f : Fin 128, w (ix2 0 f) = x3 (ix2 0 ⟨384 + f.val, by omega⟩))
    (hd : ∀ f : Fin 128, d (ix2 0 f) = x4 (ix2 0 ⟨384 + f.val, by omega⟩)) (R : Fin 512) (l : Fin 128) (hR : R.val % 4 = 3) :
    k0_pay9 (k0_pay3 a b) (k0_pay4 s) w d (ix2 ⟨R.val / 4, by omega⟩ l) = PRE x0 x1 x2 x3 x4 0 R l := by
  subst ha; subst hb
  refine (pay9_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 0 3 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 0 of the step, samples 128 to 255 of the block. -/
theorem tile4 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨128 + l.val, by omega⟩ f)) (hw : ∀ f : Fin 128, w (ix2 0 f) = x3 (ix2 0 ⟨0 + f.val, by omega⟩))
    (hd : ∀ f : Fin 128, d (ix2 0 f) = x4 (ix2 0 ⟨0 + f.val, by omega⟩)) (R : Fin 512) (l : Fin 128) (hR : R.val % 4 = 0) :
    k0_pay12 (k0_pay10 (k0_pay2 a b)) s w d (ix2 ⟨R.val / 4, by omega⟩ l) = PRE x0 x1 x2 x3 x4 1 R l := by
  subst ha; subst hb
  refine (pay12_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 1 0 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 1 of the step, samples 128 to 255 of the block. -/
theorem tile5 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨128 + l.val, by omega⟩ f)) (hw : ∀ f : Fin 128, w (ix2 0 f) = x3 (ix2 0 ⟨128 + f.val, by omega⟩))
    (hd : ∀ f : Fin 128, d (ix2 0 f) = x4 (ix2 0 ⟨128 + f.val, by omega⟩)) (R : Fin 512) (l : Fin 128) (hR : R.val % 4 = 1) :
    k0_pay13 (k0_pay10 (k0_pay2 a b)) s w d (ix2 ⟨R.val / 4, by omega⟩ l) = PRE x0 x1 x2 x3 x4 1 R l := by
  subst ha; subst hb
  refine (pay13_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 1 1 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 2 of the step, samples 128 to 255 of the block. -/
theorem tile6 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨128 + l.val, by omega⟩ f)) (hw : ∀ f : Fin 128, w (ix2 0 f) = x3 (ix2 0 ⟨256 + f.val, by omega⟩))
    (hd : ∀ f : Fin 128, d (ix2 0 f) = x4 (ix2 0 ⟨256 + f.val, by omega⟩)) (R : Fin 512) (l : Fin 128) (hR : R.val % 4 = 2) :
    k0_pay39 (k0_pay14 (k0_pay10 (k0_pay2 a b)) s) (k0_pay15 w) d (ix2 ⟨R.val / 4, by omega⟩ l) = PRE x0 x1 x2 x3 x4 1 R l := by
  subst ha; subst hb
  refine (pay39_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 1 2 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The tile stored for token 3 of the step, samples 128 to 255 of the block. -/
theorem tile7 (x0 : Vec Ideal S256x3584 .fp8e4m3) (x1 : Vec Ideal S256x128 .f32) (x2 : Vec Ideal S3584x512 .fp8e4m3) (x3 x4 : Vec Ideal S1x512 .f32)
    (a : Vec Ideal S256x3584 .fp8e4m3) (b : Vec Ideal S3584x512 .fp8e4m3) (s : Vec Ideal S128x128 .f32) (w d : Vec Ideal S1x128 .f32) (ha : a = x0) (hb : b = x2)
    (hs : ∀ l f : Fin 128, s (ix2 l f) = x1 (ix2 ⟨128 + l.val, by omega⟩ f)) (hw : ∀ f : Fin 128, w (ix2 0 f) = x3 (ix2 0 ⟨384 + f.val, by omega⟩))
    (hd : ∀ f : Fin 128, d (ix2 0 f) = x4 (ix2 0 ⟨384 + f.val, by omega⟩)) (R : Fin 512) (l : Fin 128) (hR : R.val % 4 = 3) :
    k0_pay40 (k0_pay10 (k0_pay2 a b)) (k0_pay11 s) w d (ix2 ⟨R.val / 4, by omega⟩ l) = PRE x0 x1 x2 x3 x4 1 R l := by
  subst ha; subst hb
  refine (pay40_apply a b s w d ⟨R.val / 4, by omega⟩ l).trans ?_
  have e0 : ∀ (n m : ℕ) (hn : n < 256) (hm : m < 256), n = m → (⟨n, hn⟩ : Fin 256) = ⟨m, hm⟩ := fun n m _ _ h => Fin.ext h
  have e1 : ∀ (n m : ℕ) (hn : n < 512) (hm : m < 512), n = m → (⟨n, hn⟩ : Fin 512) = ⟨m, hm⟩ := fun n m _ _ h => Fin.ext h
  refine pre_eq a x1 b x3 x4 1 3 R l hR s w d _ _ _ ?_ ?_ rfl ((hs _ _).trans (congrArg (fun j => x1 (ix2 j _)) (e0 _ _ _ _ ?_))) ((hw _).trans (congrArg (fun j => x3 (ix2 0 j)) (e1 _ _ _ _ ?_)))
    ((hd _).trans (congrArg (fun j => x4 (ix2 0 j)) (e1 _ _ _ _ ?_)))
  all_goals first | omega | rfl | (dsimp only; omega)

/-- The first 25 steps put the layer's values of their four tokens into their two planes. -/
theorem product_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (z : S2x40x512x128.Idx → EReal) (E : Set ℕ) {α : Type} (k : Prog (TpuEff nD τ sig (Elt Ideal) Λ₀ .tc) α) (K : α → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg12 fullShare z ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg12 fullShare (if (i 1).val < 25 then putStep z (i 1).val (PRE x0 x1 x2 x3 x4) else z)) -∗ wp frame (wpE (defs₀ (F := Ideal)) Variants.none c none) E k K))
      ⊢ wp frame (wpE (defs₀ (F := Ideal)) Variants.none c none) E
      (if k0_h2 : k0_cond2 i = 1#1 then do
        let ⟨v116, v117, v119, v146⟩ : Σ' (v116 : FVec Ideal S256x512 .f32) (v117 : FVec Ideal S128x512 .f32) (v119 : FVec Ideal S128x128 .f32), FVec Ideal S128x128 .f32 ← k0_part1 i arg2 harg2 arg3 harg3 arg4 harg4 arg5 harg5 arg6 harg6 arg7 harg7 arg8 harg8 arg9 harg9 arg10 harg10 arg11 harg11 arg12 harg12 arg13 harg13 k0_h2
        let v184 : FVec Ideal S128x512 .f32 ← k0_part2 i arg2 harg2 arg3 harg3 arg4 harg4 arg5 harg5 arg6 harg6 arg7 harg7 arg8 harg8 arg9 harg9 arg10 harg10 arg11 harg11 arg12 harg12 arg13 harg13 k0_h2 v116 v117 v119 v146
        let ⟨v186, v220, v222⟩ : Σ' (v186 : FVec Ideal S128x128 .f32) (v220 : FVec Ideal S128x128 .f32), FVec Ideal S1x128 .f32 ← k0_part3 i arg2 harg2 arg3 harg3 arg4 harg4 arg5 harg5 arg6 harg6 arg7 harg7 arg8 harg8 arg9 harg9 arg10 harg10 arg11 harg11 arg12 harg12 arg13 harg13 k0_h2 v184
        let v225 : Vec Ideal S1x128 .f32 ← Prog.lift (.load arg6 (Rect.unit (s := S1x512) ![0, 256] S1x128.size inb_S1x512_S1x128_0_256).toLoadRect (View.loadsAt_vmem h_S1x128))
        let v230 : Memref sig .tc .vmem S1x1x512x128 .f32 := arg12.slice (Rect.unit (s := S2x40x512x128) (k0_off2 i) S1x1x512x128.size (k0_off2_inb i k0_h2)) (fun _ => rfl)
        let v231 : Memref sig .tc .vmem S512x128 .f32 := v230.squeeze S512x128 squeezes_S1x1x512x128_S512x128
        let v232 : Vec Ideal S128x128 .f32 ← Prog.lift (.load v231 (⟨![2, 0], S128x128.size, ![4, 1], inb_S512x128_S128x128_2_0_s_4_1⟩ : LoadRect S512x128) (View.loadsAt_vmem h_S128x128))
        Prog.lift (.store v231 ⟨(⟨![2, 0], S128x128.size, ![4, 1], inb_S512x128_S128x128_2_0_s_4_1⟩ : LoadRect S512x128), spos_4_1⟩ (k0_pay39 v220 v222 v225) Finset.univ (View.stores_vmem_bits_univ h_S128x128 rfl) (.inl rfl))
        let v237 : Vec Ideal S1x128 .f32 ← Prog.lift (.load arg5 (Rect.unit (s := S1x512) ![0, 384] S1x128.size inb_S1x512_S1x128_0_384).toLoadRect (View.loadsAt_vmem h_S1x128))
        let v241 : Vec Ideal S1x128 .f32 ← Prog.lift (.load arg6 (Rect.unit (s := S1x512) ![0, 384] S1x128.size inb_S1x512_S1x128_0_384).toLoadRect (View.loadsAt_vmem h_S1x128))
        let v246 : Memref sig .tc .vmem S1x1x512x128 .f32 := arg12.slice (Rect.unit (s := S2x40x512x128) (k0_off2 i) S1x1x512x128.size (k0_off2_inb i k0_h2)) (fun _ => rfl)
        let v247 : Memref sig .tc .vmem S512x128 .f32 := v246.squeeze S512x128 squeezes_S1x1x512x128_S512x128
        let v248 : Vec Ideal S128x128 .f32 ← Prog.lift (.load v247 (⟨![3, 0], S128x128.size, ![4, 1], inb_S512x128_S128x128_3_0_s_4_1⟩ : LoadRect S512x128) (View.loadsAt_vmem h_S128x128))
        Prog.lift (.store v247 ⟨(⟨![3, 0], S128x128.size, ![4, 1], inb_S512x128_S128x128_3_0_s_4_1⟩ : LoadRect S512x128), spos_4_1⟩ (k0_pay40 v184 v186 v237 v241) Finset.univ (View.stores_vmem_bits_univ h_S128x128 rfl) (.inl rfl))
        k
      else do
        k : Prog (TpuEff nD τ sig (Elt Ideal) Λ₀ .tc) α) K := by
  by_cases h : (i 1).val < 25
  · rw [dif_pos ((cond2_iff i).mpr h), if_pos h]
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%g0, %hg0, H12⟩, Hk⟩
    sl_exec
    iapply (wp_strided_store c E arg12 0 (i 1).val 0 (by omega) _ _ (off1_eq i) _ _ _ _ _ _ _ _) $$ H12
    iintro %g1 %hg1 H12
    sl_exec
    iapply (wp_strided_store c E arg12 0 (i 1).val 1 (by omega) _ _ (off1_eq i) _ _ _ _ _ _ _ _) $$ H12
    iintro %g2 %hg2 H12
    sl_exec
    iapply (wp_strided_store c E arg12 0 (i 1).val 2 (by omega) _ _ (off1_eq i) _ _ _ _ _ _ _ _) $$ H12
    iintro %g3 %hg3 H12
    sl_exec
    iapply (wp_strided_store c E arg12 0 (i 1).val 3 (by omega) _ _ (off1_eq i) _ _ _ _ _ _ _ _) $$ H12
    iintro %g4 %hg4 H12
    sl_exec
    iapply (wp_strided_store c E arg12 1 (i 1).val 0 (by omega) _ _ (off2_eq i) _ _ _ _ _ _ _ _) $$ H12
    iintro %g5 %hg5 H12
    sl_exec
    iapply (wp_strided_store c E arg12 1 (i 1).val 1 (by omega) _ _ (off2_eq i) _ _ _ _ _ _ _ _) $$ H12
    iintro %g6 %hg6 H12
    sl_exec
    iapply (wp_strided_store c E arg12 1 (i 1).val 2 (by omega) _ _ (off2_eq i) _ _ _ _ _ _ _ _) $$ H12
    iintro %g7 %hg7 H12
    sl_exec
    iapply (wp_strided_store c E arg12 1 (i 1).val 3 (by omega) _ _ (off2_eq i) _ _ _ _ _ _ _ _) $$ H12
    iintro %g8 %hg8 H12
    iapply Hk
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    iexists g8; isplitr; swap; · iexact H12
    ipureintro
    have e2 : View.readAt (Elt Ideal) arg2.view (Rect.unit (s := S256x3584) ![0, 0] S256x3584.size inb_S256x3584_S256x3584_0_0).toLoadRect f2 = x0 := by
      rw [← hf2]; funext x; exact readAt_at _ _ _ _ _ (Fin.forall_fin_two.mpr ⟨(Nat.zero_add _).symm, (Nat.zero_add _).symm⟩)
    have e4 : View.readAt (Elt Ideal) arg4.view (Rect.unit (s := S3584x512) ![0, 0] S3584x512.size inb_S3584x512_S3584x512_0_0).toLoadRect f4 = x2 := by
      rw [← hf4]; funext x; exact readAt_at _ _ _ _ _ (Fin.forall_fin_two.mpr ⟨(Nat.zero_add _).symm, (Nat.zero_add _).symm⟩)
    have s0 : ∀ l f : Fin 128, View.readAt (Elt Ideal) arg3.view (Rect.unit (s := S256x128) ![0, 0] S128x128.size inb_S256x128_S128x128_0_0).toLoadRect f3 (ix2 l f) = x1 (ix2 ⟨0 + l.val, by omega⟩ f) := fun l f =>
      (Cert.Tiles.readAt_unit arg3.view f3 _ l f ⟨0 + l.val, by omega⟩ f rfl (by omega)).trans (by rw [hf3])
    have s1 : ∀ l f : Fin 128, View.readAt (Elt Ideal) arg3.view (Rect.unit (s := S256x128) ![128, 0] S128x128.size inb_S256x128_S128x128_128_0).toLoadRect f3 (ix2 l f) = x1 (ix2 ⟨128 + l.val, by omega⟩ f) := fun l f =>
      (Cert.Tiles.readAt_unit arg3.view f3 _ l f ⟨128 + l.val, by omega⟩ f rfl (by omega)).trans (by rw [hf3])
    have w0 : ∀ f : Fin 128, View.readAt (Elt Ideal) arg5.view (Rect.unit (s := S1x512) ![0, 0] S1x128.size inb_S1x512_S1x128_0_0).toLoadRect f5 (ix2 0 f) = x3 (ix2 0 ⟨0 + f.val, by omega⟩) := fun f =>
      (Cert.Tiles.readAt_unit arg5.view f5 _ 0 f 0 ⟨0 + f.val, by omega⟩ rfl rfl).trans (by rw [hf5])
    have d0 : ∀ f : Fin 128, View.readAt (Elt Ideal) arg6.view (Rect.unit (s := S1x512) ![0, 0] S1x128.size inb_S1x512_S1x128_0_0).toLoadRect f6 (ix2 0 f) = x4 (ix2 0 ⟨0 + f.val, by omega⟩) := fun f =>
      (Cert.Tiles.readAt_unit arg6.view f6 _ 0 f 0 ⟨0 + f.val, by omega⟩ rfl rfl).trans (by rw [hf6])
    have w1 : ∀ f : Fin 128, View.readAt (Elt Ideal) arg5.view (Rect.unit (s := S1x512) ![0, 128] S1x128.size inb_S1x512_S1x128_0_128).toLoadRect f5 (ix2 0 f) = x3 (ix2 0 ⟨128 + f.val, by omega⟩) := fun f =>
      (Cert.Tiles.readAt_unit arg5.view f5 _ 0 f 0 ⟨128 + f.val, by omega⟩ rfl rfl).trans (by rw [hf5])
    have d1 : ∀ f : Fin 128, View.readAt (Elt Ideal) arg6.view (Rect.unit (s := S1x512) ![0, 128] S1x128.size inb_S1x512_S1x128_0_128).toLoadRect f6 (ix2 0 f) = x4 (ix2 0 ⟨128 + f.val, by omega⟩) := fun f =>
      (Cert.Tiles.readAt_unit arg6.view f6 _ 0 f 0 ⟨128 + f.val, by omega⟩ rfl rfl).trans (by rw [hf6])
    have w2 : ∀ f : Fin 128, View.readAt (Elt Ideal) arg5.view (Rect.unit (s := S1x512) ![0, 256] S1x128.size inb_S1x512_S1x128_0_256).toLoadRect f5 (ix2 0 f) = x3 (ix2 0 ⟨256 + f.val, by omega⟩) := fun f =>
      (Cert.Tiles.readAt_unit arg5.view f5 _ 0 f 0 ⟨256 + f.val, by omega⟩ rfl rfl).trans (by rw [hf5])
    have d2 : ∀ f : Fin 128, View.readAt (Elt Ideal) arg6.view (Rect.unit (s := S1x512) ![0, 256] S1x128.size inb_S1x512_S1x128_0_256).toLoadRect f6 (ix2 0 f) = x4 (ix2 0 ⟨256 + f.val, by omega⟩) := fun f =>
      (Cert.Tiles.readAt_unit arg6.view f6 _ 0 f 0 ⟨256 + f.val, by omega⟩ rfl rfl).trans (by rw [hf6])
    have w3 : ∀ f : Fin 128, View.readAt (Elt Ideal) arg5.view (Rect.unit (s := S1x512) ![0, 384] S1x128.size inb_S1x512_S1x128_0_384).toLoadRect f5 (ix2 0 f) = x3 (ix2 0 ⟨384 + f.val, by omega⟩) := fun f =>
      (Cert.Tiles.readAt_unit arg5.view f5 _ 0 f 0 ⟨384 + f.val, by omega⟩ rfl rfl).trans (by rw [hf5])
    have d3 : ∀ f : Fin 128, View.readAt (Elt Ideal) arg6.view (Rect.unit (s := S1x512) ![0, 384] S1x128.size inb_S1x512_S1x128_0_384).toLoadRect f6 (ix2 0 f) = x4 (ix2 0 ⟨384 + f.val, by omega⟩) := fun f =>
      (Cert.Tiles.readAt_unit arg6.view f6 _ 0 f 0 ⟨384 + f.val, by omega⟩ rfl rfl).trans (by rw [hf6])
    funext y
    obtain ⟨Q, S, R, l, rfl⟩ := eta4 y
    unfold putStep
    have hQ := Q.isLt; have hRl := R.isLt
    by_cases hS : S.val = (i 1).val
    · refine Eq.trans ?_ (if_pos (show S.val = (i 1).val from hS)).symm
      show _ = PRE x0 x1 x2 x3 x4 Q R l
      have hc : (Q.val = 0 ∨ Q.val = 1) := by omega
      have ht : R.val % 4 = 0 ∨ R.val % 4 = 1 ∨ R.val % 4 = 2 ∨ R.val % 4 = 3 := by omega
      rcases hc with hc | hc
      · obtain rfl : Q = 0 := Fin.ext hc
        rcases ht with ht | ht | ht | ht
        · rw [hg8, if_neg (by omega)]; rw [hg7, if_neg (by omega)]; rw [hg6, if_neg (by omega)]; rw [hg5, if_neg (by omega)]; rw [hg4, if_neg (by omega)]; rw [hg3, if_neg (by omega)]; rw [hg2, if_neg (by omega)]; rw [hg1, if_pos (by omega)]
          exact tile0 x0 x1 x2 x3 x4 _ _ _ _ _ e2 e4 s0 w0 d0 R l ht
        · rw [hg8, if_neg (by omega)]; rw [hg7, if_neg (by omega)]; rw [hg6, if_neg (by omega)]; rw [hg5, if_neg (by omega)]; rw [hg4, if_neg (by omega)]; rw [hg3, if_neg (by omega)]; rw [hg2, if_pos (by omega)]
          exact tile1 x0 x1 x2 x3 x4 _ _ _ _ _ e2 e4 s0 w1 d1 R l ht
        · rw [hg8, if_neg (by omega)]; rw [hg7, if_neg (by omega)]; rw [hg6, if_neg (by omega)]; rw [hg5, if_neg (by omega)]; rw [hg4, if_neg (by omega)]; rw [hg3, if_pos (by omega)]
          exact tile2 x0 x1 x2 x3 x4 _ _ _ _ _ e2 e4 s0 w2 d2 R l ht
        · rw [hg8, if_neg (by omega)]; rw [hg7, if_neg (by omega)]; rw [hg6, if_neg (by omega)]; rw [hg5, if_neg (by omega)]; rw [hg4, if_pos (by omega)]
          exact tile3 x0 x1 x2 x3 x4 _ _ _ _ _ e2 e4 s0 w3 d3 R l ht

      · obtain rfl : Q = 1 := Fin.ext hc
        rcases ht with ht | ht | ht | ht
        · rw [hg8, if_neg (by omega)]; rw [hg7, if_neg (by omega)]; rw [hg6, if_neg (by omega)]; rw [hg5, if_pos (by omega)]
          exact tile4 x0 x1 x2 x3 x4 _ _ _ _ _ e2 e4 s1 w0 d0 R l ht
        · rw [hg8, if_neg (by omega)]; rw [hg7, if_neg (by omega)]; rw [hg6, if_pos (by omega)]
          exact tile5 x0 x1 x2 x3 x4 _ _ _ _ _ e2 e4 s1 w1 d1 R l ht
        · rw [hg8, if_neg (by omega)]; rw [hg7, if_pos (by omega)]
          exact tile6 x0 x1 x2 x3 x4 _ _ _ _ _ e2 e4 s1 w2 d2 R l ht
        · rw [hg8, if_pos (by omega)]
          exact tile7 x0 x1 x2 x3 x4 _ _ _ _ _ e2 e4 s1 w3 d3 R l ht

    · refine Eq.trans ?_ (if_neg (show ¬ S.val = (i 1).val from hS)).symm
      rw [hg8, if_neg (by omega), hg7, if_neg (by omega), hg6, if_neg (by omega), hg5, if_neg (by omega), hg4, if_neg (by omega), hg3, if_neg (by omega), hg2, if_neg (by omega), hg1, if_neg (by omega), hg0]
  · rw [dif_neg (fun hc => h ((cond2_iff i).mp hc)), if_neg h]
    iintro ⟨H2, H3, H4, H5, H6, H12, Hk⟩
    iapply Hk
    isplitl [H2]; · iexact H2
    isplitl [H3]; · iexact H3
    isplitl [H4]; · iexact H4
    isplitl [H5]; · iexact H5
    isplitl [H6]; · iexact H6
    iexact H12

/-- The later steps put zeros into their two planes. -/
theorem pad_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (z : S2x40x512x128.Idx → EReal) (E : Set ℕ) {α : Type} (k : Prog (TpuEff nD τ sig (Elt Ideal) Λ₀ .tc) α) (K : α → sProp 𝕄) :
    iprop(owns (c : Thread nD τ) arg12 fullShare z ∗ (iprop(owns (c : Thread nD τ) arg12 fullShare (if (i 1).val < 25 then z else putStep z (i 1).val (fun _ _ _ => 0))) -∗ wp frame (wpE (defs₀ (F := Ideal)) Variants.none c none) E k K))
      ⊢ wp frame (wpE (defs₀ (F := Ideal)) Variants.none c none) E
      (if k0_h3 : k0_cond3 i = 1#1 then do
        let v116 : Vec Ideal S1x1x512x128 .f32 ← Prog.lift (.load arg12 (Rect.unit (s := S2x40x512x128) (k0_off3 i) S1x1x512x128.size (k0_off3_inb i k0_h3)).toLoadRect (View.loadsAt_vmem h_S1x1x512x128))
        Prog.lift (.store arg12 (Rect.unit (s := S2x40x512x128) (k0_off3 i) S1x1x512x128.size (k0_off3_inb i k0_h3)) (k0_pay41 (F := Ideal)) Finset.univ (View.stores_vmem_bits_univ h_S1x1x512x128 rfl) (.inl rfl))
        let v121 : Vec Ideal S1x1x512x128 .f32 ← Prog.lift (.load arg12 (Rect.unit (s := S2x40x512x128) (k0_off4 i) S1x1x512x128.size (k0_off4_inb i k0_h3)).toLoadRect (View.loadsAt_vmem h_S1x1x512x128))
        Prog.lift (.store arg12 (Rect.unit (s := S2x40x512x128) (k0_off4 i) S1x1x512x128.size (k0_off4_inb i k0_h3)) (k0_pay42 (F := Ideal)) Finset.univ (View.stores_vmem_bits_univ h_S1x1x512x128 rfl) (.inl rfl))
        k
      else do
        k : Prog (TpuEff nD τ sig (Elt Ideal) Λ₀ .tc) α) K := by
  by_cases h : (i 1).val < 25
  · rw [dif_neg (fun hc => absurd ((cond3_iff i).mp hc) (by omega)), if_pos h]
    iintro ⟨H, Hk⟩
    iapply Hk
    iexact H
  · rw [dif_pos ((cond3_iff i).mpr (by omega)), if_neg h]
    unfold owns
    iintro ⟨⟨%f, %hf, H⟩, Hk⟩
    sl_exec
    iapply Hk
    iexists _; isplitr; swap; · iexact H
    ipureintro
    funext y
    obtain ⟨Q, S, R, l, rfl⟩ := eta4 y
    unfold putStep
    have hQ := Q.isLt
    rw [read_writes_plane _ _ (off4_eq i), read_writes_plane _ _ (off3_eq i), pay41_apply, pay42_apply]
    by_cases hS : S.val = (i 1).val
    · refine Eq.trans ?_ (if_pos (show S.val = (i 1).val from hS)).symm
      by_cases hc : Q.val = 1
      · rw [if_pos ⟨hc, hS⟩]
      · rw [if_neg (by omega), if_pos (by omega)]
    · refine Eq.trans ?_ (if_neg (show ¬ S.val = (i 1).val from hS)).symm
      rw [if_neg (by omega), if_neg (by omega)]
      exact congrFun hf _

end Cert.Mlp2Ideal.Block

end
-- ==== Proof.Mlp2Norm.lean ====
/- The first and the second part of one step: the layer's values with the residual, centred by each token's mean and
   normalised; the running maxima. -/
module

public import proofs.«01_k».proof.Proof.Mlp2First

@[expose] public section

set_option maxRecDepth 16384

noncomputable section

namespace Cert.Mlp2Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp2Ideal Cert.Mlp2Ideal.Gen

local notation "𝕄" => MT nD τ sig Unit (Elt Ideal) ℕ (UR sig nD τ) ℕ

/-- The layer's values of step `n` with the residual, samples `128 * q` on. -/
def rowVec (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (n : ℕ) (q : Fin 2) : FVec Ideal S512x128 .f32 :=
  fun y => UP x0 x1 x2 x3 x4 n q (y 0) (y 1) + x5 (ix4 q 0 (y 0) (y 1))

/-- An index of one group of tokens, by its coordinates. -/
theorem eta2 (y : S512x128.Idx) : ∃ (r : Fin 512) (l : Fin 128), y = ix2 r l :=
  ⟨y 0, y 1, by ext a; match a with | ⟨0, _⟩ => rfl | ⟨1, _⟩ => rfl⟩

/-- An index of the maxima, by its coordinates. -/
theorem eta3 (y : S2x8x128.Idx) : ∃ (q : Fin 2) (s : Fin 8) (l : Fin 128), y = ix3 q s l :=
  ⟨y 0, y 1, y 2, by ext a; match a with | ⟨0, _⟩ => rfl | ⟨1, _⟩ => rfl | ⟨2, _⟩ => rfl⟩

/-- The sum of a plane and its residual, loaded. -/
theorem pay48_rowVec (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (n : ℕ) (q : Fin 2) (a b : Vec Ideal S1x1x512x128 .f32)
    (ha : ∀ (r : Fin 512) (l : Fin 128), a (ix4 0 0 r l) = UP x0 x1 x2 x3 x4 n q r l) (hb : ∀ (r : Fin 512) (l : Fin 128), b (ix4 0 0 r l) = x5 (ix4 q 0 r l)) :
    k0_pay48 a b = rowVec x0 x1 x2 x3 x4 x5 x6 x7 n q := by
  funext y
  obtain ⟨r, l, rfl⟩ := eta2 y
  rw [pay48_apply, ha, hb]
  rfl

/-- What the two branches leave. -/
theorem branches (x0 : Vec Ideal S256x3584 .fp8e4m3) (x1 : Vec Ideal S256x128 .f32) (x2 : Vec Ideal S3584x512 .fp8e4m3) (x3 x4 : Vec Ideal S1x512 .f32)
    (z : S2x40x512x128.Idx → EReal) (n : ℕ) :
    (if n < 25 then (if n < 25 then putStep z n (PRE x0 x1 x2 x3 x4) else z) else putStep (if n < 25 then putStep z n (PRE x0 x1 x2 x3 x4) else z) n (fun _ _ _ => 0))
      = putStep z n (UP x0 x1 x2 x3 x4 n) := by
  funext y
  by_cases h : n < 25
  · rw [if_pos h, if_pos h]; unfold putStep UP; simp only [if_pos h]
  · rw [if_neg h, if_neg h]; unfold putStep UP; simp only [if_neg h]

/-- A plane of the values kept, loaded. -/
theorem plane_load (arg12 : Memref sig .tc .vmem S2x40x512x128 .f32) (f : arg12.view.ty.Contents (Elt Ideal)) (off : Fin 4 → ℕ) (q : Fin 2) (n : ℕ) (hn : n < 40)
    (ho : off = ![q.val, n, 0, 0]) (inb : ∀ a : Fin 4, off a + S1x1x512x128.size a ≤ S2x40x512x128.size a) (r : Fin 512) (l : Fin 128) :
    View.readAt (Elt Ideal) arg12.view (Rect.unit (s := S2x40x512x128) off S1x1x512x128.size inb).toLoadRect f (ix4 0 0 r l) = arg12.view.read (Elt Ideal) f (ix4 q ⟨n, hn⟩ r l) := by
  subst ho
  refine readAt_at _ _ _ _ _ fun a => ?_
  match a with
  | ⟨0, _⟩ => exact rfl
  | ⟨1, _⟩ => exact rfl
  | ⟨2, _⟩ => exact (Nat.zero_add _).symm
  | ⟨3, _⟩ => exact (Nat.zero_add _).symm

/-- A plane of the residual, loaded. -/
theorem res_load (arg7 : Memref sig .tc .vmem S2x1x512x128 .f32) (f : arg7.view.ty.Contents (Elt Ideal)) (o : ℕ) (q : Fin 2) (ho : q.val = o)
    (inb : ∀ a : Fin 4, (![o, 0, 0, 0] : Fin 4 → ℕ) a + S1x1x512x128.size a ≤ S2x1x512x128.size a) (r : Fin 512) (l : Fin 128) :
    View.readAt (Elt Ideal) arg7.view (Rect.unit (s := S2x1x512x128) ![o, 0, 0, 0] S1x1x512x128.size inb).toLoadRect f (ix4 0 0 r l) = arg7.view.read (Elt Ideal) f (ix4 q 0 r l) := by
  refine readAt_at _ _ _ _ _ fun a => ?_
  match a with
  | ⟨0, _⟩ => exact ho
  | ⟨1, _⟩ => exact rfl
  | ⟨2, _⟩ => exact (Nat.zero_add _).symm
  | ⟨3, _⟩ => exact (Nat.zero_add _).symm

/-- A plane of the maxima, loaded. -/
theorem max_load (arg13 : Memref sig .tc .vmem S2x8x128 .f32) (f : arg13.view.ty.Contents (Elt Ideal)) (o : ℕ) (q : Fin 2) (ho : q.val = o)
    (inb : ∀ a : Fin 3, (![o, 0, 0] : Fin 3 → ℕ) a + S1x8x128.size a ≤ S2x8x128.size a) (s : Fin 8) (l : Fin 128) :
    View.readAt (Elt Ideal) arg13.view (Rect.unit (s := S2x8x128) ![o, 0, 0] S1x8x128.size inb).toLoadRect f (ix3 0 s l) = arg13.view.read (Elt Ideal) f (ix3 q s l) := by
  refine readAt_at _ _ _ _ _ fun a => ?_
  match a with
  | ⟨0, _⟩ => exact ho
  | ⟨1, _⟩ => exact (Nat.zero_add _).symm
  | ⟨2, _⟩ => exact (Nat.zero_add _).symm

/-- After one plane of the maxima is stored. -/
theorem read_writes_max (v : View sig .tc .vmem S2x8x128 .f32) (f : v.ty.Contents (Elt Ideal)) (o : ℕ)
    (inb : ∀ a : Fin 3, (![o, 0, 0] : Fin 3 → ℕ) a + S1x8x128.size a ≤ S2x8x128.size a) (w : FVec Ideal S1x8x128 .f32) (L : List (View.Piece (Elt Ideal) S2x8x128 .f32))
    (Q : Fin 2) (s : Fin 8) (l : Fin 128) :
    v.read (Elt Ideal) (v.writes (Elt Ideal) f (⟨Rect.unit (s := S2x8x128) ![o, 0, 0] S1x8x128.size inb, w⟩ :: L)) (ix3 Q s l)
      = if Q.val = o then w (ix3 0 s l) else v.read (Elt Ideal) (v.writes (Elt Ideal) f L) (ix3 Q s l) := by
  by_cases h : Q.val = o
  · rw [if_pos h]
    refine View.read_writes_cons_unit_of_mem v f inb w L (ix3 Q s l) (ix3 0 s l) rfl fun a => ?_
    match a with
    | ⟨0, _⟩ => exact (show Q.val = o + 0 by omega)
    | ⟨1, _⟩ => exact (show s.val = 0 + s.val by omega)
    | ⟨2, _⟩ => exact (show l.val = 0 + l.val by omega)
  · rw [if_neg h]
    exact View.read_writes_cons_unit_of_not_mem v f inb w L (ix3 Q s l) rfl (0 : Fin 3) (show Q.val < o ∨ o + 1 ≤ Q.val by omega)

/-- The first part of one step. -/
theorem part11_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (z : S2x40x512x128.Idx → EReal) (am : S2x8x128.Idx → EReal) (E : Set ℕ) (K : (Σ' (arg1 : BitVec 32) (v25 : FVec Ideal S512x128 .f32), FVec Ideal S8x128 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare z ∗ owns (c : Thread nD τ) arg13 fullShare am
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare (putStep z (i 1).val (UP x0 x1 x2 x3 x4 (i 1).val)) ∗ owns (c : Thread nD τ) arg13 fullShare (zeroFirst (i 1).val am))
        -∗ K ⟨BitVec.ofNat 32 (i 1).val, centre (rowVec x0 x1 x2 x3 x4 x5 x6 x7 (i 1).val 0), variance (centre (rowVec x0 x1 x2 x3 x4 x5 x6 x7 (i 1).val 0))⟩))
      ⊢ wp frame (wpE (defs₀ (F := Ideal)) Variants.none c none) E (k0_part11 (F := Ideal) i arg2 harg2 arg3 harg3 arg4 harg4 arg5 harg5 arg6 harg6 arg7 harg7 arg8 harg8 arg9 harg9 arg10 harg10 arg11 harg11 arg12 harg12 arg13 harg13) K := by
  simp only [k0_part11_eq_skeleton]; unfold k0_part11_skel; dsimp only
  iintro ⟨H2, H3, H4, H5, H6, H7, H12, H13, Hk⟩
  iapply (zero_run c i arg2 harg2 arg3 harg3 arg4 harg4 arg5 harg5 arg6 harg6 arg7 harg7 arg8 harg8 arg9 harg9 arg10 harg10 arg11 harg11 arg12 harg12 arg13 harg13 am E _ _)
  isplitl [H13]; · iexact H13
  iintro H13
  iapply (product_run c i arg2 harg2 arg3 harg3 arg4 harg4 arg5 harg5 arg6 harg6 arg7 harg7 arg8 harg8 arg9 harg9 arg10 harg10 arg11 harg11 arg12 harg12 arg13 harg13 x0 x1 x2 x3 x4 x5 x6 x7 z E _ _)
  isplitl [H2]; · iexact H2
  isplitl [H3]; · iexact H3
  isplitl [H4]; · iexact H4
  isplitl [H5]; · iexact H5
  isplitl [H6]; · iexact H6
  isplitl [H12]; · iexact H12
  iintro ⟨H2, H3, H4, H5, H6, H12⟩
  iapply (pad_run c i arg2 harg2 arg3 harg3 arg4 harg4 arg5 harg5 arg6 harg6 arg7 harg7 arg8 harg8 arg9 harg9 arg10 harg10 arg11 harg11 arg12 harg12 arg13 harg13 _ E _ _)
  isplitl [H12]; · iexact H12
  rw [branches]
  iintro H12
  have hn : (i 1).val < 40 := (i 1).isLt
  unfold owns
  icases H7 with ⟨%f7, %hf7, H7⟩
  icases H12 with ⟨%f12, %hf12, H12⟩
  sl_exec
  sl_step
  have e : k0_pay48 (View.readAt (Elt Ideal) arg12.view (Rect.unit (s := S2x40x512x128) (k0_off5 i) S1x1x512x128.size (k0_off5_inb i)).toLoadRect f12)
      (View.readAt (Elt Ideal) arg7.view (Rect.unit (s := S2x1x512x128) ![0, 0, 0, 0] S1x1x512x128.size inb_S2x1x512x128_S1x1x512x128_0_0_0_0).toLoadRect f7)
      = rowVec x0 x1 x2 x3 x4 x5 x6 x7 (i 1).val 0 := by
    refine pay48_rowVec _ _ _ _ _ _ _ _ _ 0 _ _ (fun r l => ?_) fun r l => ?_
    · rw [plane_load arg12 f12 _ 0 _ hn (off5_eq i), hf12]
      unfold putStep; exact if_pos rfl
    · rw [res_load arg7 f7 0 0 rfl, hf7]
  have e' : ∀ a b, k0_pay48 a b = rowVec x0 x1 x2 x3 x4 x5 x6 x7 (i 1).val 0 →
      K ⟨BitVec.ofNat 32 (i 1).val, centre (rowVec x0 x1 x2 x3 x4 x5 x6 x7 (i 1).val 0), variance (centre (rowVec x0 x1 x2 x3 x4 x5 x6 x7 (i 1).val 0))⟩
        ⊢ K ⟨BitVec.ofNat 32 (i 1).val, k0_pay43 a b, k0_pay44 a b⟩ := by
    intro a b h
    rw [pay43_eq, pay44_eq, h]
  delta part11_run.sl.v12
  iapply (e' _ _ e)
  iapply Hk
  isplitl [H2]; · iexact H2
  isplitl [H3]; · iexact H3
  isplitl [H4]; · iexact H4
  isplitl [H5]; · iexact H5
  isplitl [H6]; · iexact H6
  isplitl [H7]; · iexists f7; isplitr; · ipureintro; exact hf7
                  iexact H7
  isplitl [H12]; · iexists f12; isplitr; · ipureintro; exact hf12
                   iexact H12
  iexact H13

/-- The planes after both halves of a step are normalised. -/
theorem planes_final (arg12 : Memref sig .tc .vmem S2x40x512x128 .f32) (f : arg12.view.ty.Contents (Elt Ideal)) (z : S2x40x512x128.Idx → EReal) (n : ℕ)
    (U V : Fin 2 → Fin 512 → Fin 128 → EReal) (hf : arg12.view.read (Elt Ideal) f = putStep z n U) (o0 o1 : Fin 4 → ℕ) (h0 : o0 = ![0, n, 0, 0]) (h1 : o1 = ![1, n, 0, 0])
    (inb0 : ∀ a : Fin 4, o0 a + S1x1x512x128.size a ≤ S2x40x512x128.size a) (inb1 : ∀ a : Fin 4, o1 a + S1x1x512x128.size a ≤ S2x40x512x128.size a)
    (w0 w1 : FVec Ideal S1x1x512x128 .f32) (hw0 : ∀ (r : Fin 512) (l : Fin 128), w0 (ix4 0 0 r l) = V 0 r l) (hw1 : ∀ (r : Fin 512) (l : Fin 128), w1 (ix4 0 0 r l) = V 1 r l) :
    arg12.view.read (Elt Ideal) (arg12.view.writes (Elt Ideal) f [⟨Rect.unit (s := S2x40x512x128) o1 S1x1x512x128.size inb1, w1⟩, ⟨Rect.unit (s := S2x40x512x128) o0 S1x1x512x128.size inb0, w0⟩])
      = putStep z n V := by
  funext y
  obtain ⟨Q, S, R, l, rfl⟩ := eta4 y
  have hQ := Q.isLt
  rw [read_writes_plane _ _ h1, read_writes_plane _ _ h0, hw0, hw1]
  unfold putStep
  by_cases hS : S.val = n
  · refine Eq.trans ?_ (if_pos (show S.val = n from hS)).symm
    by_cases hc : Q.val = 1
    · obtain rfl : Q = 1 := Fin.ext hc
      exact if_pos ⟨hc, hS⟩
    · have hc0 : Q.val = 0 := by omega
      obtain rfl : Q = 0 := Fin.ext hc0
      rw [if_neg (fun h => hc h.1), if_pos ⟨rfl, hS⟩]
      rfl
  · refine Eq.trans ?_ (if_neg (show ¬ S.val = n from hS)).symm
    rw [if_neg (fun h => hS h.2), if_neg (fun h => hS h.2)]
    refine (congrFun hf _).trans ?_
    exact if_neg (show ¬ S.val = n from hS)

/-- The maxima after both halves of a step. -/
theorem max_final (arg13 : Memref sig .tc .vmem S2x8x128 .f32) (f : arg13.view.ty.Contents (Elt Ideal)) (am : S2x8x128.Idx → EReal) (n : ℕ)
    (V : Fin 2 → Fin 512 → Fin 128 → EReal)
    (inb0 : ∀ a : Fin 3, (![0, 0, 0] : Fin 3 → ℕ) a + S1x8x128.size a ≤ S2x8x128.size a) (inb1 : ∀ a : Fin 3, (![1, 0, 0] : Fin 3 → ℕ) a + S1x8x128.size a ≤ S2x8x128.size a)
    (w0 w1 : FVec Ideal S1x8x128 .f32) (hw0 : ∀ (s : Fin 8) (l : Fin 128), w0 (ix3 0 s l) = putMax am n V (ix3 0 s l)) (hw1 : ∀ (s : Fin 8) (l : Fin 128), w1 (ix3 0 s l) = putMax am n V (ix3 1 s l)) :
    arg13.view.read (Elt Ideal) (arg13.view.writes (Elt Ideal) f [⟨Rect.unit (s := S2x8x128) ![1, 0, 0] S1x8x128.size inb1, w1⟩, ⟨Rect.unit (s := S2x8x128) ![0, 0, 0] S1x8x128.size inb0, w0⟩])
      = putMax am n V := by
  funext y
  obtain ⟨Q, s, l, rfl⟩ := eta3 y
  have hQ := Q.isLt
  rw [read_writes_max, read_writes_max, hw0, hw1]
  by_cases hc : Q.val = 1
  · obtain rfl : Q = 1 := Fin.ext hc
    exact if_pos rfl
  · have hc0 : Q.val = 0 := by omega
    obtain rfl : Q = 0 := Fin.ext hc0
    exact (if_neg hc).trans (if_pos rfl)

/-- One half's normalised values. -/
theorem norm_rowVec (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (n : ℕ) (q : Fin 2) (g b : Vec Ideal S512x128 .f32) (hg : g = x6) (hb : b = x7) (r : Fin 512) (l : Fin 128) :
    k0_pay45 (centre (rowVec x0 x1 x2 x3 x4 x5 x6 x7 n q)) (variance (centre (rowVec x0 x1 x2 x3 x4 x5 x6 x7 n q))) g b (ix2 r l) = VAL x0 x1 x2 x3 x4 x5 x6 x7 n q r l := by
  subst hg; subst hb
  exact norm_apply _ g b r l

/-- One half's new maxima. -/
theorem bump_rowVec (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (am : S2x8x128.Idx → EReal) (n : ℕ) (q : Fin 2) (g b : Vec Ideal S512x128 .f32) (hg : g = x6) (hb : b = x7) (m : Vec Ideal S1x8x128 .f32)
    (hm : ∀ (s : Fin 8) (l : Fin 128), m (ix3 0 s l) = zeroFirst n am (ix3 q s l)) (s : Fin 8) (l : Fin 128) :
    bump (k0_pay45 (centre (rowVec x0 x1 x2 x3 x4 x5 x6 x7 n q)) (variance (centre (rowVec x0 x1 x2 x3 x4 x5 x6 x7 n q))) g b) m (ix2 s l)
      = putMax am n (VAL x0 x1 x2 x3 x4 x5 x6 x7 n) (ix3 q s l) := by
  rw [bump_apply, hm]
  simp only [norm_rowVec x0 x1 x2 x3 x4 x5 x6 x7 n q g b hg hb]
  rfl

end Cert.Mlp2Ideal.Block

end
-- ==== Proof.Mlp2Codes.lean ====
/- The last step of a block: the scales of its samples and the codes of all values kept. -/
module

public import proofs.«01_k».proof.Proof.Mlp2Norm

@[expose] public section

set_option maxRecDepth 16384

noncomputable section

namespace Cert.Mlp2Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp2Ideal Cert.Mlp2Ideal.Gen

local notation "𝕄" => MT nD τ sig Unit (Elt Ideal) ℕ (UR sig nD τ) ℕ

/-- Where the body reads or writes, in plain numbers. -/
theorem off7_eq (k : Fin k0_t1_loop.trips) (r : Fin 8) : k0_off7 k (BitVec.ofNat 32 r.val) = ![0, 8 * k.val + r.val, 0, 0] := by revert k r; decide +kernel
/-- Where the body reads or writes, in plain numbers. -/
theorem off8_eq (k : Fin k0_t1_loop.trips) (r : Fin 8) : k0_off8 k (BitVec.ofNat 32 r.val) = ![128 * 0, 4 * (8 * k.val + r.val), 0] := by revert k r; decide +kernel
/-- The number of the loop's trips. -/
theorem t1_trips : Scf.trips k0_t1_loop.lb k0_t1_loop.ub k0_t1_loop.st = 5 := by decide
/-- Where the body reads or writes, in plain numbers. -/
theorem off9_eq (k : Fin k0_t2_loop.trips) (r : Fin 8) : k0_off9 k (BitVec.ofNat 32 r.val) = ![1, 8 * k.val + r.val, 0, 0] := by revert k r; decide +kernel
/-- Where the body reads or writes, in plain numbers. -/
theorem off10_eq (k : Fin k0_t2_loop.trips) (r : Fin 8) : k0_off10 k (BitVec.ofNat 32 r.val) = ![128 * 1, 4 * (8 * k.val + r.val), 0] := by revert k r; decide +kernel
/-- The number of the loop's trips. -/
theorem t2_trips : Scf.trips k0_t2_loop.lb k0_t2_loop.ub k0_t2_loop.st = 5 := by decide

/-- An index of the output block, by its coordinates. -/
theorem eta_out (y : S256x160x128.Idx) : ∃ (s : Fin 256) (p : Fin 160) (f : Fin 128), y = ix3 s p f :=
  ⟨y 0, y 1, y 2, by ext a; match a with | ⟨0, _⟩ => rfl | ⟨1, _⟩ => rfl | ⟨2, _⟩ => rfl⟩

/-- The codes of the samples before half `q`, and of the first `m` groups of four tokens in half `q`, are there. -/
def Done (z : S2x40x512x128.Idx → EReal) (am : S2x8x128.Idx → EReal) (q m : ℕ) (X : S256x160x128.Idx → EReal) : Prop :=
  ∀ (Q : Fin 2) (l : Fin 128) (p : Fin 160) (f : Fin 128), (Q.val < q ∨ (Q.val = q ∧ p.val < 4 * m)) →
    X (ix3 ⟨128 * Q.val + l.val, by omega⟩ p f) = CODE z am Q l p f

/-- One more group of four tokens. -/
theorem done_step (z : S2x40x512x128.Idx → EReal) (am : S2x8x128.Idx → EReal) (q : Fin 2) (m : ℕ) (hm : m < 40)
    (v : View sig .tc .vmem S256x160x128 .fp8e4m3) (f : v.ty.Contents (Elt Ideal)) (off : Fin 3 → ℕ) (ho : off = ![128 * q.val, 4 * m, 0])
    (inb : ∀ a : Fin 3, off a + S128x4x128.size a ≤ S256x160x128.size a) (w : FVec Ideal S128x4x128 .fp8e4m3) (L : List (View.Piece (Elt Ideal) S256x160x128 .fp8e4m3))
    (hd : Done z am q.val m (v.read (Elt Ideal) (v.writes (Elt Ideal) f L)))
    (sc : FVec Ideal S1x128 .f32) (hsc : ∀ l : Fin 128, sc (ix2 0 l) = SC am q l) (x : Vec Ideal S1x1x512x128 .f32)
    (hx : ∀ (r : Fin 512) (l : Fin 128), x (ix4 0 0 r l) = z (ix4 q ⟨m, hm⟩ r l)) (hw : w = k0_pay16 sc x) :
    Done z am q.val (m + 1) (v.read (Elt Ideal) (v.writes (Elt Ideal) f (⟨Rect.unit (s := S256x160x128) off S128x4x128.size inb, w⟩ :: L))) := by
  subst ho; subst hw
  intro Q l p g hp
  have hpl := p.isLt
  by_cases h : Q.val = q.val ∧ 4 * m ≤ p.val
  · refine (View.read_writes_cons_unit_of_mem v f inb _ L _ (ix3 l (⟨p.val - 4 * m, by omega⟩ : Fin 4) g) rfl fun a => ?_).trans ?_
    · match a with
      | ⟨0, _⟩ => exact (show 128 * Q.val + l.val = 128 * q.val + l.val by rw [h.1])
      | ⟨1, _⟩ => exact (show p.val = 4 * m + (p.val - 4 * m) by omega)
      | ⟨2, _⟩ => exact (show g.val = 0 + g.val by omega)
    rw [pay16_apply, hsc, hx]
    obtain rfl : Q = q := Fin.ext h.1
    have e : ∀ (S S' : Fin 40) (R R' : Fin 512), S.val = S'.val → R.val = R'.val → z (ix4 Q S R l) = z (ix4 Q S' R' l) := fun S S' R R' h1 h2 => by
      rw [Fin.ext h1, Fin.ext h2]
    unfold CODE
    refine congrArg (fun t => codeOf t _) (e _ _ _ _ ?_ ?_)
    · show m = p.val / 4; omega
    · show 4 * g.val + (p.val - 4 * m) = 4 * g.val + p.val % 4; omega
  · have hskip : v.read (Elt Ideal) (v.writes (Elt Ideal) f (⟨Rect.unit (s := S256x160x128) ![128 * q.val, 4 * m, 0] S128x4x128.size inb, k0_pay16 sc x⟩ :: L)) (ix3 ⟨128 * Q.val + l.val, by omega⟩ p g)
        = v.read (Elt Ideal) (v.writes (Elt Ideal) f L) (ix3 ⟨128 * Q.val + l.val, by omega⟩ p g) := by
      by_cases h0 : Q.val = q.val
      · exact View.read_writes_cons_unit_of_not_mem v f inb _ L _ rfl (1 : Fin 3) (show p.val < 4 * m ∨ 4 * m + 4 ≤ p.val by omega)
      · exact View.read_writes_cons_unit_of_not_mem v f inb _ L _ rfl (0 : Fin 3) (show 128 * Q.val + l.val < 128 * q.val ∨ 128 * q.val + 128 ≤ 128 * Q.val + l.val by omega)
    rw [hskip]
    exact hd Q l p g (by omega)

/-- Before trip `k`: the values kept, and the codes of the trips before. -/
def codesInv (c : Dev nD) (arg10 : Memref sig .tc .vmem S256x160x128 .fp8e4m3) (arg12 : Memref sig .tc .vmem S2x40x512x128 .f32)
    (z : S2x40x512x128.Idx → EReal) (am : S2x8x128.Idx → EReal) (q k : ℕ) : sProp 𝕄 :=
  iprop((∃ f, ⌜arg12.view.read (Elt Ideal) f = z⌝ ∗ (arg12.view.loc (c : Thread nD τ) ↦[arg12.view.set]{fullShare} f))
    ∗ (∃ f, ⌜Done z am q (8 * k) (arg10.view.read (Elt Ideal) f)⌝ ∗ (arg10.view.loc (c : Thread nD τ) ↦[arg10.view.set]{fullShare} f)))

/-- One trip of the loop over the codes of half 0. -/
theorem trip0 (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (h4 : k0_cond4 i = 1#1) (z : S2x40x512x128.Idx → EReal) (am : S2x8x128.Idx → EReal) (m : Vec Ideal S1x8x128 .f32)
    (hsc : ∀ l : Fin 128, k0_pay30 m (ix2 0 l) = SC am 0 l) (E : Set ℕ) (k : Fin k0_t1_loop.trips) (u : Unit) :
    codesInv c arg10 arg12 z am 0 k.val ⊢ wp frame (wpE (defs₀ (F := Ideal)) Variants.none c none) E (k0_t1_body (F := Ideal) i arg2 harg2 arg3 harg3 arg4 harg4 arg5 harg5 arg6 harg6 arg7 harg7 arg8 harg8 arg9 harg9 arg10 harg10 arg11 harg11 arg12 harg12 arg13 harg13 h4 m k u) (fun _ => codesInv c arg10 arg12 z am 0 (k.val + 1)) := by
  have hk : k.val < 5 := lt_of_lt_of_le k.isLt (le_of_eq t1_trips)
  unfold k0_t1_body
  simp only [k0_part4_eq_skeleton, k0_part5_eq_skeleton, k0_part6_eq_skeleton]
  unfold codesInv
  iintro ⟨⟨%f12, %hf12, H12⟩, ⟨%f10, %hf10, H10⟩⟩
  sl_exec
  sl_step
  isplitl [H12]; · iexists f12; isplitr; · ipureintro; exact hf12
                   iexact H12
  iexists _; isplitr; swap; · iexact H10
  ipureintro
  delta trip0.sl.r
  show Done z am 0 (8 * k.val + 7 + 1) _
  refine done_step z am 0 (8 * k.val + 7) (by omega) arg10.view f10 _ (off8_eq k 7) _ _ _ ?_ (k0_pay30 m) hsc _ ?_ (pay33_eq _ _)
  swap; · exact fun r l => (plane_load arg12 f12 _ 0 (8 * k.val + 7) (by omega) (off7_eq k 7) _ r l).trans (by rw [hf12])
  refine done_step z am 0 (8 * k.val + 6) (by omega) arg10.view f10 _ (off8_eq k 6) _ _ _ ?_ (k0_pay30 m) hsc _ ?_ (pay32_eq _ _)
  swap; · exact fun r l => (plane_load arg12 f12 _ 0 (8 * k.val + 6) (by omega) (off7_eq k 6) _ r l).trans (by rw [hf12])
  refine done_step z am 0 (8 * k.val + 5) (by omega) arg10.view f10 _ (off8_eq k 5) _ _ _ ?_ (k0_pay30 m) hsc _ ?_ (congrFun (congrFun pay21_eq _) _)
  swap; · exact fun r l => (plane_load arg12 f12 _ 0 (8 * k.val + 5) (by omega) (off7_eq k 5) _ r l).trans (by rw [hf12])
  refine done_step z am 0 (8 * k.val + 4) (by omega) arg10.view f10 _ (off8_eq k 4) _ _ _ ?_ (k0_pay30 m) hsc _ ?_ (congrFun (congrFun pay20_eq _) _)
  swap; · exact fun r l => (plane_load arg12 f12 _ 0 (8 * k.val + 4) (by omega) (off7_eq k 4) _ r l).trans (by rw [hf12])
  refine done_step z am 0 (8 * k.val + 3) (by omega) arg10.view f10 _ (off8_eq k 3) _ _ _ ?_ (k0_pay30 m) hsc _ ?_ (congrFun (congrFun pay19_eq _) _)
  swap; · exact fun r l => (plane_load arg12 f12 _ 0 (8 * k.val + 3) (by omega) (off7_eq k 3) _ r l).trans (by rw [hf12])
  refine done_step z am 0 (8 * k.val + 2) (by omega) arg10.view f10 _ (off8_eq k 2) _ _ _ ?_ (k0_pay30 m) hsc _ ?_ (congrFun (congrFun pay18_eq _) _)
  swap; · exact fun r l => (plane_load arg12 f12 _ 0 (8 * k.val + 2) (by omega) (off7_eq k 2) _ r l).trans (by rw [hf12])
  refine done_step z am 0 (8 * k.val + 1) (by omega) arg10.view f10 _ (off8_eq k 1) _ _ _ ?_ (k0_pay30 m) hsc _ ?_ (congrFun (congrFun pay17_eq _) _)
  swap; · exact fun r l => (plane_load arg12 f12 _ 0 (8 * k.val + 1) (by omega) (off7_eq k 1) _ r l).trans (by rw [hf12])
  refine done_step z am 0 (8 * k.val + 0) (by omega) arg10.view f10 _ (off8_eq k 0) _ _ _ ?_ (k0_pay30 m) hsc _ ?_ rfl
  swap; · exact fun r l => (plane_load arg12 f12 _ 0 (8 * k.val + 0) (by omega) (off7_eq k 0) _ r l).trans (by rw [hf12])
  exact hf10

/-- One trip of the loop over the codes of half 1. -/
theorem trip1 (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (h4 : k0_cond4 i = 1#1) (z : S2x40x512x128.Idx → EReal) (am : S2x8x128.Idx → EReal) (m : Vec Ideal S1x8x128 .f32)
    (hsc : ∀ l : Fin 128, k0_pay30 m (ix2 0 l) = SC am 1 l) (E : Set ℕ) (k : Fin k0_t2_loop.trips) (u : Unit) :
    codesInv c arg10 arg12 z am 1 k.val ⊢ wp frame (wpE (defs₀ (F := Ideal)) Variants.none c none) E (k0_t2_body (F := Ideal) i arg2 harg2 arg3 harg3 arg4 harg4 arg5 harg5 arg6 harg6 arg7 harg7 arg8 harg8 arg9 harg9 arg10 harg10 arg11 harg11 arg12 harg12 arg13 harg13 h4 m k u) (fun _ => codesInv c arg10 arg12 z am 1 (k.val + 1)) := by
  have hk : k.val < 5 := lt_of_lt_of_le k.isLt (le_of_eq t2_trips)
  unfold k0_t2_body
  simp only [k0_part7_eq_skeleton, k0_part8_eq_skeleton, k0_part9_eq_skeleton]
  unfold codesInv
  iintro ⟨⟨%f12, %hf12, H12⟩, ⟨%f10, %hf10, H10⟩⟩
  sl_exec
  sl_step
  isplitl [H12]; · iexists f12; isplitr; · ipureintro; exact hf12
                   iexact H12
  iexists _; isplitr; swap; · iexact H10
  ipureintro
  delta trip1.sl.r
  show Done z am 1 (8 * k.val + 7 + 1) _
  refine done_step z am 1 (8 * k.val + 7) (by omega) arg10.view f10 _ (off10_eq k 7) _ _ _ ?_ (k0_pay30 m) hsc _ ?_ (pay37_eq _ _)
  swap; · exact fun r l => (plane_load arg12 f12 _ 1 (8 * k.val + 7) (by omega) (off9_eq k 7) _ r l).trans (by rw [hf12])
  refine done_step z am 1 (8 * k.val + 6) (by omega) arg10.view f10 _ (off10_eq k 6) _ _ _ ?_ (k0_pay30 m) hsc _ ?_ (pay36_eq _ _)
  swap; · exact fun r l => (plane_load arg12 f12 _ 1 (8 * k.val + 6) (by omega) (off9_eq k 6) _ r l).trans (by rw [hf12])
  refine done_step z am 1 (8 * k.val + 5) (by omega) arg10.view f10 _ (off10_eq k 5) _ _ _ ?_ (k0_pay34 m) hsc _ ?_ (congrFun (congrFun pay28_eq _) _)
  swap; · exact fun r l => (plane_load arg12 f12 _ 1 (8 * k.val + 5) (by omega) (off9_eq k 5) _ r l).trans (by rw [hf12])
  refine done_step z am 1 (8 * k.val + 4) (by omega) arg10.view f10 _ (off10_eq k 4) _ _ _ ?_ (k0_pay34 m) hsc _ ?_ (congrFun (congrFun pay27_eq _) _)
  swap; · exact fun r l => (plane_load arg12 f12 _ 1 (8 * k.val + 4) (by omega) (off9_eq k 4) _ r l).trans (by rw [hf12])
  refine done_step z am 1 (8 * k.val + 3) (by omega) arg10.view f10 _ (off10_eq k 3) _ _ _ ?_ (k0_pay34 m) hsc _ ?_ (congrFun (congrFun pay26_eq _) _)
  swap; · exact fun r l => (plane_load arg12 f12 _ 1 (8 * k.val + 3) (by omega) (off9_eq k 3) _ r l).trans (by rw [hf12])
  refine done_step z am 1 (8 * k.val + 2) (by omega) arg10.view f10 _ (off10_eq k 2) _ _ _ ?_ (k0_pay34 m) hsc _ ?_ (congrFun (congrFun pay25_eq _) _)
  swap; · exact fun r l => (plane_load arg12 f12 _ 1 (8 * k.val + 2) (by omega) (off9_eq k 2) _ r l).trans (by rw [hf12])
  refine done_step z am 1 (8 * k.val + 1) (by omega) arg10.view f10 _ (off10_eq k 1) _ _ _ ?_ (k0_pay34 m) hsc _ ?_ (congrFun (congrFun pay24_eq _) _)
  swap; · exact fun r l => (plane_load arg12 f12 _ 1 (8 * k.val + 1) (by omega) (off9_eq k 1) _ r l).trans (by rw [hf12])
  refine done_step z am 1 (8 * k.val + 0) (by omega) arg10.view f10 _ (off10_eq k 0) _ _ _ ?_ (k0_pay34 m) hsc _ ?_ (congrFun (congrFun pay23_eq _) _)
  swap; · exact fun r l => (plane_load arg12 f12 _ 1 (8 * k.val + 0) (by omega) (off9_eq k 0) _ r l).trans (by rw [hf12])
  exact hf10

/-- The scales, after both halves are stored. -/
theorem scales_final (v : View sig .tc .vmem S2x1x128 .f32) (f : v.ty.Contents (Elt Ideal)) (am : S2x8x128.Idx → EReal) (inb0 inb1) (w0 w1 : FVec Ideal S1x1x128 .f32)
    (h0 : ∀ l : Fin 128, w0 (ix3 0 0 l) = SC am 0 l) (h1 : ∀ l : Fin 128, w1 (ix3 0 0 l) = SC am 1 l) :
    v.read (Elt Ideal) (v.writes (Elt Ideal) f [⟨Rect.unit (s := S2x1x128) ![1, 0, 0] S1x1x128.size inb1, w1⟩, ⟨Rect.unit (s := S2x1x128) ![0, 0, 0] S1x1x128.size inb0, w0⟩])
      = OSC am := by
  funext y
  obtain ⟨q, t, l, rfl⟩ : ∃ (q : Fin 2) (t : Fin 1) (l : Fin 128), y = ix3 q t l :=
    ⟨y 0, y 1, y 2, by ext a; match a with | ⟨0, _⟩ => rfl | ⟨1, _⟩ => rfl | ⟨2, _⟩ => rfl⟩
  obtain rfl : t = 0 := Subsingleton.elim _ _
  have hq := q.isLt
  by_cases c : q.val = 1
  · obtain rfl : q = 1 := Fin.ext c
    refine (View.read_writes_cons_unit_of_mem v f inb1 w1 _ (ix3 1 0 l) (ix3 0 0 l) rfl fun a => ?_).trans (h1 l)
    match a with
    | ⟨0, _⟩ => exact rfl
    | ⟨1, _⟩ => exact rfl
    | ⟨2, _⟩ => exact (Nat.zero_add _).symm
  · obtain rfl : q = 0 := Fin.ext (show q.val = 0 by omega)
    refine (View.read_writes_cons_unit_of_not_mem v f inb1 w1 _ (ix3 0 0 l) rfl (0 : Fin 3) (Or.inl Nat.zero_lt_one)).trans ?_
    refine (View.read_writes_cons_unit_of_mem v f inb0 w0 _ (ix3 0 0 l) (ix3 0 0 l) rfl fun a => ?_).trans (h0 l)
    match a with
    | ⟨0, _⟩ => exact rfl
    | ⟨1, _⟩ => exact rfl
    | ⟨2, _⟩ => exact (Nat.zero_add _).symm

/-- The scale formed from one row of the maxima. -/
theorem sc_of (am : S2x8x128.Idx → EReal) (q : Fin 2) (m : Vec Ideal S1x8x128 .f32) (h : ∀ (s : Fin 8) (l : Fin 128), m (ix3 0 s l) = am (ix3 q s l)) (l : Fin 128) :
    k0_pay30 m (ix2 0 l) = SC am q l := by
  rw [pay30_apply]; simp only [h]; rfl

/-- Nothing is asked of the codes at the start; all of the first half's are there when the second starts; all at the end. -/
theorem done_zero (z : S2x40x512x128.Idx → EReal) (am : S2x8x128.Idx → EReal) (X : S256x160x128.Idx → EReal) : Done z am 0 (8 * 0) X :=
  fun Q l p f h => absurd h (by omega)
/-- After the first half's loop the second half's has nothing done yet. -/
theorem done_one (z : S2x40x512x128.Idx → EReal) (am : S2x8x128.Idx → EReal) (X : S256x160x128.Idx → EReal) (h : Done z am 0 (8 * 5) X) : Done z am 1 (8 * 0) X :=
  fun Q l p f hq => h Q l p f (Or.inr ⟨by omega, by have := p.isLt; omega⟩)
/-- After both loops the output block holds all its codes. -/
theorem done_all (z : S2x40x512x128.Idx → EReal) (am : S2x8x128.Idx → EReal) (X : S256x160x128.Idx → EReal) (h : Done z am 1 (8 * 5) X) : X = OUT z am := by
  funext y
  obtain ⟨s, p, f, rfl⟩ := eta_out y
  have hs := s.isLt; have hp := p.isLt
  have e := h ⟨s.val / 128, by omega⟩ ⟨s.val % 128, Nat.mod_lt _ (by omega)⟩ p f (by dsimp only; omega)
  refine Eq.trans (congrArg (fun j => X (ix3 j p f)) (Fin.ext ?_)) e
  show s.val = 128 * (s.val / 128) + s.val % 128
  omega

/-- The last step of a block. -/
theorem part10_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (h4 : k0_cond4 i = 1#1) (z : S2x40x512x128.Idx → EReal) (am : S2x8x128.Idx → EReal) (E : Set ℕ) (K : PUnit → sProp 𝕄) :
    iprop((∃ d, owns (c : Thread nD τ) arg10 fullShare d) ∗ (∃ d, owns (c : Thread nD τ) arg11 fullShare d) ∗ owns (c : Thread nD τ) arg12 fullShare z ∗ owns (c : Thread nD τ) arg13 fullShare am
      ∗ (iprop(owns (c : Thread nD τ) arg10 fullShare (OUT z am) ∗ owns (c : Thread nD τ) arg11 fullShare (OSC am) ∗ owns (c : Thread nD τ) arg12 fullShare z ∗ owns (c : Thread nD τ) arg13 fullShare am) -∗ K ⟨⟩))
      ⊢ wp frame (wpE (defs₀ (F := Ideal)) Variants.none c none) E (k0_part10 (F := Ideal) i arg2 harg2 arg3 harg3 arg4 harg4 arg5 harg5 arg6 harg6 arg7 harg7 arg8 harg8 arg9 harg9 arg10 harg10 arg11 harg11 arg12 harg12 arg13 harg13 h4) K := by
  simp only [k0_part10_eq_skeleton]; unfold k0_part10_skel owns
  iintro ⟨⟨%d10, %f10, -, H10⟩, ⟨%d11, %f11, -, H11⟩, ⟨%f12, %hf12, H12⟩, ⟨%f13, %hf13, H13⟩, Hk⟩
  have m0 : ∀ (s : Fin 8) (l : Fin 128), View.readAt (Elt Ideal) arg13.view (Rect.unit (s := S2x8x128) ![0, 0, 0] S1x8x128.size inb_S2x8x128_S1x8x128_0_0_0).toLoadRect f13 (ix3 0 s l) = am (ix3 0 s l) := fun s l => by
    rw [max_load arg13 f13 0 0 rfl, hf13]
  have m1 : ∀ (s : Fin 8) (l : Fin 128), View.readAt (Elt Ideal) arg13.view (Rect.unit (s := S2x8x128) ![1, 0, 0] S1x8x128.size inb_S2x8x128_S1x8x128_1_0_0).toLoadRect f13 (ix3 0 s l) = am (ix3 1 s l) := fun s l => by
    rw [max_load arg13 f13 1 1 rfl, hf13]
  sl_exec
  sl_for (fun k _ => codesInv c arg10 arg12 z am 0 k) $$ [H10 H12]
  · intro k acc
    exact trip0 c i arg2 harg2 arg3 harg3 arg4 harg4 arg5 harg5 arg6 harg6 arg7 harg7 arg8 harg8 arg9 harg9 arg10 harg10 arg11 harg11 arg12 harg12 arg13 harg13 h4 z am _ (sc_of am 0 _ m0) E k acc
  · unfold codesInv
    isplitl [H12]; · iexists f12; isplitr; · ipureintro; exact hf12
                     iexact H12
    iexists f10; isplitr; · ipureintro; exact done_zero z am _
    iexact H10
  iintro %_ HI
  unfold codesInv
  icases HI with ⟨⟨%f12a, %hf12a, H12⟩, ⟨%f10a, %hf10a, H10⟩⟩
  rw [t1_trips] at hf10a
  sl_exec
  sl_for (fun k _ => codesInv c arg10 arg12 z am 1 k) $$ [H10 H12]
  · intro k acc
    exact trip1 c i arg2 harg2 arg3 harg3 arg4 harg4 arg5 harg5 arg6 harg6 arg7 harg7 arg8 harg8 arg9 harg9 arg10 harg10 arg11 harg11 arg12 harg12 arg13 harg13 h4 z am _ (sc_of am 1 _ m1) E k acc
  · unfold codesInv
    isplitl [H12]; · iexists f12a; isplitr; · ipureintro; exact hf12a
                     iexact H12
    iexists f10a; isplitr; · ipureintro; exact done_one z am _ hf10a
    iexact H10
  iintro %_ HI
  unfold codesInv
  icases HI with ⟨⟨%f12b, %hf12b, H12⟩, ⟨%f10b, %hf10b, H10⟩⟩
  rw [t2_trips] at hf10b
  sl_step
  iapply Hk
  isplitl [H10]; · iexists f10b; isplitr; · ipureintro; exact done_all z am _ hf10b
                   iexact H10
  isplitl [H11]
  · iexists _; isplitr; swap; · iexact H11
    ipureintro
    delta part10_run.sl.H11_2
    exact scales_final arg11.view _ am _ _ _ _ (fun l => (pay31_apply _ l).trans (sc_of am 0 _ m0 l))
      fun l => (congrFun (pay35_eq _) _).trans ((pay31_apply _ l).trans (sc_of am 1 _ m1 l))
  isplitl [H12]; · iexists f12b; isplitr; · ipureintro; exact hf12b
                   iexact H12
  iexists f13; isplitr; · ipureintro; exact hf13
  iexact H13

end Cert.Mlp2Ideal.Block

end
-- ==== Proof.Mlp2Body.lean ====
/- One step of the kernel: what the body leaves in the kept values, the running maxima and, in a block's last step, in
   the outputs. -/
module

public import proofs.«01_k».proof.Proof.Mlp2Codes

@[expose] public section

set_option maxRecDepth 16384

noncomputable section

namespace Cert.Mlp2Ideal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mlp2Ideal Cert.Mlp2Ideal.Gen

local notation "𝕄" => MT nD τ sig Unit (Elt Ideal) ℕ (UR sig nD τ) ℕ

set_option maxHeartbeats 1000000 in
/-- The body at one step. -/
theorem body_run (c : Dev nD) (i : grid0.Coords) (arg2 : Memref sig .tc .vmem S256x3584 .fp8e4m3) (harg2 : arg2.IsWhole) (arg3 : Memref sig .tc .vmem S256x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1x512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x160x128 .fp8e4m3) (harg10 : arg10.IsWhole) (arg11 : Memref sig .tc .vmem S2x1x128 .f32) (harg11 : arg11.IsWhole) (arg12 : Memref sig .tc .vmem S2x40x512x128 .f32) (harg12 : arg12.IsWhole) (arg13 : Memref sig .tc .vmem S2x8x128 .f32) (harg13 : arg13.IsWhole)
    (x0 : Vec Ideal S256x3584 .fp8e4m3) (x1 : Vec Ideal S256x128 .f32) (x2 : Vec Ideal S3584x512 .fp8e4m3) (x3 x4 : Vec Ideal S1x512 .f32) (x5 : Vec Ideal S2x1x512x128 .f32) (x6 x7 : Vec Ideal S512x128 .f32) (z : S2x40x512x128.Idx → EReal) (am : S2x8x128.Idx → EReal) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare z ∗ owns (c : Thread nD τ) arg13 fullShare am
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, ⌜(i 1).val = 39 → d = OUT (putStep z (i 1).val (VAL x0 x1 x2 x3 x4 x5 x6 x7 (i 1).val)) (putMax am (i 1).val (VAL x0 x1 x2 x3 x4 x5 x6 x7 (i 1).val))⌝ ∗ owns (c : Thread nD τ) arg10 fullShare d) ∗ (∃ d, ⌜(i 1).val = 39 → d = OSC (putMax am (i 1).val (VAL x0 x1 x2 x3 x4 x5 x6 x7 (i 1).val))⌝ ∗ owns (c : Thread nD τ) arg11 fullShare d) ∗ owns (c : Thread nD τ) arg12 fullShare (putStep z (i 1).val (VAL x0 x1 x2 x3 x4 x5 x6 x7 (i 1).val)) ∗ owns (c : Thread nD τ) arg13 fullShare (putMax am (i 1).val (VAL x0 x1 x2 x3 x4 x5 x6 x7 (i 1).val))) -∗ K ⟨⟩))
      ⊢ wp frame (wpE (defs₀ (F := Ideal)) Variants.none c none) E (cc0_mlp2 (F := Ideal) i arg2 harg2 arg3 harg3 arg4 harg4 arg5 harg5 arg6 harg6 arg7 harg7 arg8 harg8 arg9 harg9 arg10 harg10 arg11 harg11 arg12 harg12 arg13 harg13) K := by
  have hn : (i 1).val < 40 := (i 1).isLt
  simp only [cc0_mlp2_eq_skeleton]; unfold cc0_mlp2_skel
  rw [wp_bind]
  iintro ⟨H2, H3, H4, H5, H6, H7, H8, H9, H10, H11, H12, H13, Hk⟩
  iapply (part11_run c i arg2 harg2 arg3 harg3 arg4 harg4 arg5 harg5 arg6 harg6 arg7 harg7 arg8 harg8 arg9 harg9 arg10 harg10 arg11 harg11 arg12 harg12 arg13 harg13 x0 x1 x2 x3 x4 x5 x6 x7 z am E _)
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H13]; · iexact H13
  iintro ⟨H2, H3, H4, H5, H6, H7, H12, H13⟩
  dsimp only
  simp only [k0_part12_eq_skeleton, k0_part13_eq_skeleton]; unfold k0_part12_skel k0_part13_skel
  unfold owns
  icases H7 with ⟨%f7, %hf7, H7⟩
  icases H8 with ⟨%f8, %hf8, H8⟩
  icases H9 with ⟨%f9, %hf9, H9⟩
  icases H12 with ⟨%f12, %hf12, H12⟩
  icases H13 with ⟨%f13, %hf13, H13⟩
  have e8 : View.readAt (Elt Ideal) arg8.view (Rect.unit (s := S512x128) ![0, 0] S512x128.size inb_S512x128_S512x128_0_0).toLoadRect f8 = x6 := by
    rw [← hf8]; funext x; exact readAt_at _ _ _ _ _ (Fin.forall_fin_two.mpr ⟨(Nat.zero_add _).symm, (Nat.zero_add _).symm⟩)
  have e9 : View.readAt (Elt Ideal) arg9.view (Rect.unit (s := S512x128) ![0, 0] S512x128.size inb_S512x128_S512x128_0_0).toLoadRect f9 = x7 := by
    rw [← hf9]; funext x; exact readAt_at _ _ _ _ _ (Fin.forall_fin_two.mpr ⟨(Nat.zero_add _).symm, (Nat.zero_add _).symm⟩)
  sl_exec
  beta_reduce
  have e48 : k0_pay48 (body_run.sl.v61 c i arg12 f12) (View.readAt (Elt Ideal) arg7.view (Rect.unit (s := S2x1x512x128) ![1, 0, 0, 0] S1x1x512x128.size inb_S2x1x512x128_S1x1x512x128_1_0_0_0).toLoadRect f7)
      = rowVec x0 x1 x2 x3 x4 x5 x6 x7 (i 1).val 1 := by
    delta body_run.sl.v61
    refine pay48_rowVec _ _ _ _ _ _ _ _ _ 1 _ _ (fun r l => ?_) fun r l => ?_
    · refine (plane_load arg12 f12 _ 1 (i 1).val hn (off6_eq i) _ r l).trans ?_
      rw [hf12]
      unfold putStep; exact if_pos rfl
    · rw [res_load arg7 f7 1 1 rfl, hf7]
  have hw1 : ∀ a b, k0_pay48 a b = rowVec x0 x1 x2 x3 x4 x5 x6 x7 (i 1).val 1 → ∀ (r : Fin 512) (l : Fin 128), k0_pay51 (k0_pay48 a b) (k0_pay49 a b) x6 x7 (ix4 0 0 r l) = VAL x0 x1 x2 x3 x4 x5 x6 x7 (i 1).val 1 r l := by
    intro a b e r l
    rw [pay51_apply, pay49_eq, e, pay50_eq]
    exact norm_rowVec x0 x1 x2 x3 x4 x5 x6 x7 (i 1).val 1 _ _ rfl rfl r l
  have hb1 : ∀ a b, k0_pay48 a b = rowVec x0 x1 x2 x3 x4 x5 x6 x7 (i 1).val 1 → ∀ (m : Vec Ideal S1x8x128 .f32), (∀ (s : Fin 8) (l : Fin 128), m (ix3 0 s l) = zeroFirst (i 1).val am (ix3 1 s l)) → ∀ (s : Fin 8) (l : Fin 128),
      k0_pay1 (k0_pay52 (k0_pay48 a b) (k0_pay49 a b) x6 x7 m) (ix3 0 s l) = putMax am (i 1).val (VAL x0 x1 x2 x3 x4 x5 x6 x7 (i 1).val) (ix3 1 s l) := by
    intro a b e m hm s l
    rw [pay1_apply, pay52_eq, pay49_eq, e, pay50_eq]
    exact bump_rowVec x0 x1 x2 x3 x4 x5 x6 x7 am (i 1).val 1 _ _ rfl rfl m hm s l
  have hm1 : ∀ (s : Fin 8) (l : Fin 128), body_run.sl.v102 c arg13 f13 (ix3 0 s l) = zeroFirst (i 1).val am (ix3 1 s l) := by
    intro s l
    delta body_run.sl.v102
    exact (max_load arg13 f13 1 1 rfl _ s l).trans (by rw [hf13])
  by_cases h : (i 1).val = 39
  · rw [dif_pos ((cond4_iff i).mpr h), wp_bind]
    iapply (part10_run c i arg2 harg2 arg3 harg3 arg4 harg4 arg5 harg5 arg6 harg6 arg7 harg7 arg8 harg8 arg9 harg9 arg10 harg10 arg11 harg11 arg12 harg12 arg13 harg13 ((cond4_iff i).mpr h) (putStep z (i 1).val (VAL x0 x1 x2 x3 x4 x5 x6 x7 (i 1).val)) (putMax am (i 1).val (VAL x0 x1 x2 x3 x4 x5 x6 x7 (i 1).val)) E _)
    unfold owns
    isplitl [H10]; · iexact H10
    isplitl [H11]; · iexact H11
    isplitl [H12]
    · iexists _; isplitr; swap; · iexact H12
      ipureintro
      exact planes_final arg12 f12 z (i 1).val _ (VAL x0 x1 x2 x3 x4 x5 x6 x7 (i 1).val) hf12 _ _ (off5_eq i) (off6_eq i) _ _ _ _ (fun r l => (pay46_apply _ _ _ _ r l).trans (norm_rowVec x0 x1 x2 x3 x4 x5 x6 x7 (i 1).val 0 _ _ rfl rfl r l)) (hw1 _ _ e48)
    isplitl [H13]
    · iexists _; isplitr; swap; · iexact H13
      ipureintro
      exact max_final arg13 f13 am (i 1).val (VAL x0 x1 x2 x3 x4 x5 x6 x7 (i 1).val) _ _ _ _ (fun s l => (pay47_apply _ _ _ _ _ s l).trans (bump_rowVec x0 x1 x2 x3 x4 x5 x6 x7 am (i 1).val 0 _ _ rfl rfl _ (fun s l => by rw [max_load arg13 f13 0 0 rfl, hf13]) s l)) (hb1 _ _ e48 _ fun s l => hm1 s l)
    iintro ⟨H10, H11, H12, H13⟩
    sl_step
    iapply Hk
    isplitl [H2]; · iexact H2
    isplitl [H3]; · iexact H3
    isplitl [H4]; · iexact H4
    isplitl [H5]; · iexact H5
    isplitl [H6]; · iexact H6
    isplitl [H7]
    · iexists f7; isplitr; swap; · iexact H7
      ipureintro; exact hf7
    isplitl [H8]
    · iexists f8; isplitr; swap; · iexact H8
      ipureintro; exact hf8
    isplitl [H9]
    · iexists f9; isplitr; swap; · iexact H9
      ipureintro; exact hf9
    isplitl [H10]
    · iexists _; isplitr; swap; · iexact H10
      ipureintro; exact fun _ => rfl
    isplitl [H11]
    · iexists _; isplitr; swap; · iexact H11
      ipureintro; exact fun _ => rfl
    isplitl [H12]; · iexact H12
    iexact H13
  · rw [dif_neg (fun hc => h ((cond4_iff i).mp hc))]
    icases H10 with ⟨%d10, H10⟩
    icases H11 with ⟨%d11, H11⟩
    sl_step
    iapply Hk
    isplitl [H2]; · iexact H2
    isplitl [H3]; · iexact H3
    isplitl [H4]; · iexact H4
    isplitl [H5]; · iexact H5
    isplitl [H6]; · iexact H6
    isplitl [H7]
    · iexists f7; isplitr; swap; · iexact H7
      ipureintro; exact hf7
    isplitl [H8]
    · iexists f8; isplitr; swap; · iexact H8
      ipureintro; exact hf8
    isplitl [H9]
    · iexists f9; isplitr; swap; · iexact H9
      ipureintro; exact hf9
    isplitl [H10]
    · iexists d10; isplitr; swap; · iexact H10
      ipureintro; exact fun hc => absurd hc h
    isplitl [H11]
    · iexists d11; isplitr; swap; · iexact H11
      ipureintro; exact fun hc => absurd hc h
    isplitl [H12]
    · iexists _; isplitr; swap; · iexact H12
      ipureintro
      exact planes_final arg12 f12 z (i 1).val _ (VAL x0 x1 x2 x3 x4 x5 x6 x7 (i 1).val) hf12 _ _ (off5_eq i) (off6_eq i) _ _ _ _ (fun r l => (pay46_apply _ _ _ _ r l).trans (norm_rowVec x0 x1 x2 x3 x4 x5 x6 x7 (i 1).val 0 _ _ rfl rfl r l)) (hw1 _ _ e48)
    · iexists _; isplitr; swap; · iexact H13
      ipureintro
      exact max_final arg13 f13 am (i 1).val (VAL x0 x1 x2 x3 x4 x5 x6 x7 (i 1).val) _ _ _ _ (fun s l => (pay47_apply _ _ _ _ _ s l).trans (bump_rowVec x0 x1 x2 x3 x4 x5 x6 x7 am (i 1).val 0 _ _ rfl rfl _ (fun s l => by rw [max_load arg13 f13 0 0 rfl, hf13]) s l)) (hb1 _ _ e48 _ fun s l => hm1 s l)

end Cert.Mlp2Ideal.Block

end
-- ==== Proof.Mlp2Run.lean ====
/- The run of the kernel: step by step the body fills the kept values and the running maxima of a block of samples, and in
   the block's last step leaves the block's codes and scales. -/
module

public import proofs.«01_k».proof.Proof.Mlp2Body
public import proofs.«01_k».proof.Proof.Gen.Mlp2Ideal.Frame
public import Idealize.ShloMosaic.Lib.Claim

@[expose] public section

set_option maxRecDepth 16384

noncomputable section

namespace Cert.Mlp2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Mlp2Ideal Cert.Mlp2Ideal.Gen Cert.Mlp2Ideal.Block

local notation "𝕄" => MT nD τ sig Unit (Elt Ideal) ℕ (UR sig nD τ) ℕ

variable (m : (ℓ : Loc nD τ sig) → Buf (Elt Ideal) ℓ) (ρ : Dev nD → PrngReg)

/-- The grid point of step `n` of block `k`. -/
def pt (k n : ℕ) : Fin cfg0.N := ⟨(40 * k + n) % 640, Nat.mod_lt _ (by decide)⟩

/-- The block and the step of a point give the point back. -/
theorem pt_val (t : Fin cfg0.N) : pt (t.val / 40) (t.val % 40) = t := by
  have h : t.val < 640 := t.isLt
  refine Fin.ext ?_
  show (40 * (t.val / 40) + t.val % 40) % 640 = t.val
  omega

/-- The second coordinate of a point is its step. -/
theorem step_val (t : Fin cfg0.N) : ((grid0.coords t) 1).val = t.val % 40 := (by decide : ∀ t : Fin 640, ((grid0.coords t) 1).val = t.val % 40) t

/-- The normalised values of step `n` of block `k`. -/
def val (c : Dev nD) (k n : ℕ) (q : Fin 2) (r : Fin 512) (l : Fin 128) : EReal :=
  VAL (iblk m c 0 (pt k n)) (iblk m c 1 (pt k n)) (iblk m c 2 (pt k n)) (iblk m c 3 (pt k n)) (iblk m c 4 (pt k n)) (iblk m c 5 (pt k n)) (iblk m c 6 (pt k n)) (iblk m c 7 (pt k n)) n q r l

/-- All of a block's normalised values. -/
def allOf (c : Dev nD) (k : ℕ) : S2x40x512x128.Idx → EReal := fun y => val m c k (y 1).val (y 0) (y 2) (y 3)

/-- The running maxima of block `k` after `n` steps. -/
def maxOf (c : Dev nD) (k : ℕ) : ℕ → S2x8x128.Idx → EReal
  | 0 => fun _ => 0
  | n + 1 => putMax (maxOf c k n) n (val m c k n)

/-- What the kept values and the running maxima hold before point `t`: those of the block's steps so far. -/
def Inv (c : Dev nD) (t : ℕ) (z : S2x40x512x128.Idx → EReal) (am : S2x8x128.Idx → EReal) : Prop :=
  (∀ y : S2x40x512x128.Idx, (y 1).val < t % 40 → z y = allOf m c (t / 40) y) ∧ (t % 40 ≠ 0 → am = maxOf m c (t / 40) (t % 40))

/-- One more step. -/
theorem both_step (c : Dev nD) (t : ℕ) (z : S2x40x512x128.Idx → EReal) (am : S2x8x128.Idx → EReal) (h : Inv m c t z am) :
    (∀ y : S2x40x512x128.Idx, (y 1).val < t % 40 + 1 → putStep z (t % 40) (val m c (t / 40) (t % 40)) y = allOf m c (t / 40) y)
      ∧ putMax am (t % 40) (val m c (t / 40) (t % 40)) = maxOf m c (t / 40) (t % 40 + 1) := by
  refine ⟨fun y hy => ?_, ?_⟩
  · by_cases e : (y 1).val = t % 40
    · unfold putStep allOf
      rw [if_pos e, e]
    · refine Eq.trans (if_neg e) (h.1 y (by omega))
  · show _ = putMax (maxOf m c (t / 40) (t % 40)) (t % 40) _
    by_cases e : t % 40 = 0
    · unfold putMax; simp only [e, if_pos]
    · rw [h.2 e]

/-- A step carries what the earlier steps left to what is left after it. -/
theorem inv_step (c : Dev nD) (t : ℕ) (z : S2x40x512x128.Idx → EReal) (am : S2x8x128.Idx → EReal) (h : Inv m c t z am) :
    Inv m c (t + 1) (putStep z (t % 40) (val m c (t / 40) (t % 40))) (putMax am (t % 40) (val m c (t / 40) (t % 40))) := by
  obtain ⟨h1, h2⟩ := both_step m c t z am h
  refine ⟨fun y hy => ?_, fun hn => ?_⟩
  · have e : (t + 1) / 40 = t / 40 := by omega
    rw [e]; exact h1 y (by omega)
  · have e : (t + 1) / 40 = t / 40 := by omega
    have e' : (t + 1) % 40 = t % 40 + 1 := by omega
    rw [e, e']; exact h2

/-- At a block's last step everything is in place. -/
theorem inv_last (c : Dev nD) (t : ℕ) (ht : t % 40 = 39) (z : S2x40x512x128.Idx → EReal) (am : S2x8x128.Idx → EReal) (h : Inv m c t z am) :
    putStep z (t % 40) (val m c (t / 40) (t % 40)) = allOf m c (t / 40) ∧ putMax am (t % 40) (val m c (t / 40) (t % 40)) = maxOf m c (t / 40) 40 := by
  obtain ⟨h1, h2⟩ := both_step m c t z am h
  refine ⟨funext fun y => h1 y (by have hy : (y 1).val < 40 := (y 1).isLt; omega), h2.trans (by rw [ht])⟩

/-- The codes of block `k`, -/
def codes (c : Dev nD) (k : ℕ) : Vec Ideal S256x160x128 .fp8e4m3 := OUT (allOf m c k) (maxOf m c k 40)
/-- and its scales. -/
def scales (c : Dev nD) (k : ℕ) : Vec Ideal S2x1x128 .f32 := OSC (maxOf m c k 40)

/-- The proof data: the body leaves the inputs' buffers as it finds them and, in a block's last step, the outputs' at the
    block's codes and scales; the kept values and the running maxima are those of the steps so far. -/
def rdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => t.val % 40 = 39 → X = codes m c (t.val / 40)
    | ⟨9, _⟩ => fun _ X => t.val % 40 = 39 → X = scales m c (t.val / 40)
  Φ t := iprop(∃ z am, ⌜Inv m c t.val z am⌝ ∗ owns (c : Thread nD τ) (Memref.whole cc0_scratch0) fullShare z ∗ owns (c : Thread nD τ) (Memref.whole cc0_scratch1) fullShare am ∗ (∃ r, prngReg c r))
  q _ := fullShare
  owed _ := 0

/-- The arrays before the run are those the host leaves. -/
theorem A_eq (c : Dev nD) (w : Fin cfg0.W) : (rdat m c).A w = V m c (Pipeline.arrRef spec0 w) := by
  dsimp only [rdat]

/-- Input 0's buffer holds its block. -/
theorem found_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  refine hd.trans ?_
  unfold RDat.fetched RDat.blockOf iblk; rw [A_eq]; try rfl
/-- Input 1's buffer holds its block. -/
theorem found_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  refine hd.trans ?_
  unfold RDat.fetched RDat.blockOf iblk; rw [A_eq]; try rfl
/-- Input 2's buffer holds its block. -/
theorem found_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  refine hd.trans ?_
  unfold RDat.fetched RDat.blockOf iblk; rw [A_eq]; try rfl
/-- Input 3's buffer holds its block. -/
theorem found_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  refine hd.trans ?_
  unfold RDat.fetched RDat.blockOf iblk; rw [A_eq]; try rfl
/-- Input 4's buffer holds its block. -/
theorem found_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  refine hd.trans ?_
  unfold RDat.fetched RDat.blockOf iblk; rw [A_eq]; try rfl
/-- Input 5's buffer holds its block. -/
theorem found_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  refine hd.trans ?_
  unfold RDat.fetched RDat.blockOf iblk; rw [A_eq]; try rfl
/-- Input 6's buffer holds its block. -/
theorem found_6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  refine hd.trans ?_
  unfold RDat.fetched RDat.blockOf iblk; rw [A_eq]; try rfl
/-- Input 7's buffer holds its block. -/
theorem found_7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  refine hd.trans ?_
  unfold RDat.fetched RDat.blockOf iblk; rw [A_eq]; try rfl

/-- What the body is called with, the buffers one by one, -/
def bodyPre (c : Dev nD) (t : Fin cfg0.N) (Y : (w : Fin cfg0.W) → (cfg0.win w).block.Idx → Elt Ideal (cfg0.win w).elt) : sProp 𝕄 :=
  iprop((rdat m c).Φ t.castSucc
    ∗ (rdat m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8)
    ∗ owns (c : Thread nD τ) (win0_9.stage (cfg0.slots t 9)) fullShare (Y 9))
/-- and what it returns. -/
def bodyPost (c : Dev nD) (t : Fin cfg0.N) (Y : (w : Fin cfg0.W) → (cfg0.win w).block.Idx → Elt Ideal (cfg0.win w).elt) : sProp 𝕄 :=
  iprop((rdat m c).Φ t.succ
    ∗ (rdat m c).owesAt () t.succ
    ∗ (∃ X, ⌜(rdat m c).after 0 t (Y 0) X⌝ ∗ owns (c : Thread nD τ) (win0_0.stage (cfg0.slots t 0)) fullShare X)
    ∗ (∃ X, ⌜(rdat m c).after 1 t (Y 1) X⌝ ∗ owns (c : Thread nD τ) (win0_1.stage (cfg0.slots t 1)) fullShare X)
    ∗ (∃ X, ⌜(rdat m c).after 2 t (Y 2) X⌝ ∗ owns (c : Thread nD τ) (win0_2.stage (cfg0.slots t 2)) fullShare X)
    ∗ (∃ X, ⌜(rdat m c).after 3 t (Y 3) X⌝ ∗ owns (c : Thread nD τ) (win0_3.stage (cfg0.slots t 3)) fullShare X)
    ∗ (∃ X, ⌜(rdat m c).after 4 t (Y 4) X⌝ ∗ owns (c : Thread nD τ) (win0_4.stage (cfg0.slots t 4)) fullShare X)
    ∗ (∃ X, ⌜(rdat m c).after 5 t (Y 5) X⌝ ∗ owns (c : Thread nD τ) (win0_5.stage (cfg0.slots t 5)) fullShare X)
    ∗ (∃ X, ⌜(rdat m c).after 6 t (Y 6) X⌝ ∗ owns (c : Thread nD τ) (win0_6.stage (cfg0.slots t 6)) fullShare X)
    ∗ (∃ X, ⌜(rdat m c).after 7 t (Y 7) X⌝ ∗ owns (c : Thread nD τ) (win0_7.stage (cfg0.slots t 7)) fullShare X)
    ∗ (∃ X, ⌜(rdat m c).after 8 t (Y 8) X⌝ ∗ owns (c : Thread nD τ) (win0_8.stage (cfg0.slots t 8)) fullShare X)
    ∗ (∃ X, ⌜(rdat m c).after 9 t (Y 9) X⌝ ∗ owns (c : Thread nD τ) (win0_9.stage (cfg0.slots t 9)) fullShare X))

set_option maxHeartbeats 1000000 in
/-- The body at any point. -/
theorem sound_body (c : Dev nD) (t : Fin cfg0.N) (Y : (w : Fin cfg0.W) → (cfg0.win w).block.Idx → Elt Ideal (cfg0.win w).elt) (hY : ∀ w, (rdat m c).Finds w t (Y w)) :
    bodyPre m c t Y ⊢ wp frame (wpE (defs₀ (F := Ideal)) Variants.none c none) Set.univ (bodyAt0 t) (fun _ => bodyPost m c t Y) := by
  have e : ∀ q r l, VAL (Y 0) (Y 1) (Y 2) (Y 3) (Y 4) (Y 5) (Y 6) (Y 7) ((grid0.coords t) 1).val q r l = val m c (t.val / 40) (t.val % 40) q r l := by
    intro q r l
    unfold val
    rw [pt_val, step_val]
    rw [found_0 m c t _ (hY 0), found_1 m c t _ (hY 1), found_2 m c t _ (hY 2), found_3 m c t _ (hY 3), found_4 m c t _ (hY 4), found_5 m c t _ (hY 5), found_6 m c t _ (hY 6), found_7 m c t _ (hY 7)]
  have e' : VAL (Y 0) (Y 1) (Y 2) (Y 3) (Y 4) (Y 5) (Y 6) (Y 7) ((grid0.coords t) 1).val = val m c (t.val / 40) (t.val % 40) := by
    funext q r l; exact e q r l
  unfold bodyPre bodyPost bodyAt0
  rw [show (rdat m c).owesAt () t.succ = (rdat m c).owesAt () t.castSucc from rfl]
  dsimp only [rdat]
  iintro ⟨⟨%z, %am, %hI, HZ, HA, Hg⟩, Ho, H0, H1, H2, H3, H4, H5, H6, H7, H8, H9⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Y 0) (Y 1) (Y 2) (Y 3) (Y 4) (Y 5) (Y 6) (Y 7) z am Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HZ]; · iexact HZ
  isplitl [HA]; · iexact HA
  rw [e', step_val]
  iintro ⟨H0, H1, H2, H3, H4, H5, H6, H7, ⟨%d8, %h8, H8⟩, ⟨%d9, %h9, H9⟩, HZ, HA⟩
  isplitl [HZ HA Hg]
  · iexists _, _
    isplitr
    · ipureintro; exact inv_step m c t.val z am hI
    isplitl [HZ]; · iexact HZ
    isplitl [HA]; · iexact HA
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists d8; isplitr; swap; · iexact H8
    ipureintro; intro ht; refine (h8 ht).trans ?_
    rw [(inv_last m c t.val ht z am hI).1, (inv_last m c t.val ht z am hI).2]; rfl
  iexists d9; isplitr; swap; · iexact H9
  ipureintro; intro ht; refine (h9 ht).trans ?_
  rw [(inv_last m c t.val ht z am hI).2]; rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  rw [bigSep_W0, bigSep_W0, defs₀_row]
  exact triple_restated (sound_body m c t Y hY) rfl .rfl fun _ => .rfl

/-- The invariant before the first point holds of any contents, -/
theorem inv_in (c : Dev nD) : (Pipeline.ΦA spec0 c : sProp 𝕄) ⊢ (rdat m c).Φ 0 := by
  dsimp only [rdat]
  unfold Pipeline.ΦA; rw [scopedRest0_eq]; simp only [owns_whole]
  iintro ⟨⟨⟨%f, HZ⟩, ⟨%g, HA⟩⟩, Hg⟩
  iexists f, g
  isplitr
  · ipureintro; exact ⟨fun y hy => absurd hy (by show ¬ _ < 0 % 40; omega), fun h => absurd rfl h⟩
  isplitl [HZ]; · iexact HZ
  isplitl [HA]; · iexact HA
  iexact Hg

/-- and after the last its contents are forgotten. -/
theorem inv_out (c : Dev nD) : (rdat m c).Φ (Fin.last cfg0.N) ⊢ (Pipeline.ΦA spec0 c : sProp 𝕄) := by
  dsimp only [rdat]
  unfold Pipeline.ΦA; rw [scopedRest0_eq]; simp only [owns_whole]
  iintro ⟨%z, %am, -, HZ, HA, Hg⟩
  isplitl [HZ HA]
  · isplitl [HZ]; · iexists _; iexact HZ
    iexists _; iexact HA
  iexact Hg

set_option backward.isDefEq.respectTransparency.types false in
/-- The run, and every counter at zero at its end. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hin := inv_in m) (hout := inv_out m)

/-- The run. -/
theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- The argument arrays end unchanged. -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- `frame` without the counters. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (rdat m) (A_eq m) (run_main m ρ)

/-- The program runs, its arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Mlp2Ideal.Run

end
-- ==== Proof.Mlp2Reference.lean ====
/- What the reference computes, at an index. -/
module

public import proofs.«01_k».proof.Proof.Mlp2Spec
public import proofs.«01_k».proof.Proof.Gen.Mlp2ReferenceIdeal.Skeleton

@[expose] public section

set_option maxRecDepth 16384

noncomputable section

namespace Cert.Mlp2ReferenceIdeal.Layer

open Idealize.ShloMosaic Idealize.ShloMosaic.TcCoe Cert.Mlp2ReferenceIdeal Cert.Mlp2ReferenceIdeal.Gen
open Cert.Mlp2Ideal.Block (scaleOf codeOf meanOf eps absE ofBits_negInf)

variable (a0 : Vec Ideal S4096x3584 .fp8e4m3) (a1 : Vec Ideal S4096 .f32) (a2 : Vec Ideal S3584x12800 .fp8e4m3) (a3 a4 : Vec Ideal S12800 .f32)
  (a5 : Vec Ideal S4096x160x128 .f32) (a6 a7 : Vec Ideal S128 .f32)

/-! ## The values -/

/-- The layer's value of sample `R` at column `j`. -/
def lin (R : Fin 4096) (j : Fin 12800) : EReal :=
  (∑ k : Fin 3584, a0 (ix2 R k) * a2 (ix2 k j)) * a1 (ix1 R) * a3 (ix1 j) + a4 (ix1 j)

/-- The layer's value at token `p`, feature `f`, zero where the layer has no token, plus the residual. -/
def zed (R : Fin 4096) (p : Fin 160) (f : Fin 128) : EReal :=
  (if h : p.val < 100 then lin a0 a1 a2 a3 a4 R ⟨p.val * 128 + f.val, by omega⟩ else 0) + a5 (ix3 R p f)

/-- That less the token's mean. -/
def cent (R : Fin 4096) (p : Fin 160) (f : Fin 128) : EReal :=
  zed a0 a1 a2 a3 a4 a5 R p f - meanOf (∑ f : Fin 128, zed a0 a1 a2 a3 a4 a5 R p f)

/-- The token's variance, plus the small constant. -/
def vari (R : Fin 4096) (p : Fin 160) : EReal :=
  meanOf (∑ f : Fin 128, cent a0 a1 a2 a3 a4 a5 R p f * cent a0 a1 a2 a3 a4 a5 R p f) + eps

/-- The normalised value. -/
def norm (R : Fin 4096) (p : Fin 160) (f : Fin 128) : EReal :=
  Ideal.div (cent a0 a1 a2 a3 a4 a5 R p f) (Ideal.sqrt (vari a0 a1 a2 a3 a4 a5 R p)) * a6 (ix1 f) + a7 (ix1 f)

/-- The largest absolute value of a sample. -/
def amax (R : Fin 4096) : EReal := Finset.univ.sup fun x : Fin 160 × Fin 128 => absE (norm a0 a1 a2 a3 a4 a5 a6 a7 R x.1 x.2)

/-- The scale of a sample. -/
def scale (R : Fin 4096) : EReal := scaleOf (amax a0 a1 a2 a3 a4 a5 a6 a7 R)

/-! ## The reference's arrays in stages -/

/-- The layer. -/
def linV : FVec Ideal S4096x12800 .f32 :=
  have cst : FVec Ideal S4096x12800 .f32 := constant S4096x12800 .f32 0x00000000#32
  have v3 : FVec Ideal S4096x12800 .f32 := matmul (φ₁ := .fp8e4m3) (φ₂ := .fp8e4m3) dot_S4096x3584_S3584x12800_S4096x12800_1_0_0_1_n_n none a0 a2 cst
  have v5 : FVec Ideal S4096x1 .f32 := shapeCast S4096x1 a1 shapeCasts_S4096_S4096x1
  have v6 : FVec Ideal S4096x12800 .f32 := broadcastTo S4096x12800 v5 broadcasts_S4096x1_S4096x12800
  have v7 : FVec Ideal S4096x12800 .f32 := mulf v3 v6
  have v9 : FVec Ideal S1x12800 .f32 := shapeCast S1x12800 a3 shapeCasts_S12800_S1x12800
  have v10 : FVec Ideal S4096x12800 .f32 := broadcastTo S4096x12800 v9 broadcasts_S1x12800_S4096x12800
  have v11 : FVec Ideal S4096x12800 .f32 := mulf v7 v10
  have v13 : FVec Ideal S1x12800 .f32 := shapeCast S1x12800 a4 shapeCasts_S12800_S1x12800
  have v14 : FVec Ideal S4096x12800 .f32 := broadcastTo S4096x12800 v13 broadcasts_S1x12800_S4096x12800
  addf v11 v14

/-- The layer's values as tokens, zeros after, plus the residual. -/
def zedV (v15 : FVec Ideal S4096x12800 .f32) : FVec Ideal S4096x160x128 .f32 :=
  have v16 : FVec Ideal S4096x100x128 .f32 := shapeCast S4096x100x128 v15 shapeCasts_S4096x12800_S4096x100x128
  have cst_9 : Ideal .f32 := Scalar.ofBits .f32 0x00000000#32
  have v17 : FVec Ideal S4096x60x128 .f32 := broadcast S4096x60x128 cst_9
  have v18 : FVec Ideal S4096x160x128 .f32 := concatenate S4096x160x128 1 [⟨S4096x100x128, v16⟩, ⟨S4096x60x128, v17⟩] concatenates_S4096x100x128_S4096x60x128_S4096x160x128_d1
  addf v18 a5

/-- The means over the features. -/
def meanV (v19 : FVec Ideal S4096x160x128 .f32) : FVec Ideal S4096x160x1 .f32 :=
  have v20 : FVec Ideal S4096x160 .f32 := multiReduction .add [2] S4096x160 v19 0x00000000#32 reduces_S4096x160x128_S4096x160 (.inl rfl) rfl
  have v21 : FVec Ideal S4096x160x1 .f32 := shapeCast S4096x160x1 v20 shapeCasts_S4096x160_S4096x160x1
  have cst_11 : Ideal .f32 := Scalar.ofBits .f32 0x43000000#32
  have v22 : FVec Ideal S4096x160x1 .f32 := broadcast S4096x160x1 cst_11
  divf v21 v22

/-- The values less their means. -/
def centV (v19 : FVec Ideal S4096x160x128 .f32) : FVec Ideal S4096x160x128 .f32 :=
  subf v19 (broadcastTo S4096x160x128 (meanV v19) broadcasts_S4096x160x1_S4096x160x128)

/-- The values over their deviations, times the features' gains. -/
def normV (v25 : FVec Ideal S4096x160x128 .f32) : FVec Ideal S4096x160x128 .f32 :=
  have cst_14 : Ideal .f32 := Scalar.ofBits .f32 0x3727C5AC#32
  have v31 : FVec Ideal S4096x160x1 .f32 := broadcast S4096x160x1 cst_14
  have v32 : FVec Ideal S4096x160x1 .f32 := addf (meanV (mulf v25 v25)) v31
  have v33 : FVec Ideal S4096x160x1 .f32 := sqrt v32
  have v34 : FVec Ideal S4096x160x128 .f32 := broadcastTo S4096x160x128 v33 broadcasts_S4096x160x1_S4096x160x128
  have v35 : FVec Ideal S4096x160x128 .f32 := divf v25 v34
  have v37 : FVec Ideal S1x1x128 .f32 := shapeCast S1x1x128 a6 shapeCasts_S128_S1x1x128
  have v38 : FVec Ideal S4096x160x128 .f32 := broadcastTo S4096x160x128 v37 broadcasts_S1x1x128_S4096x160x128
  mulf v35 v38

/-- This value of the body is the one named. -/
theorem pay5_eq : Gen.k0_pay5 a5 a0 a2 a1 a3 a4 a6 = normV a6 (centV (zedV a5 (linV a0 a1 a2 a3 a4))) := rfl

/-- The scaled product with its bias, at an index. -/
theorem linV_apply (R : Fin 4096) (j : Fin 12800) : linV a0 a1 a2 a3 a4 (ix2 R j) = lin a0 a1 a2 a3 a4 R j := by
  pointwise [linV, lin]

/-- The value before the norm, at an index. -/
theorem zedV_apply (v : FVec Ideal S4096x12800 .f32) (R : Fin 4096) (p : Fin 160) (f : Fin 128) :
    zedV a5 v (ix3 R p f) = (if h : p.val < 100 then v (ix2 R ⟨p.val * 128 + f.val, by omega⟩) else 0) + a5 (ix3 R p f) := by
  pointwise [zedV]

/-- The mean of a token. -/
theorem meanV_apply (v : FVec Ideal S4096x160x128 .f32) (R : Fin 4096) (p : Fin 160) (u : Fin 1) :
    meanV v (ix3 R p u) = meanOf (∑ f : Fin 128, v (ix3 R p f)) := by
  pointwise [meanV, meanOf]

/-- A centred value, at an index. -/
theorem centV_apply (v : FVec Ideal S4096x160x128 .f32) (R : Fin 4096) (p : Fin 160) (f : Fin 128) :
    centV v (ix3 R p f) = v (ix3 R p f) - meanOf (∑ f : Fin 128, v (ix3 R p f)) := by
  unfold centV
  have e := meanV_apply v R p 0
  generalize meanV v = w at e
  rw [← e]
  pointwise []

/-- A centred value divided by the root of the variance and multiplied by the gain. -/
theorem normV_apply (v : FVec Ideal S4096x160x128 .f32) (R : Fin 4096) (p : Fin 160) (f : Fin 128) :
    normV a6 v (ix3 R p f) = Ideal.div (v (ix3 R p f)) (Ideal.sqrt (meanOf (∑ f : Fin 128, v (ix3 R p f) * v (ix3 R p f)) + eps)) * a6 (ix1 f) := by
  unfold normV
  have e := meanV_apply (mulf v v) R p 0
  generalize meanV (mulf v v) = w at e
  have e' : (∑ f : Fin 128, mulf v v (ix3 R p f)) = ∑ f : Fin 128, v (ix3 R p f) * v (ix3 R p f) := Finset.sum_congr rfl fun f _ => by rw [mulf_apply, Ideal.mulf_def]
  rw [← e', ← e]
  pointwise [eps]

/-- The largest absolute value of each sample. -/
def rowMax (h : FVec Ideal S4096x160x128 .f32) : FVec Ideal S4096 .f32 :=
  multiReduction .maximumf [1, 2] S4096 (absf h) 0xFF800000#32 reduces_S4096x160x128_S4096 (.inl rfl) rfl

/-- The scales of samples whose largest absolute values are `v45`. -/
def scalesOf (v45 : FVec Ideal S4096 .f32) : FVec Ideal S4096 .f32 :=
  have v46 : FVec Ideal S4096 .f32 := broadcast S4096 (Scalar.ofBits (F := Ideal) .f32 0x00000000#32)
  have v47 : IVec S4096 1 := cmpf .oeq v45 v46
  have v49 : FVec Ideal S4096 .f32 := divf v45 (broadcast S4096 (Scalar.ofBits (F := Ideal) .f32 0x43E00000#32))
  select v47 (broadcast S4096 (Scalar.ofBits (F := Ideal) .f32 0x3F800000#32)) v49

/-- The codes of the values `h` under the samples' scales `s`. -/
def codes (h : FVec Ideal S4096x160x128 .f32) (s : FVec Ideal S4096 .f32) : FVec Ideal S4096x160x128 .fp8e4m3 :=
  have v52 : FVec Ideal S4096x1x1 .f32 := shapeCast S4096x1x1 s shapeCasts_S4096_S4096x1x1
  have v53 : FVec Ideal S4096x160x128 .f32 := broadcastTo S4096x160x128 v52 broadcasts_S4096x1x1_S4096x160x128
  have v54 : FVec Ideal S4096x160x128 .f32 := divf h v53
  have v56 : FVec Ideal S4096x160x128 .f32 := maximumf (broadcast S4096x160x128 (Scalar.ofBits (F := Ideal) .f32 0xC3E00000#32)) v54
  have v58 : FVec Ideal S4096x160x128 .f32 := minimumf (broadcast S4096x160x128 (Scalar.ofBits (F := Ideal) .f32 0x43E00000#32)) v56
  truncf .fp8e4m3 v58 bitsLt_fp8e4m3_f32

/-- The largest absolute value of a sample. -/
theorem rowMax_apply (h : FVec Ideal S4096x160x128 .f32) (R : Fin 4096) :
    rowMax h (ix1 R) = Finset.univ.sup fun x : Fin 160 × Fin 128 => absE (h (ix3 R x.1 x.2)) := by
  pointwise [rowMax]
  rw [ofBits_negInf]
  rfl

/-- The scale of a sample. -/
theorem scalesOf_apply (v : FVec Ideal S4096 .f32) (R : Fin 4096) : scalesOf v (ix1 R) = scaleOf (v (ix1 R)) := by
  pointwise [scalesOf, scaleOf]

/-- The code of a value, at an index. -/
theorem codes_apply (h : FVec Ideal S4096x160x128 .f32) (s : FVec Ideal S4096 .f32) (R : Fin 4096) (p : Fin 160) (f : Fin 128) :
    codes h s (ix3 R p f) = codeOf (h (ix3 R p f)) (s (ix1 R)) := by
  pointwise [codes, codeOf]

variable (v39 : FVec Ideal S4096x160x128 .f32)
/-- This value of the body, entry by entry. -/
theorem pay1_apply (R : Fin 4096) (p : Fin 160) (f : Fin 128) : Gen.k0_pay1 v39 a7 (ix3 R p f) = v39 (ix3 R p f) + a7 (ix1 f) := by
  pointwise [Gen.k0_pay1]
/-- This value of the body is the one named. -/
theorem pay2_eq : Gen.k0_pay2 v39 a7 = scalesOf (rowMax (Gen.k0_pay1 v39 a7)) := rfl
/-- This value of the body is the one named. -/
theorem pay3_eq : Gen.k0_pay3 v39 a7 = codes (Gen.k0_pay1 v39 a7) (Gen.k0_pay2 v39 a7) := rfl

/-- The normalised values the reference computes, -/
theorem value_apply (R : Fin 4096) (p : Fin 160) (f : Fin 128) :
    Gen.k0_pay1 (Gen.k0_pay5 a5 a0 a2 a1 a3 a4 a6) a7 (ix3 R p f) = norm a0 a1 a2 a3 a4 a5 a6 a7 R p f := by
  have ez : ∀ f : Fin 128, zedV a5 (linV a0 a1 a2 a3 a4) (ix3 R p f) = zed a0 a1 a2 a3 a4 a5 R p f := fun f => by
    rw [zedV_apply]; unfold zed; simp only [linV_apply]
  have ec : ∀ f : Fin 128, centV (zedV a5 (linV a0 a1 a2 a3 a4)) (ix3 R p f) = cent a0 a1 a2 a3 a4 a5 R p f := fun f => by
    rw [centV_apply]; unfold cent; simp only [ez]
  rw [pay1_apply, pay5_eq, normV_apply]
  simp only [ec]
  rfl

/-- its scales -/
theorem scale_apply (R : Fin 4096) : Gen.k0_pay2 (Gen.k0_pay5 a5 a0 a2 a1 a3 a4 a6) a7 (ix1 R) = scale a0 a1 a2 a3 a4 a5 a6 a7 R := by
  rw [pay2_eq, scalesOf_apply, rowMax_apply]
  unfold scale amax
  simp only [value_apply]

/-- and its codes. -/
theorem pay3_apply (R : Fin 4096) (p : Fin 160) (f : Fin 128) :
    Gen.k0_pay3 (Gen.k0_pay5 a5 a0 a2 a1 a3 a4 a6) a7 (ix3 R p f) = codeOf (norm a0 a1 a2 a3 a4 a5 a6 a7 R p f) (scale a0 a1 a2 a3 a4 a5 a6 a7 R) := by
  rw [pay3_eq, codes_apply, value_apply, scale_apply]

/-- This value of the body, entry by entry. -/
theorem pay4_apply (q : Fin 32) (u : Fin 1) (l : Fin 128) (R : Fin 4096) (hR : R.val = 128 * q.val + l.val) :
    Gen.k0_pay4 (Gen.k0_pay5 a5 a0 a2 a1 a3 a4 a6) a7 (ix3 q u l) = scale a0 a1 a2 a3 a4 a5 a6 a7 R := by
  rw [← scale_apply]
  generalize Gen.k0_pay5 a5 a0 a2 a1 a3 a4 a6 = x
  unfold Gen.k0_pay4
  generalize Gen.k0_pay2 x a7 = y
  pointwise []
  exact congrArg (fun r => y (ix1 r)) (Fin.ext (by show q.val * 128 + l.val = R.val; omega))

end Cert.Mlp2ReferenceIdeal.Layer

end
-- ==== Proof.Mlp2Arrays.lean ====
/- The arrays after the run: the blocks' codes and scales are the reference's, at their places. -/
module

public import proofs.«01_k».proof.Proof.Mlp2Run
public import proofs.«01_k».proof.Proof.Mlp2Reference
public import Idealize.ShloMosaic.Lib.StableHlo.ReadAt
public import Idealize.ShloMosaic.Lib.Pipeline.ArrRel

@[expose] public section

set_option maxRecDepth 16384

noncomputable section

namespace Cert.Mlp2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Mlp2Ideal Cert.Mlp2Ideal.Gen Cert.Mlp2Ideal.Block

local notation "𝕄" => MT nD τ sig Unit (Elt Ideal) ℕ (UR sig nD τ) ℕ

variable (m : (ℓ : Loc nD τ sig) → Buf (Elt Ideal) ℓ) (ρ : Dev nD → PrngReg)

/-! ## The blocks' places in the arrays -/

/-- The block index of the codes at a point. -/
theorem idx0 : ∀ t : Fin cfg0.N, win0_0.index t (0 : Fin 2) = t.val / 40 ∧ win0_0.index t (1 : Fin 2) = 0 := (by decide +kernel : ∀ t : Fin grid0.N, _)
/-- The block index of the per-sample scales at a point. -/
theorem idx1 : ∀ t : Fin cfg0.N, win0_1.index t (0 : Fin 2) = t.val / 40 ∧ win0_1.index t (1 : Fin 2) = 0 := (by decide +kernel : ∀ t : Fin grid0.N, _)
/-- The block index of the weights at a point. -/
theorem idx2 : ∀ t : Fin cfg0.N, win0_2.index t (0 : Fin 2) = 0 ∧ win0_2.index t (1 : Fin 2) = min (t.val % 40) 24 := (by decide +kernel : ∀ t : Fin grid0.N, _)
/-- The block index of the weight scales at a point. -/
theorem idx3 : ∀ t : Fin cfg0.N, win0_3.index t (0 : Fin 2) = 0 ∧ win0_3.index t (1 : Fin 2) = min (t.val % 40) 24 := (by decide +kernel : ∀ t : Fin grid0.N, _)
/-- The block index of the biases at a point. -/
theorem idx4 : ∀ t : Fin cfg0.N, win0_4.index t (0 : Fin 2) = 0 ∧ win0_4.index t (1 : Fin 2) = min (t.val % 40) 24 := (by decide +kernel : ∀ t : Fin grid0.N, _)
/-- The block index of the residual at a point. -/
theorem idx5 : ∀ t : Fin cfg0.N, win0_5.index t (0 : Fin 4) = t.val / 40 ∧ win0_5.index t (1 : Fin 4) = t.val % 40 ∧ win0_5.index t (2 : Fin 4) = 0 ∧ win0_5.index t (3 : Fin 4) = 0 := (by decide +kernel : ∀ t : Fin grid0.N, _)
/-- The block index of the gains at a point. -/
theorem idx6 : ∀ t : Fin cfg0.N, win0_6.index t (0 : Fin 2) = 0 ∧ win0_6.index t (1 : Fin 2) = 0 := (by decide +kernel : ∀ t : Fin grid0.N, _)
/-- The block index of the norm biases at a point. -/
theorem idx7 : ∀ t : Fin cfg0.N, win0_7.index t (0 : Fin 2) = 0 ∧ win0_7.index t (1 : Fin 2) = 0 := (by decide +kernel : ∀ t : Fin grid0.N, _)
/-- The block index of the result codes at a point. -/
theorem idx8 : ∀ t : Fin cfg0.N, win0_8.index t (0 : Fin 3) = t.val / 40 ∧ win0_8.index t (1 : Fin 3) = 0 ∧ win0_8.index t (2 : Fin 3) = 0 := (by decide +kernel : ∀ t : Fin grid0.N, _)
/-- The block index of the result scales at a point. -/
theorem idx9 : ∀ t : Fin cfg0.N, win0_9.index t (0 : Fin 3) = t.val / 40 ∧ win0_9.index t (1 : Fin 3) = 0 ∧ win0_9.index t (2 : Fin 3) = 0 := (by decide +kernel : ∀ t : Fin grid0.N, _)
/-- The place in the array of an entry of a block of the codes. -/
theorem emb0 (t : Fin cfg0.N) (r : Fin 256) (k : Fin 3584) (R : Fin 4096) (hR : R.val = 256 * (t.val / 40) + r.val) :
    ((cfg0.win 0).blk t).view.emb (ix2 r k) = (ix2 R k : S4096x3584.Idx) := by
  obtain ⟨e0, e1⟩ := idx0 t
  funext a; apply Fin.ext
  match a with
  | ⟨0, _⟩ => show win0_0.index t (0 : Fin 2) * 256 + 1 * r.val = R.val; omega
  | ⟨1, _⟩ => show win0_0.index t (1 : Fin 2) * 3584 + 1 * k.val = k.val; omega
/-- The place in the array of an entry of a block of the per-sample scales. -/
theorem emb1 (t : Fin cfg0.N) (r : Fin 256) (k : Fin 128) (R : Fin 4096) (hR : R.val = 256 * (t.val / 40) + r.val) :
    ((cfg0.win 1).blk t).view.emb (ix2 r k) = (ix2 R k : S4096x128.Idx) := by
  obtain ⟨e0, e1⟩ := idx1 t
  funext a; apply Fin.ext
  match a with
  | ⟨0, _⟩ => show win0_1.index t (0 : Fin 2) * 256 + 1 * r.val = R.val; omega
  | ⟨1, _⟩ => show win0_1.index t (1 : Fin 2) * 128 + 1 * k.val = k.val; omega
/-- The place in the array of an entry of a block of the weights. -/
theorem emb2 (t : Fin cfg0.N) (k : Fin 3584) (j : Fin 512) (J : Fin 12800) (ht : t.val % 40 < 25) (hJ : J.val = 512 * (t.val % 40) + j.val) :
    ((cfg0.win 2).blk t).view.emb (ix2 k j) = (ix2 k J : S3584x12800.Idx) := by
  obtain ⟨e0, e1⟩ := idx2 t
  funext a; apply Fin.ext
  match a with
  | ⟨0, _⟩ => show win0_2.index t (0 : Fin 2) * 3584 + 1 * k.val = k.val; omega
  | ⟨1, _⟩ => show win0_2.index t (1 : Fin 2) * 512 + 1 * j.val = J.val; omega
/-- The place in the array of an entry of a block of the weight scales. -/
theorem emb3 (t : Fin cfg0.N) (j : Fin 512) (J : Fin 12800) (ht : t.val % 40 < 25) (hJ : J.val = 512 * (t.val % 40) + j.val) :
    ((cfg0.win 3).blk t).view.emb (ix2 0 j) = (ix2 0 J : S1x12800.Idx) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 512 + 1 * j.val = J.val; omega
/-- The place in the array of an entry of a block of the biases. -/
theorem emb4 (t : Fin cfg0.N) (j : Fin 512) (J : Fin 12800) (ht : t.val % 40 < 25) (hJ : J.val = 512 * (t.val % 40) + j.val) :
    ((cfg0.win 4).blk t).view.emb (ix2 0 j) = (ix2 0 J : S1x12800.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 512 + 1 * j.val = J.val; omega
/-- The place in the array of an entry of a block of the residual. -/
theorem emb5 (t : Fin cfg0.N) (q : Fin 2) (r : Fin 512) (l : Fin 128) (Q : Fin 32) (n : Fin 40) (hQ : Q.val = 2 * (t.val / 40) + q.val) (hn : n.val = t.val % 40) :
    ((cfg0.win 5).blk t).view.emb (ix4 q 0 r l) = (ix4 Q n r l : S32x40x512x128.Idx) := by
  obtain ⟨e0, e1, e2, e3⟩ := idx5 t
  funext a; apply Fin.ext
  match a with
  | ⟨0, _⟩ => show win0_5.index t (0 : Fin 4) * 2 + 1 * q.val = Q.val; omega
  | ⟨1, _⟩ => show win0_5.index t (1 : Fin 4) * 1 + 1 * 0 = n.val; omega
  | ⟨2, _⟩ => show win0_5.index t (2 : Fin 4) * 512 + 1 * r.val = r.val; omega
  | ⟨3, _⟩ => show win0_5.index t (3 : Fin 4) * 128 + 1 * l.val = l.val; omega
/-- The place in the array of an entry of a block of the gains. -/
theorem emb6 (t : Fin cfg0.N) (r : Fin 512) (l : Fin 128)  :
    ((cfg0.win 6).blk t).view.emb (ix2 r l) = (ix2 r l : S512x128.Idx) := by
  obtain ⟨e0, e1⟩ := idx6 t
  funext a; apply Fin.ext
  match a with
  | ⟨0, _⟩ => show win0_6.index t (0 : Fin 2) * 512 + 1 * r.val = r.val; omega
  | ⟨1, _⟩ => show win0_6.index t (1 : Fin 2) * 128 + 1 * l.val = l.val; omega
/-- The place in the array of an entry of a block of the norm biases. -/
theorem emb7 (t : Fin cfg0.N) (r : Fin 512) (l : Fin 128)  :
    ((cfg0.win 7).blk t).view.emb (ix2 r l) = (ix2 r l : S512x128.Idx) := by
  obtain ⟨e0, e1⟩ := idx7 t
  funext a; apply Fin.ext
  match a with
  | ⟨0, _⟩ => show win0_7.index t (0 : Fin 2) * 512 + 1 * r.val = r.val; omega
  | ⟨1, _⟩ => show win0_7.index t (1 : Fin 2) * 128 + 1 * l.val = l.val; omega
/-- The place in the array of an entry of a block of the result codes. -/
theorem emb8 (t : Fin cfg0.N) (r : Fin 256) (p : Fin 160) (f : Fin 128) (R : Fin 4096) (hR : R.val = 256 * (t.val / 40) + r.val) :
    ((cfg0.win 8).blk t).view.emb (ix3 r p f) = (ix3 R p f : S4096x160x128.Idx) := by
  obtain ⟨e0, e1, e2⟩ := idx8 t
  funext a; apply Fin.ext
  match a with
  | ⟨0, _⟩ => show win0_8.index t (0 : Fin 3) * 256 + 1 * r.val = R.val; omega
  | ⟨1, _⟩ => show win0_8.index t (1 : Fin 3) * 160 + 1 * p.val = p.val; omega
  | ⟨2, _⟩ => show win0_8.index t (2 : Fin 3) * 128 + 1 * f.val = f.val; omega
/-- The place in the array of an entry of a block of the result scales. -/
theorem emb9 (t : Fin cfg0.N) (q : Fin 2) (l : Fin 128) (Q : Fin 32) (hQ : Q.val = 2 * (t.val / 40) + q.val) :
    ((cfg0.win 9).blk t).view.emb (ix3 q 0 l) = (ix3 Q 0 l : S32x1x128.Idx) := by
  obtain ⟨e0, e1, e2⟩ := idx9 t
  funext a; apply Fin.ext
  match a with
  | ⟨0, _⟩ => show win0_9.index t (0 : Fin 3) * 2 + 1 * q.val = Q.val; omega
  | ⟨1, _⟩ => show win0_9.index t (1 : Fin 3) * 1 + 1 * 0 = 0; omega
  | ⟨2, _⟩ => show win0_9.index t (2 : Fin 3) * 128 + 1 * l.val = l.val; omega

/-! ## The operands the host lays out -/

/-- A row index divided by four is a feature. -/
theorem div4 (r : Fin 512) : r.val / 4 < 128 := by omega
/-- A block and a lane make a sample. -/
theorem row4 (Q : Fin 32) (l : Fin 128) : Q.val * 128 + l.val < 4096 := by omega
/-- A step and a row make a token. -/
theorem tok4 (n : Fin 40) (r : Fin 512) : n.val * 4 + r.val % 4 < 160 := by omega

/-- An operand that the host lays out, entry by entry from its argument. -/
theorem V_main_v1 (c : Dev nD) (R : Fin 4096) (l : Fin 128) :
    V m c main_v1 (ix2 R l) = m ((c : Thread nD τ).loc main_arg1) (ix1 R) := by
  unfold V
  after_reads_at
/-- An operand that the host lays out, entry by entry from its argument. -/
theorem V_main_v5 (c : Dev nD) (j : Fin 12800) :
    V m c main_v5 (ix2 0 j) = m ((c : Thread nD τ).loc main_arg3) (ix1 j) := by
  unfold V
  after_reads_at
/-- An operand that the host lays out, entry by entry from its argument. -/
theorem V_main_v6 (c : Dev nD) (j : Fin 12800) :
    V m c main_v6 (ix2 0 j) = m ((c : Thread nD τ).loc main_arg4) (ix1 j) := by
  unfold V
  after_reads_at
/-- An operand that the host lays out, entry by entry from its argument. -/
theorem V_main_v9 (c : Dev nD) (r : Fin 512) (l : Fin 128) (f : Fin 128) (hf : f.val = r.val / 4) :
    V m c main_v9 (ix2 r l) = m ((c : Thread nD τ).loc main_arg6) (ix1 f) := by
  obtain rfl : f = ⟨r.val / 4, div4 r⟩ := Fin.ext hf
  unfold V
  after_reads_at
/-- An operand that the host lays out, entry by entry from its argument. -/
theorem V_main_v12 (c : Dev nD) (r : Fin 512) (l : Fin 128) (f : Fin 128) (hf : f.val = r.val / 4) :
    V m c main_v12 (ix2 r l) = m ((c : Thread nD τ).loc main_arg7) (ix1 f) := by
  obtain rfl : f = ⟨r.val / 4, div4 r⟩ := Fin.ext hf
  unfold V
  after_reads_at
/-- An operand that the host lays out, entry by entry from its argument. -/
theorem V_main_v4 (c : Dev nD) (Q : Fin 32) (n : Fin 40) (r : Fin 512) (l : Fin 128) (R : Fin 4096) (p : Fin 160) (f : Fin 128)
    (hR : R.val = Q.val * 128 + l.val) (hp : p.val = n.val * 4 + r.val % 4) (hf : f.val = r.val / 4) :
    V m c main_v4 (ix4 Q n r l) = m ((c : Thread nD τ).loc main_arg5) (ix3 R p f) := by
  obtain rfl : R = ⟨Q.val * 128 + l.val, row4 Q l⟩ := Fin.ext hR
  obtain rfl : p = ⟨n.val * 4 + r.val % 4, tok4 n r⟩ := Fin.ext hp
  obtain rfl : f = ⟨r.val / 4, div4 r⟩ := Fin.ext hf
  unfold V
  after_reads_at

/-! ## The blocks hold the layer's values -/

/-- The argument arrays. -/
abbrev A0 (c : Dev nD) := m ((c : Thread nD τ).loc main_arg0)
/-- Argument 1. -/
abbrev A1 (c : Dev nD) := m ((c : Thread nD τ).loc main_arg1)
/-- Argument 2. -/
abbrev A2 (c : Dev nD) := m ((c : Thread nD τ).loc main_arg2)
/-- Argument 3. -/
abbrev A3 (c : Dev nD) := m ((c : Thread nD τ).loc main_arg3)
/-- Argument 4. -/
abbrev A4 (c : Dev nD) := m ((c : Thread nD τ).loc main_arg4)
/-- Argument 5. -/
abbrev A5 (c : Dev nD) := m ((c : Thread nD τ).loc main_arg5)
/-- Argument 6. -/
abbrev A6 (c : Dev nD) := m ((c : Thread nD τ).loc main_arg6)
/-- Argument 7. -/
abbrev A7 (c : Dev nD) := m ((c : Thread nD τ).loc main_arg7)

section Blocks
variable (c : Dev nD) (t : Fin cfg0.N)

/-- A block of the codes holds the argument's entries. -/
theorem blk0 (r : Fin 256) (k : Fin 3584) (R : Fin 4096) (hR : R.val = 256 * (t.val / 40) + r.val) : iblk m c 0 t (ix2 r k) = A0 m c (ix2 R k) := by
  show V m c main_arg0 (((cfg0.win 0).blk t).view.emb (ix2 r k)) = _
  rw [emb0 t r k R hR, V_main_arg0]
/-- A block of the per-sample scales holds the argument's entries. -/
theorem blk1 (r : Fin 256) (l : Fin 128) (R : Fin 4096) (hR : R.val = 256 * (t.val / 40) + r.val) : iblk m c 1 t (ix2 r l) = A1 m c (ix1 R) := by
  show V m c main_v1 (((cfg0.win 1).blk t).view.emb (ix2 r l)) = _
  rw [emb1 t r l R hR, V_main_v1]
/-- A block of the weights holds the argument's entries. -/
theorem blk2 (k : Fin 3584) (j : Fin 512) (J : Fin 12800) (ht : t.val % 40 < 25) (hJ : J.val = 512 * (t.val % 40) + j.val) : iblk m c 2 t (ix2 k j) = A2 m c (ix2 k J) := by
  show V m c main_arg2 (((cfg0.win 2).blk t).view.emb (ix2 k j)) = _
  rw [emb2 t k j J ht hJ, V_main_arg2]
/-- A block of the weight scales holds the argument's entries. -/
theorem blk3 (j : Fin 512) (J : Fin 12800) (ht : t.val % 40 < 25) (hJ : J.val = 512 * (t.val % 40) + j.val) : iblk m c 3 t (ix2 0 j) = A3 m c (ix1 J) := by
  show V m c main_v5 (((cfg0.win 3).blk t).view.emb (ix2 0 j)) = _
  rw [emb3 t j J ht hJ, V_main_v5]
/-- A block of the biases holds the argument's entries. -/
theorem blk4 (j : Fin 512) (J : Fin 12800) (ht : t.val % 40 < 25) (hJ : J.val = 512 * (t.val % 40) + j.val) : iblk m c 4 t (ix2 0 j) = A4 m c (ix1 J) := by
  show V m c main_v6 (((cfg0.win 4).blk t).view.emb (ix2 0 j)) = _
  rw [emb4 t j J ht hJ, V_main_v6]
/-- A block of the residual holds the argument's entries. -/
theorem blk5 (q : Fin 2) (r : Fin 512) (l : Fin 128) (R : Fin 4096) (p : Fin 160) (f : Fin 128)
    (hR : R.val = 256 * (t.val / 40) + (128 * q.val + l.val)) (hp : p.val = 4 * (t.val % 40) + r.val % 4) (hf : f.val = r.val / 4) :
    iblk m c 5 t (ix4 q 0 r l) = A5 m c (ix3 R p f) := by
  have hN : t.val < 640 := t.isLt
  have hq := q.isLt
  show V m c main_v4 (((cfg0.win 5).blk t).view.emb (ix4 q 0 r l)) = _
  rw [emb5 t q r l ⟨2 * (t.val / 40) + q.val, by omega⟩ ⟨t.val % 40, Nat.mod_lt _ (by omega)⟩ rfl rfl]
  exact V_main_v4 m c _ _ r l R p f (by dsimp only; omega) (by dsimp only; omega) hf
/-- A block of the gains holds the argument's entries. -/
theorem blk6 (r : Fin 512) (l : Fin 128) (f : Fin 128) (hf : f.val = r.val / 4) : iblk m c 6 t (ix2 r l) = A6 m c (ix1 f) := by
  show V m c main_v9 (((cfg0.win 6).blk t).view.emb (ix2 r l)) = _
  rw [emb6 t r l, V_main_v9 m c r l f hf]
/-- A block of the norm biases holds the argument's entries. -/
theorem blk7 (r : Fin 512) (l : Fin 128) (f : Fin 128) (hf : f.val = r.val / 4) : iblk m c 7 t (ix2 r l) = A7 m c (ix1 f) := by
  show V m c main_v12 (((cfg0.win 7).blk t).view.emb (ix2 r l)) = _
  rw [emb7 t r l, V_main_v12 m c r l f hf]

/-- The value of a row before it is normalised, with its residual. -/
theorem zed_eq (q : Fin 2) (r : Fin 512) (l : Fin 128) (R : Fin 4096) (p : Fin 160) (f : Fin 128)
    (hR : R.val = 256 * (t.val / 40) + (128 * q.val + l.val)) (hp : p.val = 4 * (t.val % 40) + r.val % 4) (hf : f.val = r.val / 4) :
    UP (iblk m c 0 t) (iblk m c 1 t) (iblk m c 2 t) (iblk m c 3 t) (iblk m c 4 t) (t.val % 40) q r l + iblk m c 5 t (ix4 q 0 r l)
      = Cert.Mlp2ReferenceIdeal.Layer.zed (A0 m c) (A1 m c) (A2 m c) (A3 m c) (A4 m c) (A5 m c) R p f := by
  unfold UP Cert.Mlp2ReferenceIdeal.Layer.zed
  rw [blk5 m c t q r l R p f hR hp hf]
  refine congrArg (· + _) ?_
  by_cases h : t.val % 40 < 25
  · have hc : p.val < 100 := by omega
    rw [if_pos h, dif_pos hc]
    unfold PRE Cert.Mlp2ReferenceIdeal.Layer.lin
    have hJ : (⟨p.val * 128 + f.val, by omega⟩ : Fin 12800).val = 512 * (t.val % 40) + (⟨128 * (r.val % 4) + r.val / 4, by omega⟩ : Fin 512).val := by
      dsimp only; omega
    rw [blk1 m c t _ _ R hR, blk3 m c t _ _ h hJ, blk4 m c t _ _ h hJ]
    refine congrArg (fun x => x * _ * _ + _) (Finset.sum_congr rfl fun k _ => ?_)
    rw [blk0 m c t _ k R hR, blk2 m c t k _ _ h hJ]
  · have hc : ¬ p.val < 100 := by omega
    rw [if_neg h, dif_neg hc]

/-- A row's normalised value. -/
theorem val_at (q : Fin 2) (r : Fin 512) (l : Fin 128) (R : Fin 4096) (p : Fin 160) (f : Fin 128)
    (hR : R.val = 256 * (t.val / 40) + (128 * q.val + l.val)) (hp : p.val = 4 * (t.val % 40) + r.val % 4) (hf : f.val = r.val / 4) :
    VAL (iblk m c 0 t) (iblk m c 1 t) (iblk m c 2 t) (iblk m c 3 t) (iblk m c 4 t) (iblk m c 5 t) (iblk m c 6 t) (iblk m c 7 t) (t.val % 40) q r l
      = Cert.Mlp2ReferenceIdeal.Layer.norm (A0 m c) (A1 m c) (A2 m c) (A3 m c) (A4 m c) (A5 m c) (A6 m c) (A7 m c) R p f := by
  have hN : t.val < 640 := t.isLt
  have hn : t.val % 40 < 40 := Nat.mod_lt _ (by omega)
  have hz : ∀ (r : Fin 512) (p : Fin 160) (f : Fin 128), p.val = 4 * (t.val % 40) + r.val % 4 → f.val = r.val / 4 →
      UP (iblk m c 0 t) (iblk m c 1 t) (iblk m c 2 t) (iblk m c 3 t) (iblk m c 4 t) (t.val % 40) q r l + iblk m c 5 t (ix4 q 0 r l)
        = Cert.Mlp2ReferenceIdeal.Layer.zed (A0 m c) (A1 m c) (A2 m c) (A3 m c) (A4 m c) (A5 m c) R p f := fun r p f => zed_eq m c t q r l R p f hR
  unfold VAL
  rw [show (fun r => iblk m c 6 t (ix2 r l)) = fun r : Fin 512 => A6 m c (ix1 ⟨r.val / 4, div4 r⟩) from funext fun r => blk6 m c t r l _ rfl,
    show (fun r => iblk m c 7 t (ix2 r l)) = fun r : Fin 512 => A7 m c (ix1 ⟨r.val / 4, div4 r⟩) from funext fun r => blk7 m c t r l _ rfl]
  obtain ⟨Y, hY⟩ : ∃ Y : Fin 512 → EReal, Y = fun r => UP (iblk m c 0 t) (iblk m c 1 t) (iblk m c 2 t) (iblk m c 3 t) (iblk m c 4 t) (t.val % 40) q r l + iblk m c 5 t (ix4 q 0 r l) := ⟨_, rfl⟩
  rw [← hY]
  replace hz : ∀ (r : Fin 512) (p : Fin 160) (f : Fin 128), p.val = 4 * (t.val % 40) + r.val % 4 → f.val = r.val / 4 → Y r = Cert.Mlp2ReferenceIdeal.Layer.zed (A0 m c) (A1 m c) (A2 m c) (A3 m c) (A4 m c) (A5 m c) R p f :=
    fun r p f hp hf => (congrFun hY r).trans (hz r p f hp hf)
  have hc : ∀ (r : Fin 512) (p : Fin 160) (f : Fin 128), p.val = 4 * (t.val % 40) + r.val % 4 → f.val = r.val / 4 → cen Y r = Cert.Mlp2ReferenceIdeal.Layer.cent (A0 m c) (A1 m c) (A2 m c) (A3 m c) (A4 m c) (A5 m c) R p f := by
    intro r p f hp hf
    unfold cen Cert.Mlp2ReferenceIdeal.Layer.cent tot
    rw [hz r p f hp hf]
    refine congrArg (fun x => _ - meanOf x) (Finset.sum_congr rfl fun g _ => hz _ p g ?_ ?_)
    · dsimp only; omega
    · dsimp only; omega
  unfold lnOf Cert.Mlp2ReferenceIdeal.Layer.norm
  rw [hc r p f hp hf]
  have hv : vare Y (r.val % 4) (mod4 _) = Cert.Mlp2ReferenceIdeal.Layer.vari (A0 m c) (A1 m c) (A2 m c) (A3 m c) (A4 m c) (A5 m c) R p := by
    unfold vare Cert.Mlp2ReferenceIdeal.Layer.vari tot
    refine congrArg (fun x => meanOf x + eps) (Finset.sum_congr rfl fun g _ => ?_)
    dsimp only
    rw [hc _ p g (by dsimp only; omega) (by dsimp only; omega)]
  rw [hv]
  obtain rfl : f = ⟨r.val / 4, div4 r⟩ := Fin.ext hf
  rfl
end Blocks

/-- The value a step writes is the reference's normalised value of its sample, token and feature. -/
theorem val_eq (c : Dev nD) (k n : ℕ) (hk : k < 16) (hn : n < 40) (q : Fin 2) (r : Fin 512) (l : Fin 128) (R : Fin 4096) (p : Fin 160) (f : Fin 128)
    (hR : R.val = 256 * k + (128 * q.val + l.val)) (hp : p.val = 4 * n + r.val % 4) (hf : f.val = r.val / 4) :
    val m c k n q r l = Cert.Mlp2ReferenceIdeal.Layer.norm (A0 m c) (A1 m c) (A2 m c) (A3 m c) (A4 m c) (A5 m c) (A6 m c) (A7 m c) R p f := by
  have h : (pt k n).val = 40 * k + n := by show (40 * k + n) % 640 = _; omega
  have h1 : (pt k n).val / 40 = k := by omega
  have h2 : (pt k n).val % 40 = n := by omega
  have e := val_at m c (pt k n) q r l R p f (by rw [h1]; exact hR) (by rw [h2]; exact hp) hf
  rw [h2] at e
  exact e

/-! ## The maxima -/

/-- An absolute value is not negative. -/
theorem absE_nonneg (x : EReal) : 0 ≤ absE x := by
  unfold absE
  rcases le_total 0 x with h | h
  · exact h.trans (le_max_left _ _)
  · refine le_trans ?_ (le_max_right _ _)
    have := EReal.neg_le_neg_iff.2 h
    rwa [neg_zero] at this

/-- A step raises the running maxima by its values. -/
theorem maxOf_succ (c : Dev nD) (k n : ℕ) (q : Fin 2) (s : Fin 8) (l : Fin 128) : maxOf m c k (n + 1) (ix3 q s l)
    = max (maxOf m c k n (ix3 q s l)) (Finset.univ.sup fun j : Fin 64 => absE (val m c k n q ⟨8 * j.val + s.val, by omega⟩ l)) := by
  refine congrArg (fun x => max x _) ?_
  by_cases h : n = 0
  · subst h; rfl
  · exact if_neg h

/-- A sample's values are bounded by its largest absolute value. -/
theorem le_amax (c : Dev nD) (R : Fin 4096) (p : Fin 160) (f : Fin 128) : absE (Cert.Mlp2ReferenceIdeal.Layer.norm (A0 m c) (A1 m c) (A2 m c) (A3 m c) (A4 m c) (A5 m c) (A6 m c) (A7 m c) R p f) ≤ Cert.Mlp2ReferenceIdeal.Layer.amax (A0 m c) (A1 m c) (A2 m c) (A3 m c) (A4 m c) (A5 m c) (A6 m c) (A7 m c) R := by
  unfold Cert.Mlp2ReferenceIdeal.Layer.amax
  exact Finset.le_sup (b := ((p, f) : Fin 160 × Fin 128)) (f := fun x : Fin 160 × Fin 128 => absE (Cert.Mlp2ReferenceIdeal.Layer.norm (A0 m c) (A1 m c) (A2 m c) (A3 m c) (A4 m c) (A5 m c) (A6 m c) (A7 m c) R x.1 x.2)) (Finset.mem_univ (p, f))

/-- The running maxima are bounded by the sample's largest absolute value, -/
theorem maxOf_le (c : Dev nD) (k : ℕ) (hk : k < 16) (q : Fin 2) (s : Fin 8) (l : Fin 128) (R : Fin 4096) (hR : R.val = 256 * k + (128 * q.val + l.val)) :
    ∀ n, n ≤ 40 → maxOf m c k n (ix3 q s l) ≤ Cert.Mlp2ReferenceIdeal.Layer.amax (A0 m c) (A1 m c) (A2 m c) (A3 m c) (A4 m c) (A5 m c) (A6 m c) (A7 m c) R := by
  intro n
  induction n with
  | zero =>
    intro _
    show (0 : EReal) ≤ _
    exact (absE_nonneg _).trans (le_amax m c R 0 0)
  | succ n ih =>
    intro hn
    rw [maxOf_succ]
    refine max_le (ih (by omega)) (Finset.sup_le fun j _ => ?_)
    rw [val_eq m c k n hk (by omega) q ⟨8 * j.val + s.val, by omega⟩ l R ⟨4 * n + (8 * j.val + s.val) % 4, by omega⟩ ⟨(8 * j.val + s.val) / 4, by omega⟩ hR rfl rfl]
    exact le_amax m c R _ _

/-- and each step's values are bounded by the running maxima after it. -/
theorem le_maxOf (c : Dev nD) (k n : ℕ) (q : Fin 2) (r : Fin 512) (l : Fin 128) :
    ∀ N, n < N → absE (val m c k n q r l) ≤ maxOf m c k N (ix3 q ⟨r.val % 8, Nat.mod_lt _ (by omega)⟩ l) := by
  intro N
  induction N with
  | zero => intro h; exact absurd h (by omega)
  | succ N ih =>
    intro h
    rw [maxOf_succ]
    by_cases e : n = N
    · subst e
      refine le_trans ?_ (le_max_right _ _)
      refine le_trans (le_of_eq ?_) (Finset.le_sup (f := fun j : Fin 64 => absE (val m c k n q ⟨8 * j.val + r.val % 8, by omega⟩ l)) (Finset.mem_univ (⟨r.val / 8, by omega⟩ : Fin 64)))
      exact congrArg (fun r => absE (val m c k n q r l)) (Fin.ext (by show r.val = 8 * (r.val / 8) + r.val % 8; omega))
    · exact (ih (by omega)).trans (le_max_left _ _)

/-- The maxima over a block's steps and rows are the samples'. -/
theorem max_eq (c : Dev nD) (k : ℕ) (hk : k < 16) (q : Fin 2) (l : Fin 128) (R : Fin 4096) (hR : R.val = 256 * k + (128 * q.val + l.val)) :
    (Finset.univ.sup fun s : Fin 8 => maxOf m c k 40 (ix3 q s l)) = Cert.Mlp2ReferenceIdeal.Layer.amax (A0 m c) (A1 m c) (A2 m c) (A3 m c) (A4 m c) (A5 m c) (A6 m c) (A7 m c) R := by
  refine le_antisymm (Finset.sup_le fun s _ => maxOf_le m c k hk q s l R hR 40 le_rfl) (Finset.sup_le fun x _ => ?_)
  obtain ⟨p, f⟩ := x
  have hp := p.isLt
  have e := val_eq m c k (p.val / 4) hk (by omega) q ⟨4 * f.val + p.val % 4, by omega⟩ l R p f hR (by dsimp only; omega) (by dsimp only; omega)
  show absE (Cert.Mlp2ReferenceIdeal.Layer.norm (A0 m c) (A1 m c) (A2 m c) (A3 m c) (A4 m c) (A5 m c) (A6 m c) (A7 m c) R p f) ≤ _
  rw [← e]
  exact (le_maxOf m c k (p.val / 4) q _ l 40 (by omega)).trans (Finset.le_sup (f := fun s : Fin 8 => maxOf m c k 40 (ix3 q s l)) (Finset.mem_univ _))

/-- The scale formed from a block's maxima is the reference's. -/
theorem sc_eq (c : Dev nD) (k : ℕ) (hk : k < 16) (q : Fin 2) (l : Fin 128) (R : Fin 4096) (hR : R.val = 256 * k + (128 * q.val + l.val)) :
    SC (maxOf m c k 40) q l = Cert.Mlp2ReferenceIdeal.Layer.scale (A0 m c) (A1 m c) (A2 m c) (A3 m c) (A4 m c) (A5 m c) (A6 m c) (A7 m c) R := by
  unfold SC Cert.Mlp2ReferenceIdeal.Layer.scale
  rw [max_eq m c k hk q l R hR]

/-! ## The arrays after the run -/

/-- The codes and the scales the reference computes from the arguments. -/
@[irreducible] def G8 (c : Dev nD) : Vec Ideal S4096x160x128 .fp8e4m3 :=
  Cert.Mlp2ReferenceIdeal.Gen.k0_pay3 (Cert.Mlp2ReferenceIdeal.Gen.k0_pay5 (A5 m c) (A0 m c) (A2 m c) (A1 m c) (A3 m c) (A4 m c) (A6 m c)) (A7 m c)
/-- The scales the reference computes from the arguments. -/
@[irreducible] def G9 (c : Dev nD) : Vec Ideal S32x1x128 .f32 :=
  Cert.Mlp2ReferenceIdeal.Gen.k0_pay4 (Cert.Mlp2ReferenceIdeal.Gen.k0_pay5 (A5 m c) (A0 m c) (A2 m c) (A1 m c) (A3 m c) (A4 m c) (A6 m c)) (A7 m c)

/-- The reference's codes, at an index. -/
theorem G8_apply (c : Dev nD) (R : Fin 4096) (p : Fin 160) (f : Fin 128) : G8 m c (ix3 R p f)
    = codeOf (Cert.Mlp2ReferenceIdeal.Layer.norm (A0 m c) (A1 m c) (A2 m c) (A3 m c) (A4 m c) (A5 m c) (A6 m c) (A7 m c) R p f) (Cert.Mlp2ReferenceIdeal.Layer.scale (A0 m c) (A1 m c) (A2 m c) (A3 m c) (A4 m c) (A5 m c) (A6 m c) (A7 m c) R) := by
  unfold G8; exact Cert.Mlp2ReferenceIdeal.Layer.pay3_apply (A0 m c) (A1 m c) (A2 m c) (A3 m c) (A4 m c) (A5 m c) (A6 m c) (A7 m c) R p f
/-- The reference's scales, at an index. -/
theorem G9_apply (c : Dev nD) (q : Fin 32) (l : Fin 128) (R : Fin 4096) (hR : R.val = 128 * q.val + l.val) : G9 m c (ix3 q 0 l)
    = Cert.Mlp2ReferenceIdeal.Layer.scale (A0 m c) (A1 m c) (A2 m c) (A3 m c) (A4 m c) (A5 m c) (A6 m c) (A7 m c) R := by
  unfold G9; exact Cert.Mlp2ReferenceIdeal.Layer.pay4_apply (A0 m c) (A1 m c) (A2 m c) (A3 m c) (A4 m c) (A5 m c) (A6 m c) (A7 m c) q 0 l R hR

/-- A block's codes are the reference's at the block's place. -/
theorem codes_at (c : Dev nD) (k : ℕ) (hk : k < 16) (s : Fin 256) (p : Fin 160) (f : Fin 128) (R : Fin 4096) (hR : R.val = 256 * k + s.val) :
    codes m c k (ix3 s p f) = G8 m c (ix3 R p f) := by
  rw [G8_apply]
  have hs := s.isLt
  have hp := p.isLt
  have hR' : R.val = 256 * k + (128 * (s.val / 128) + s.val % 128) := by omega
  show codeOf (val m c k (p.val / 4) ⟨s.val / 128, _⟩ ⟨4 * f.val + p.val % 4, _⟩ ⟨s.val % 128, _⟩) (SC (maxOf m c k 40) ⟨s.val / 128, _⟩ ⟨s.val % 128, _⟩) = _
  rw [val_eq m c k (p.val / 4) hk (by omega) _ _ _ R p f hR' (by dsimp only; omega) (by dsimp only; omega), sc_eq m c k hk _ _ R hR']

/-- A block's scales are the reference's at the block's place. -/
theorem scales_at (c : Dev nD) (k : ℕ) (hk : k < 16) (q : Fin 2) (l : Fin 128) (Q : Fin 32) (hQ : Q.val = 2 * k + q.val) :
    scales m c k (ix3 q 0 l) = G9 m c (ix3 Q 0 l) := by
  have hq := q.isLt
  have hl := l.isLt
  rw [G9_apply m c Q l ⟨128 * Q.val + l.val, by omega⟩ rfl]
  exact sc_eq m c k hk q l _ (by dsimp only; omega)

/-- A block that holds, index by index, what an array holds at the block's place is the array read through the block. -/
theorem block8 (t : Fin cfg0.N) (X : Vec Ideal S256x160x128 .fp8e4m3) (G : Vec Ideal S4096x160x128 .fp8e4m3)
    (h : ∀ y : S256x160x128.Idx, X y = G (((cfg0.win 8).blk t).view.emb y)) :
    (cfg0.win 8).cut (grid0.coords t) X = ((cfg0.win 8).blk t).view.read (Elt Ideal) G := funext fun y => h y
/-- The same for the scales' window. -/
theorem block9 (t : Fin cfg0.N) (X : Vec Ideal S2x1x128 .f32) (G : Vec Ideal S32x1x128 .f32)
    (h : ∀ y : S2x1x128.Idx, X y = G (((cfg0.win 9).blk t).view.emb y)) :
    (cfg0.win 9).cut (grid0.coords t) X = ((cfg0.win 9).blk t).view.read (Elt Ideal) G := funext fun y => h y

/-- The block of codes written back is the reference's array read through the block. -/
theorem codes_block (c : Dev nD) (t : Fin cfg0.N) :
    (cfg0.win 8).cut (grid0.coords t) (codes m c (t.val / 40)) = ((cfg0.win 8).blk t).view.read (Elt Ideal) (G8 m c) := by
  refine block8 t _ _ fun y => ?_
  obtain ⟨s, p, f, rfl⟩ : ∃ (s : Fin 256) (p : Fin 160) (f : Fin 128), y = ix3 s p f :=
    ⟨y 0, y 1, y 2, by funext a; match a with | ⟨0, _⟩ => rfl | ⟨1, _⟩ => rfl | ⟨2, _⟩ => rfl⟩
  have hN : t.val < 640 := t.isLt
  have hs := s.isLt
  rw [emb8 t s p f ⟨256 * (t.val / 40) + s.val, by omega⟩ rfl]
  exact codes_at m c (t.val / 40) (by omega) s p f _ rfl
/-- The block of scales written back is the reference's array read through the block. -/
theorem scales_block (c : Dev nD) (t : Fin cfg0.N) :
    (cfg0.win 9).cut (grid0.coords t) (scales m c (t.val / 40)) = ((cfg0.win 9).blk t).view.read (Elt Ideal) (G9 m c) := by
  refine block9 t _ _ fun y => ?_
  obtain ⟨q, u, l, rfl⟩ : ∃ (q : Fin 2) (u : Fin 1) (l : Fin 128), y = ix3 q u l :=
    ⟨y 0, y 1, y 2, by funext a; match a with | ⟨0, _⟩ => rfl | ⟨1, _⟩ => rfl | ⟨2, _⟩ => rfl⟩
  obtain rfl : u = 0 := Subsingleton.elim _ _
  have hN : t.val < 640 := t.isLt
  have hq := q.isLt
  rw [emb9 t q l ⟨2 * (t.val / 40) + q.val, by omega⟩ rfl]
  exact scales_at m c (t.val / 40) (by omega) q l _ rfl

/-- The last point of the block that holds sample `R`. -/
def lastOf (R : ℕ) (h : R < 4096) : Fin cfg0.N := ⟨40 * (R / 256) + 39, by show 40 * (R / 256) + 39 < 640; omega⟩

/-- The block of that point. -/
theorem lastOf_div (R : ℕ) (h : R < 4096) : (lastOf R h).val / 40 = R / 256 := by show (40 * (R / 256) + 39) / 40 = _; omega
/-- It is the last of its block. -/
theorem lastOf_mod (R : ℕ) (h : R < 4096) : (lastOf R h).val % 40 = 39 := by show (40 * (R / 256) + 39) % 40 = _; omega

/-- Every entry of the result codes lies in a block that is written back. -/
theorem covered8 (i : S4096x160x128.Idx) : ∃ t : Fin cfg0.N, (cfg0.win 8).flush t = true ∧ i ∈ ((cfg0.win 8).blk t).view.set := by
  obtain ⟨R, p, f, rfl⟩ : ∃ (R : Fin 4096) (p : Fin 160) (f : Fin 128), i = ix3 R p f :=
    ⟨i 0, i 1, i 2, by funext a; match a with | ⟨0, _⟩ => rfl | ⟨1, _⟩ => rfl | ⟨2, _⟩ => rfl⟩
  refine ⟨lastOf R.val R.isLt, (flush0_8 _).mpr (lastOf_mod _ _), ?_⟩
  have h := ((cfg0.win 8).blk (lastOf R.val R.isLt)).view.emb_mem_set (ix3 ⟨R.val % 256, Nat.mod_lt _ (by omega)⟩ p f)
  rwa [emb8 _ _ p f R (by rw [lastOf_div]; dsimp only; omega)] at h
/-- Every entry of the result scales lies in a block that is written back. -/
theorem covered9 (i : S32x1x128.Idx) : ∃ t : Fin cfg0.N, (cfg0.win 9).flush t = true ∧ i ∈ ((cfg0.win 9).blk t).view.set := by
  obtain ⟨Q, u, l, rfl⟩ : ∃ (Q : Fin 32) (u : Fin 1) (l : Fin 128), i = ix3 Q u l :=
    ⟨i 0, i 1, i 2, by funext a; match a with | ⟨0, _⟩ => rfl | ⟨1, _⟩ => rfl | ⟨2, _⟩ => rfl⟩
  obtain rfl : u = 0 := Subsingleton.elim _ _
  have hQ := Q.isLt
  refine ⟨lastOf (128 * Q.val) (by omega), (flush0_9 _).mpr (lastOf_mod _ _), ?_⟩
  have h := ((cfg0.win 9).blk (lastOf (128 * Q.val) (by omega))).view.emb_mem_set (ix3 ⟨Q.val % 2, Nat.mod_lt _ (by omega)⟩ 0 l)
  rwa [emb9 _ _ l Q (by rw [lastOf_div]; dsimp only; omega)] at h

/-! The arrays after the run are the reference's. -/

/-- After the run the array of the result codes is the reference's. -/
theorem final8 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 8 cfg0.N = G8 m c := by
  refine ((rdat m c).withAfter after).arrAt_eq_of_cover 8 (G8 m c) (fun t hf => ?_) covered8
  obtain ⟨Y, -, ha⟩ := hL 8 t hf
  show (cfg0.win 8).cut (grid0.coords t) (after 8 t) = _
  rw [show after 8 t = codes m c (t.val / 40) from ha ((flush0_8 t).mp hf)]
  exact codes_block m c t

/-- After the run the array of the result scales is the reference's. -/
theorem final9 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 9 cfg0.N = G9 m c := by
  refine ((rdat m c).withAfter after).arrAt_eq_of_cover 9 (G9 m c) (fun t hf => ?_) covered9
  obtain ⟨Y, -, ha⟩ := hL 9 t hf
  show (cfg0.win 9).cut (grid0.coords t) (after 9 t) = _
  rw [show after 9 t = scales m c (t.val / 40) from ha ((flush0_9 t).mp hf)]
  exact scales_block m c t

/-- Both result arrays after the run are the reference's. -/
theorem final (c : Dev nD) (r : PUnit × MemSt nD τ sig (Elt Ideal)) (h : Pipeline.RDat.FramePost (cfgs 0) (rdat m) (V m) r) :
    r.2.mem ((c : Thread nD τ).loc main_v13_0) = G8 m c ∧ r.2.mem ((c : Thread nD τ).loc main_v13_1) = G9 m c := by
  haveI : ∀ e, Nonempty (Elt Ideal e) := inferInstance
  obtain ⟨after, hL, hA⟩ := h.exists_exact c
  exact ⟨(hA 8).trans (final8 m c after hL), (hA 9).trans (final9 m c after hL)⟩

/-- The kernel runs, its results are the reference's functions of the arguments, and its arguments end unchanged. -/
theorem run : θ_run defs (onTc (τ := τ) (main (F := Ideal))) ⟨m, fun _ => 0, ρ⟩ fun r => ∀ c : Dev nD,
      r.2.mem ((c : Thread nD τ).loc main_v13_0) = G8 m c
      ∧ r.2.mem ((c : Thread nD τ).loc main_v13_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(final m c r h.1).1, (final m c r h.1).2, h.2 c⟩)
    (θ_run_and (run_main m ρ) (unchanged m ρ))

end Cert.Mlp2Ideal.Run

end
-- ==== Proof.lean ====
module

public import proofs.«01_k».proof.Defs
public import proofs.«01_k».proof.Proof.Gen.Mlp1
public import proofs.«01_k».proof.Proof.Gen.Mlp1.Skeleton
public import proofs.«01_k».proof.Proof.Gen.Mlp1.Loops
public import proofs.«01_k».proof.Proof.Gen.Mlp1.Launch
public import proofs.«01_k».proof.Proof.Gen.Mlp1.Points
public import proofs.«01_k».proof.Proof.Gen.Mlp1Ideal
public import proofs.«01_k».proof.Proof.Gen.Mlp1Ideal.Skeleton
public import proofs.«01_k».proof.Proof.Gen.Mlp1Ideal.Loops
public import proofs.«01_k».proof.Proof.Gen.Mlp1Ideal.Launch
public import proofs.«01_k».proof.Proof.Gen.Mlp1Ideal.Points
public import proofs.«01_k».proof.Proof.Gen.Mlp1ReferenceIdeal
public import proofs.«01_k».proof.Proof.Gen.Mlp1ReferenceIdeal.Skeleton
public import proofs.«01_k».proof.Proof.Gen.Mlp1ReferenceIdeal.Launch
public import proofs.«01_k».proof.Proof.Gen.Mlp1ReferenceIdeal.Points
public import proofs.«01_k».proof.Proof.Gen.Mlp1ReferenceIdeal.Frame
public import proofs.«01_k».proof.Proof.Gen.Mlp1ReferenceIdeal.Value
public import proofs.«01_k».proof.Proof.Mlp1Frame
public import proofs.«01_k».proof.Proof.Mlp1Arrays
public import Idealize.ShloMosaic.Adequacy
public import Idealize.ShloMosaic.Init
public import proofs.«01_k».proof.Proof.Gen.Mlp2
public import proofs.«01_k».proof.Proof.Gen.Mlp2.Launch
public import proofs.«01_k».proof.Proof.Gen.Mlp2.Loops
public import proofs.«01_k».proof.Proof.Gen.Mlp2.Points
public import proofs.«01_k».proof.Proof.Gen.Mlp2.Skeleton
public import proofs.«01_k».proof.Proof.Gen.Mlp2Ideal
public import proofs.«01_k».proof.Proof.Gen.Mlp2Ideal.Launch
public import proofs.«01_k».proof.Proof.Gen.Mlp2Ideal.Loops
public import proofs.«01_k».proof.Proof.Gen.Mlp2Ideal.Points
public import proofs.«01_k».proof.Proof.Gen.Mlp2Ideal.Skeleton
public import proofs.«01_k».proof.Proof.Gen.Mlp2ReferenceIdeal
public import proofs.«01_k».proof.Proof.Gen.Mlp2ReferenceIdeal.Frame
public import proofs.«01_k».proof.Proof.Gen.Mlp2ReferenceIdeal.Launch
public import proofs.«01_k».proof.Proof.Gen.Mlp2ReferenceIdeal.Points
public import proofs.«01_k».proof.Proof.Gen.Mlp2ReferenceIdeal.Skeleton
public import proofs.«01_k».proof.Proof.Gen.Mlp2ReferenceIdeal.Value
public import proofs.«01_k».proof.Proof.Gen.Mlp2.Frame
public import proofs.«01_k».proof.Proof.Gen.Mlp2Ideal.Frame
public import proofs.«01_k».proof.Proof.Mlp2Frame
public import proofs.«01_k».proof.Proof.Mlp2Arrays

@[expose] public section

noncomputable section

namespace Cert.Proof

open Idealize.ShloMosaic Idealize.SL.Sem Cert.Mlp1

/-- The second reference loads each of its argument arrays whole. -/
theorem loads (a0 : Vec Ideal Cert.Mlp2ReferenceIdeal.S4096x3584 .fp8e4m3) (a1 : Vec Ideal Cert.Mlp2ReferenceIdeal.S4096 .f32) (a2 : Vec Ideal Cert.Mlp2ReferenceIdeal.S3584x12800 .fp8e4m3)
    (a3 a4 : Vec Ideal Cert.Mlp2ReferenceIdeal.S12800 .f32) (a5 : Vec Ideal Cert.Mlp2ReferenceIdeal.S4096x160x128 .f32) (a6 a7 : Vec Ideal Cert.Mlp2ReferenceIdeal.S128 .f32) :
    Cert.Mlp2ReferenceIdeal.Gen.k0_pay6 (F := Ideal) a0 a1 a2 a3 a4 a5 a6 a7 = Cert.Mlp2ReferenceIdeal.Gen.k0_pay5 a5 a0 a2 a1 a3 a4 a6 := by
  unfold Cert.Mlp2ReferenceIdeal.Gen.k0_pay6
  rw [View.ld_unit_zero (S := Cert.Mlp2ReferenceIdeal.S4096x160x128) Cert.Mlp2ReferenceIdeal.Value.hz5 _ a5, View.ld_unit_zero (S := Cert.Mlp2ReferenceIdeal.S4096x3584) Cert.Mlp2ReferenceIdeal.Value.hz0 _ a0,
    View.ld_unit_zero (S := Cert.Mlp2ReferenceIdeal.S3584x12800) Cert.Mlp2ReferenceIdeal.Value.hz2 _ a2, View.ld_unit_zero (S := Cert.Mlp2ReferenceIdeal.S4096) Cert.Mlp2ReferenceIdeal.Value.hz1 _ a1,
    View.ld_unit_zero (S := Cert.Mlp2ReferenceIdeal.S12800) Cert.Mlp2ReferenceIdeal.Value.hz3 _ a3, View.ld_unit_zero (S := Cert.Mlp2ReferenceIdeal.S12800) Cert.Mlp2ReferenceIdeal.Value.hz3 _ a4,
    View.ld_unit_zero (S := Cert.Mlp2ReferenceIdeal.S128) Cert.Mlp2ReferenceIdeal.Value.hz6 _ a6]

/-- Each program runs, keeps its arguments and ends quiescent. The kernels' results over the extended reals are their
    references'. -/
theorem claim : Cert.Claim := ⟨Cert.Mlp1.Gen.facts, Cert.Mlp1Ideal.Gen.facts, Cert.Mlp1ReferenceIdeal.Gen.facts,
  Cert.Mlp2.Gen.facts, Cert.Mlp2Ideal.Gen.facts, Cert.Mlp2ReferenceIdeal.Gen.facts,
  fun m ρ _ => Cert.Mlp1.Run.frame m ρ,
  fun m ρ _ => Cert.Mlp1Ideal.Run.frame m ρ,
  fun m ρ _ => Cert.Mlp1ReferenceIdeal.Gen.frame m ρ,
  fun m ρ _ => Cert.Mlp2.Run.frame m ρ,
  fun m ρ _ => Cert.Mlp2Ideal.Run.frame m ρ,
  fun m ρ _ => Cert.Mlp2ReferenceIdeal.Gen.frame m ρ,
  trivial,
  fun m ρ m' ρ' _ h => ⟨fun c => Cert.Mlp1Ideal.Run.G5 m c, fun c => Cert.Mlp1Ideal.Run.G6 m c, fun c => Cert.Mlp1Ideal.Run.G7 m c,
    Cert.Mlp1Ideal.Run.run m ρ,
    (θ_run _ _ _).mono (fun r hr c => by
      obtain ⟨e0, e1, e2, e3, e4⟩ := h c
      obtain ⟨h5, h6, h7, hk⟩ := hr c
      refine ⟨h5.trans ?_, h6.trans ?_, h7.trans ?_, hk⟩
      · rw [e0, e1, e2, e3, e4]; unfold Cert.Mlp1Ideal.Run.G5; rfl
      · rw [e0, e1, e2, e3, e4]; unfold Cert.Mlp1Ideal.Run.G6; rfl
      · rw [e0, e1, e2, e3, e4]; unfold Cert.Mlp1Ideal.Run.G7; rfl) (Cert.Mlp1ReferenceIdeal.Value.run m' ρ')⟩,
  trivial,
  fun m ρ m' ρ' _ h => ⟨fun c => Cert.Mlp2Ideal.Run.G8 m c, fun c => Cert.Mlp2Ideal.Run.G9 m c,
    Cert.Mlp2Ideal.Run.run m ρ,
    (θ_run _ _ _).mono (fun r hr c => by
      obtain ⟨e0, e1, e2, e3, e4, e5, e6, e7⟩ := h c
      obtain ⟨h8, h9, hk⟩ := hr c
      refine ⟨h8.trans ?_, h9.trans ?_, hk⟩
      · rw [Cert.Mlp2ReferenceIdeal.Value.G8, loads, e0, e1, e2, e3, e4, e5, e6, e7]; unfold Cert.Mlp2Ideal.Run.G8; rfl
      · rw [Cert.Mlp2ReferenceIdeal.Value.G9, loads, e0, e1, e2, e3, e4, e5, e6, e7]; unfold Cert.Mlp2Ideal.Run.G9; rfl) (Cert.Mlp2ReferenceIdeal.Value.run m' ρ')⟩⟩

end Cert.Proof

end
